-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_MixSIdeal_finite_pool [hPre_finite_pool : Cert.Pre_finite_pool.Facts] (m : (ℓ : Loc Cert.MixSIdeal.nD Cert.MixSIdeal.τ Cert.MixSIdeal.sig) → Buf (Elt Ideal) ℓ) : Prop :=
  ∀ c : Dev Cert.MixSIdeal.nD,
    (Cert.Pre_finite_pool.fn (F := Ideal) (m ((c.tc : Thread Cert.MixSIdeal.nD Cert.MixSIdeal.τ).loc Cert.MixSIdeal.main_arg0)) (m ((c.tc : Thread Cert.MixSIdeal.nD Cert.MixSIdeal.τ).loc Cert.MixSIdeal.main_arg1)) (m ((c.tc : Thread Cert.MixSIdeal.nD Cert.MixSIdeal.τ).loc Cert.MixSIdeal.main_arg2)) (m ((c.tc : Thread Cert.MixSIdeal.nD Cert.MixSIdeal.τ).loc Cert.MixSIdeal.main_arg3)) (m ((c.tc : Thread Cert.MixSIdeal.nD Cert.MixSIdeal.τ).loc Cert.MixSIdeal.main_arg4)) (m ((c.tc : Thread Cert.MixSIdeal.nD Cert.MixSIdeal.τ).loc Cert.MixSIdeal.main_arg5)) (m ((c.tc : Thread Cert.MixSIdeal.nD Cert.MixSIdeal.τ).loc Cert.MixSIdeal.main_arg6)) (m ((c.tc : Thread Cert.MixSIdeal.nD Cert.MixSIdeal.τ).loc Cert.MixSIdeal.main_arg7))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_pool [hPre_finite_pool : Cert.Pre_finite_pool.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_pool.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1)
      ∧ r.2.mem ((c.tc : Thread Cert.InP.nD Cert.InP.τ).loc Cert.InP.main_arg2) = m ((c.tc : Thread Cert.InP.nD Cert.InP.τ).loc Cert.InP.main_arg2)
      ∧ r.2.mem ((c.tc : Thread Cert.InP.nD Cert.InP.τ).loc Cert.InP.main_arg3) = m ((c.tc : Thread Cert.InP.nD Cert.InP.τ).loc Cert.InP.main_arg3)
      ∧ r.2.mem ((c.tc : Thread Cert.InP.nD Cert.InP.τ).loc Cert.InP.main_arg4) = m ((c.tc : Thread Cert.InP.nD Cert.InP.τ).loc Cert.InP.main_arg4)
      ∧ r.2.mem ((c.tc : Thread Cert.InP.nD Cert.InP.τ).loc Cert.InP.main_arg5) = m ((c.tc : Thread Cert.InP.nD Cert.InP.τ).loc Cert.InP.main_arg5)
      ∧ r.2.mem ((c.tc : Thread Cert.InP.nD Cert.InP.τ).loc Cert.InP.main_arg6) = m ((c.tc : Thread Cert.InP.nD Cert.InP.τ).loc Cert.InP.main_arg6))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
      ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
      ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
      ∧ r.2.mem ((c.tc : Thread Cert.InPIdeal.nD Cert.InPIdeal.τ).loc Cert.InPIdeal.main_arg4) = m ((c.tc : Thread Cert.InPIdeal.nD Cert.InPIdeal.τ).loc Cert.InPIdeal.main_arg4)
      ∧ r.2.mem ((c.tc : Thread Cert.InPIdeal.nD Cert.InPIdeal.τ).loc Cert.InPIdeal.main_arg5) = m ((c.tc : Thread Cert.InPIdeal.nD Cert.InPIdeal.τ).loc Cert.InPIdeal.main_arg5)
      ∧ r.2.mem ((c.tc : Thread Cert.InPIdeal.nD Cert.InPIdeal.τ).loc Cert.InPIdeal.main_arg6) = m ((c.tc : Thread Cert.InPIdeal.nD Cert.InPIdeal.τ).loc Cert.InPIdeal.main_arg6))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2)
      ∧ r.2.mem ((c.tc : Thread Cert.MixS.nD Cert.MixS.τ).loc Cert.MixS.main_arg3) = m ((c.tc : Thread Cert.MixS.nD Cert.MixS.τ).loc Cert.MixS.main_arg3)
      ∧ r.2.mem ((c.tc : Thread Cert.MixS.nD Cert.MixS.τ).loc Cert.MixS.main_arg4) = m ((c.tc : Thread Cert.MixS.nD Cert.MixS.τ).loc Cert.MixS.main_arg4)
      ∧ r.2.mem ((c.tc : Thread Cert.MixS.nD Cert.MixS.τ).loc Cert.MixS.main_arg5) = m ((c.tc : Thread Cert.MixS.nD Cert.MixS.τ).loc Cert.MixS.main_arg5)
      ∧ r.2.mem ((c.tc : Thread Cert.MixS.nD Cert.MixS.τ).loc Cert.MixS.main_arg6) = m ((c.tc : Thread Cert.MixS.nD Cert.MixS.τ).loc Cert.MixS.main_arg6)
      ∧ r.2.mem ((c.tc : Thread Cert.MixS.nD Cert.MixS.τ).loc Cert.MixS.main_arg7) = m ((c.tc : Thread Cert.MixS.nD Cert.MixS.τ).loc Cert.MixS.main_arg7))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
      ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
      ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7))
      ∧ r.2.sem = fun _ => 0)

def quiescent_MixSIdeal_pre_finite_pool [hMixSIdeal : Cert.MixSIdeal.Facts] [hPre_finite_pool : Cert.Pre_finite_pool.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal_finite_pool m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
      ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
      ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_MixRefIdeal_pre_finite_pool [hMixRefIdeal : Cert.MixRefIdeal.Facts] [hPre_finite_pool : Cert.Pre_finite_pool.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_pool m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v186) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_v187) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v30) = v0 c
          ∧ r.2.mem ((c.tc : Thread Cert.MlpRefIdeal.nD Cert.MlpRefIdeal.τ).loc Cert.MlpRefIdeal.main_v59) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_InP_InPIdeal : Prop :=
  True

def algebraic_InPIdeal_InRefIdeal [hInPIdeal : Cert.InPIdeal.Facts] [hInRefIdeal : Cert.InRefIdeal.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InRefIdeal.nD Cert.InRefIdeal.τ Cert.InRefIdeal.sig) → Buf (Elt Ideal) ℓ) (g' : Dev Cert.InRefIdeal.nD → PrngReg), Pre_InPIdeal m →
    (∀ c : Dev Cert.InPIdeal.nD,
      m' ((c.tc : Thread Cert.InRefIdeal.nD Cert.InRefIdeal.τ).loc Cert.InRefIdeal.main_arg0) = m ((c.tc : Thread Cert.InPIdeal.nD Cert.InPIdeal.τ).loc Cert.InPIdeal.main_arg0)
      ∧ m' ((c.tc : Thread Cert.InRefIdeal.nD Cert.InRefIdeal.τ).loc Cert.InRefIdeal.main_arg1) = m ((c.tc : Thread Cert.InPIdeal.nD Cert.InPIdeal.τ).loc Cert.InPIdeal.main_arg1)
      ∧ m' ((c.tc : Thread Cert.InRefIdeal.nD Cert.InRefIdeal.τ).loc Cert.InRefIdeal.main_arg2) = m ((c.tc : Thread Cert.InPIdeal.nD Cert.InPIdeal.τ).loc Cert.InPIdeal.main_arg2)
      ∧ m' ((c.tc : Thread Cert.InRefIdeal.nD Cert.InRefIdeal.τ).loc Cert.InRefIdeal.main_arg3) = m ((c.tc : Thread Cert.InPIdeal.nD Cert.InPIdeal.τ).loc Cert.InPIdeal.main_arg3)
      ∧ m' ((c.tc : Thread Cert.InRefIdeal.nD Cert.InRefIdeal.τ).loc Cert.InRefIdeal.main_arg4) = m ((c.tc : Thread Cert.InPIdeal.nD Cert.InPIdeal.τ).loc Cert.InPIdeal.main_arg4)
      ∧ m' ((c.tc : Thread Cert.InRefIdeal.nD Cert.InRefIdeal.τ).loc Cert.InRefIdeal.main_arg5) = m ((c.tc : Thread Cert.InPIdeal.nD Cert.InPIdeal.τ).loc Cert.InPIdeal.main_arg5)
      ∧ m' ((c.tc : Thread Cert.InRefIdeal.nD Cert.InRefIdeal.τ).loc Cert.InRefIdeal.main_arg6) = m ((c.tc : Thread Cert.InPIdeal.nD Cert.InPIdeal.τ).loc Cert.InPIdeal.main_arg6)) →
    ∃ (v0 : (c : Dev Cert.InPIdeal.nD) → Buf (Elt Ideal) ((c.tc : Thread Cert.InPIdeal.nD Cert.InPIdeal.τ).loc Cert.InPIdeal.main_v4_0)) (v1 : (c : Dev Cert.InPIdeal.nD) → Buf (Elt Ideal) ((c.tc : Thread Cert.InPIdeal.nD Cert.InPIdeal.τ).loc Cert.InPIdeal.main_v4_1)) (v2 : (c : Dev Cert.InPIdeal.nD) → Buf (Elt Ideal) ((c.tc : Thread Cert.InPIdeal.nD Cert.InPIdeal.τ).loc Cert.InPIdeal.main_v5)) (v3 : (c : Dev Cert.InPIdeal.nD) → Buf (Elt Ideal) ((c.tc : Thread Cert.InPIdeal.nD Cert.InPIdeal.τ).loc Cert.InPIdeal.main_v7)) (v4 : (c : Dev Cert.InPIdeal.nD) → Buf (Elt Ideal) ((c.tc : Thread Cert.InPIdeal.nD Cert.InPIdeal.τ).loc Cert.InPIdeal.main_v9)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v4_0) = v0 c
          ∧ r.2.mem ((c.tc : Thread Cert.InPIdeal.nD Cert.InPIdeal.τ).loc Cert.InPIdeal.main_v4_1) = v1 c
          ∧ r.2.mem ((c.tc : Thread Cert.InPIdeal.nD Cert.InPIdeal.τ).loc Cert.InPIdeal.main_v5) = v2 c
          ∧ r.2.mem ((c.tc : Thread Cert.InPIdeal.nD Cert.InPIdeal.τ).loc Cert.InPIdeal.main_v7) = v3 c
          ∧ r.2.mem ((c.tc : Thread Cert.InPIdeal.nD Cert.InPIdeal.τ).loc Cert.InPIdeal.main_v9) = v4 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1)
          ∧ r.2.mem ((c.tc : Thread Cert.InPIdeal.nD Cert.InPIdeal.τ).loc Cert.InPIdeal.main_arg2) = m ((c.tc : Thread Cert.InPIdeal.nD Cert.InPIdeal.τ).loc Cert.InPIdeal.main_arg2)
          ∧ r.2.mem ((c.tc : Thread Cert.InPIdeal.nD Cert.InPIdeal.τ).loc Cert.InPIdeal.main_arg3) = m ((c.tc : Thread Cert.InPIdeal.nD Cert.InPIdeal.τ).loc Cert.InPIdeal.main_arg3)
          ∧ r.2.mem ((c.tc : Thread Cert.InPIdeal.nD Cert.InPIdeal.τ).loc Cert.InPIdeal.main_arg4) = m ((c.tc : Thread Cert.InPIdeal.nD Cert.InPIdeal.τ).loc Cert.InPIdeal.main_arg4)
          ∧ r.2.mem ((c.tc : Thread Cert.InPIdeal.nD Cert.InPIdeal.τ).loc Cert.InPIdeal.main_arg5) = m ((c.tc : Thread Cert.InPIdeal.nD Cert.InPIdeal.τ).loc Cert.InPIdeal.main_arg5)
          ∧ r.2.mem ((c.tc : Thread Cert.InPIdeal.nD Cert.InPIdeal.τ).loc Cert.InPIdeal.main_arg6) = m ((c.tc : Thread Cert.InPIdeal.nD Cert.InPIdeal.τ).loc Cert.InPIdeal.main_arg6))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v13) = v0 c
          ∧ r.2.mem ((c.tc : Thread Cert.InRefIdeal.nD Cert.InRefIdeal.τ).loc Cert.InRefIdeal.main_v15) = v1 c
          ∧ r.2.mem ((c.tc : Thread Cert.InRefIdeal.nD Cert.InRefIdeal.τ).loc Cert.InRefIdeal.main_v39) = v2 c
          ∧ r.2.mem ((c.tc : Thread Cert.InRefIdeal.nD Cert.InRefIdeal.τ).loc Cert.InRefIdeal.main_v36) = v3 c
          ∧ r.2.mem ((c.tc : Thread Cert.InRefIdeal.nD Cert.InRefIdeal.τ).loc Cert.InRefIdeal.main_v38) = v4 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6))

def preserves_MixS_MixSIdeal : Prop :=
  True

def algebraic_MixSIdeal_MixRefIdeal_pre_finite_pool [hMixSIdeal : Cert.MixSIdeal.Facts] [hMixRefIdeal : Cert.MixRefIdeal.Facts] [hPre_finite_pool : Cert.Pre_finite_pool.Facts] : Prop :=
  ∀ (m : (ℓ : Loc Cert.MixSIdeal.nD Cert.MixSIdeal.τ Cert.MixSIdeal.sig) → Buf (Elt Ideal) ℓ) (g : Dev Cert.MixSIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixSIdeal_finite_pool m →
    (∀ c : Dev Cert.MixSIdeal.nD,
      m' ((c.tc : Thread Cert.MixRefIdeal.nD Cert.MixRefIdeal.τ).loc Cert.MixRefIdeal.main_arg0) = m ((c.tc : Thread Cert.MixSIdeal.nD Cert.MixSIdeal.τ).loc Cert.MixSIdeal.main_arg0)
      ∧ m' ((c.tc : Thread Cert.MixRefIdeal.nD Cert.MixRefIdeal.τ).loc Cert.MixRefIdeal.main_arg1) = m ((c.tc : Thread Cert.MixSIdeal.nD Cert.MixSIdeal.τ).loc Cert.MixSIdeal.main_arg1)
      ∧ m' ((c.tc : Thread Cert.MixRefIdeal.nD Cert.MixRefIdeal.τ).loc Cert.MixRefIdeal.main_arg2) = m ((c.tc : Thread Cert.MixSIdeal.nD Cert.MixSIdeal.τ).loc Cert.MixSIdeal.main_arg2)
      ∧ m' ((c.tc : Thread Cert.MixRefIdeal.nD Cert.MixRefIdeal.τ).loc Cert.MixRefIdeal.main_arg3) = m ((c.tc : Thread Cert.MixSIdeal.nD Cert.MixSIdeal.τ).loc Cert.MixSIdeal.main_arg3)
      ∧ m' ((c.tc : Thread Cert.MixRefIdeal.nD Cert.MixRefIdeal.τ).loc Cert.MixRefIdeal.main_arg4) = m ((c.tc : Thread Cert.MixSIdeal.nD Cert.MixSIdeal.τ).loc Cert.MixSIdeal.main_arg4)
      ∧ m' ((c.tc : Thread Cert.MixRefIdeal.nD Cert.MixRefIdeal.τ).loc Cert.MixRefIdeal.main_arg5) = m ((c.tc : Thread Cert.MixSIdeal.nD Cert.MixSIdeal.τ).loc Cert.MixSIdeal.main_arg5)
      ∧ m' ((c.tc : Thread Cert.MixRefIdeal.nD Cert.MixRefIdeal.τ).loc Cert.MixRefIdeal.main_arg6) = m ((c.tc : Thread Cert.MixSIdeal.nD Cert.MixSIdeal.τ).loc Cert.MixSIdeal.main_arg6)
      ∧ m' ((c.tc : Thread Cert.MixRefIdeal.nD Cert.MixRefIdeal.τ).loc Cert.MixRefIdeal.main_arg7) = m ((c.tc : Thread Cert.MixSIdeal.nD Cert.MixSIdeal.τ).loc Cert.MixSIdeal.main_arg7)) →
    ∃ (v0 : (c : Dev Cert.MixSIdeal.nD) → Buf (Elt Ideal) ((c.tc : Thread Cert.MixSIdeal.nD Cert.MixSIdeal.τ).loc Cert.MixSIdeal.main_v1_0)) (v1 : (c : Dev Cert.MixSIdeal.nD) → Buf (Elt Ideal) ((c.tc : Thread Cert.MixSIdeal.nD Cert.MixSIdeal.τ).loc Cert.MixSIdeal.main_v1_1)),
      θ_run (Cert.MixSIdeal.defs (F := Ideal)) (onTc (τ := Cert.MixSIdeal.τ) (Cert.MixSIdeal.main (F := Ideal))) ⟨m, fun _ => 0, g⟩ (fun r => ∀ c : Dev Cert.MixSIdeal.nD,
          r.2.mem ((c.tc : Thread Cert.MixSIdeal.nD Cert.MixSIdeal.τ).loc Cert.MixSIdeal.main_v1_0) = v0 c
          ∧ r.2.mem ((c.tc : Thread Cert.MixSIdeal.nD Cert.MixSIdeal.τ).loc Cert.MixSIdeal.main_v1_1) = v1 c
          ∧ r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
          ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
          ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
          ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
          ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
          ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
          ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
          ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v87) = v0 c
          ∧ r.2.mem ((c.tc : Thread Cert.MixRefIdeal.nD Cert.MixRefIdeal.τ).loc Cert.MixRefIdeal.main_v89) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hInP : Cert.InP.Facts) (hInPIdeal : Cert.InPIdeal.Facts) (hInRefIdeal : Cert.InRefIdeal.Facts) (hMixS : Cert.MixS.Facts) (hMixSIdeal : Cert.MixSIdeal.Facts) (hMixRefIdeal : Cert.MixRefIdeal.Facts) (hPre_finite_inputs : Cert.Pre_finite_inputs.Facts) (hPre_finite_pool : Cert.Pre_finite_pool.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Mlp (hMlp := hMlp)
    ∧ quiescent_MlpIdeal (hMlpIdeal := hMlpIdeal)
    ∧ quiescent_MlpRefIdeal (hMlpRefIdeal := hMlpRefIdeal)
    ∧ quiescent_InP (hInP := hInP)
    ∧ quiescent_InPIdeal (hInPIdeal := hInPIdeal)
    ∧ quiescent_InRefIdeal (hInRefIdeal := hInRefIdeal)
    ∧ quiescent_MixS (hMixS := hMixS)
    ∧ quiescent_MixSIdeal (hMixSIdeal := hMixSIdeal)
    ∧ quiescent_MixSIdeal_pre_finite_pool (hMixSIdeal := hMixSIdeal) (hPre_finite_pool := hPre_finite_pool)
    ∧ quiescent_MixRefIdeal (hMixRefIdeal := hMixRefIdeal)
    ∧ quiescent_MixRefIdeal_pre_finite_pool (hMixRefIdeal := hMixRefIdeal) (hPre_finite_pool := hPre_finite_pool)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Mlp_MlpIdeal
    ∧ algebraic_MlpIdeal_MlpRefIdeal (hMlpIdeal := hMlpIdeal) (hMlpRefIdeal := hMlpRefIdeal)
    ∧ preserves_InP_InPIdeal
    ∧ algebraic_InPIdeal_InRefIdeal (hInPIdeal := hInPIdeal) (hInRefIdeal := hInRefIdeal)
    ∧ preserves_MixS_MixSIdeal
    ∧ algebraic_MixSIdeal_MixRefIdeal_pre_finite_pool (hMixSIdeal := hMixSIdeal) (hMixRefIdeal := hMixRefIdeal) (hPre_finite_pool := hPre_finite_pool)
-- ==== Pre_finite_inputs.lean ====
abbrev S8192x1024 : Shape := ⟨2, ![8192, 1024]⟩
abbrev S8192x2048 : Shape := ⟨2, ![8192, 2048]⟩
abbrev S4x256x256 : Shape := ⟨3, ![4, 256, 256]⟩
abbrev S1x1024 : Shape := ⟨2, ![1, 1024]⟩
abbrev S2048x2048 : Shape := ⟨2, ![2048, 2048]⟩
abbrev S1x2048 : Shape := ⟨2, ![1, 2048]⟩
abbrev S128x4096 : Shape := ⟨2, ![128, 4096]⟩
abbrev S128x3x3072 : Shape := ⟨3, ![128, 3, 3072]⟩
abbrev S128x128 : Shape := ⟨2, ![128, 128]⟩
abbrev S4x3072 : Shape := ⟨2, ![4, 3072]⟩
abbrev S1x128 : Shape := ⟨2, ![1, 128]⟩
abbrev S128x8x128x128 : Shape := ⟨4, ![128, 8, 128, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S128x4096 : S_.BroadcastsInDim S128x4096 (![] : Fin 0 → Fin S128x4096.rank)
  reducesTo_S128x4096_S_d0_1 : S128x4096.ReducesTo [0, 1] S_
  bcast_S_S128x3x3072 : S_.BroadcastsInDim S128x3x3072 (![] : Fin 0 → Fin S128x3x3072.rank)
  reducesTo_S128x3x3072_S_d0_1_2 : S128x3x3072.ReducesTo [0, 1, 2] S_
  bcast_S_S4x3072 : S_.BroadcastsInDim S4x3072 (![] : Fin 0 → Fin S4x3072.rank)
  reducesTo_S4x3072_S_d0_1 : S4x3072.ReducesTo [0, 1] S_

variable [Facts]

def fn_part1 {F : FTy → Type} [FloatOps F] (main_v13 : IVec S_ 1) (main_v16 : IVec S4x3072 1) : IVec S_ 1 :=
  let main_c_5 : IVec S_ 1 := constantI S_ 1 1#1
  let main_v17 : IVec S_ 1 := (fun x v => Host.reduce IntOp.andi x v reducesTo_S4x3072_S_d0_1 h_S_) main_v16 main_c_5
  let main_v18 : IVec S_ 1 := andi main_v13 main_v17
  main_v18

def fn {F : FTy → Type} [FloatOps F] (main_arg0 : FVec F S8192x1024 .bf16) (main_arg1 : FVec F S8192x1024 .f32) (main_arg2 : FVec F S8192x2048 .f32) (main_arg3 : FVec F S4x256x256 .bf16) (main_arg4 : FVec F S1x1024 .f32) (main_arg5 : FVec F S2048x2048 .bf16) (main_arg6 : FVec F S1x2048 .f32) (main_arg7 : FVec F S128x4096 .f32) (main_arg8 : FVec F S128x3x3072 .f32) (main_arg9 : FVec F S128x128 .f32) (main_arg10 : FVec F S4x3072 .f32) (main_arg11 : FVec F S1x128 .f32) (main_arg12 : FVec F S128x8x128x128 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S128x4096 .f32 := Host.absf main_arg7
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  let main_v9 : FVec F S128x3x3072 .f32 := Host.absf main_arg8
  let main_cst_2 : FVec F S_ .f32 := constant S_ .f32 0x7F800000#32
  let main_v10 : FVec F S128x3x3072 .f32 := broadcastInDim S128x3x3072 ![] bcast_S_S128x3x3072 main_cst_2
  let main_v11 : IVec S128x3x3072 1 := cmpf .olt main_v9 main_v10
  let main_c_3 : IVec S_ 1 := constantI S_ 1 1#1
  let main_v12 : IVec S_ 1 := (fun x v => Host.reduce IntOp.andi x v reducesTo_S128x3x3072_S_d0_1_2 h_S_) main_v11 main_c_3
  let main_v13 : IVec S_ 1 := andi main_v8 main_v12
  let main_v14 : FVec F S4x3072 .f32 := Host.absf main_arg10
  let main_cst_4 : FVec F S_ .f32 := constant S_ .f32 0x7F800000#32
  let main_v15 : FVec F S4x3072 .f32 := broadcastInDim S4x3072 ![] bcast_S_S4x3072 main_cst_4
  let main_v16 : IVec S4x3072 1 := cmpf .olt main_v14 main_v15
  fn_part1 (F := F) main_v13 main_v16
-- ==== Pre_finite_pool.lean ====
abbrev S128x1024 : Shape := ⟨2, ![128, 1024]⟩
abbrev S128x15x1024 : Shape := ⟨3, ![128, 15, 1024]⟩
abbrev S128x2048 : Shape := ⟨2, ![128, 2048]⟩
abbrev S4x256x256 : Shape := ⟨3, ![4, 256, 256]⟩
abbrev S1x1024 : Shape := ⟨2, ![1, 1024]⟩
abbrev S2048x2048 : Shape := ⟨2, ![2048, 2048]⟩
abbrev S1x2048 : Shape := ⟨2, ![1, 2048]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S128x15x1024 : S_.BroadcastsInDim S128x15x1024 (![] : Fin 0 → Fin S128x15x1024.rank)
  reducesTo_S128x15x1024_S_d0_1_2 : S128x15x1024.ReducesTo [0, 1, 2] S_

variable [Facts]

def fn {F : FTy → Type} [FloatOps F] (main_arg0 : FVec F S128x1024 .f32) (main_arg1 : FVec F S128x1024 .f32) (main_arg2 : FVec F S128x15x1024 .f32) (main_arg3 : FVec F S128x2048 .f32) (main_arg4 : FVec F S4x256x256 .bf16) (main_arg5 : FVec F S1x1024 .f32) (main_arg6 : FVec F S2048x2048 .bf16) (main_arg7 : FVec F S1x2048 .f32) : IVec S_ 1 :=
  let main_v0 : FVec F S128x1024 .f32 := Host.absf main_arg1
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x15x1024 .f32 := Host.absf main_arg2
  let main_cst_0 : FVec F S_ .f32 := constant S_ .f32 0x7F800000#32
  let main_v5 : FVec F S128x15x1024 .f32 := broadcastInDim S128x15x1024 ![] bcast_S_S128x15x1024 main_cst_0
  let main_v6 : IVec S128x15x1024 1 := cmpf .olt main_v4 main_v5
  let main_c_1 : IVec S_ 1 := constantI S_ 1 1#1
  let main_v7 : IVec S_ 1 := (fun x v => Host.reduce IntOp.andi x v reducesTo_S128x15x1024_S_d0_1_2 h_S_) main_v6 main_c_1
  let main_v8 : IVec S_ 1 := andi main_v3 main_v7
  main_v8
-- ==== Kernel.lean ====
abbrev S8192x1024 : Shape := ⟨2, ![8192, 1024]⟩
abbrev S8192x2048 : Shape := ⟨2, ![8192, 2048]⟩
abbrev S4x256x256 : Shape := ⟨3, ![4, 256, 256]⟩
abbrev S1x1024 : Shape := ⟨2, ![1, 1024]⟩
abbrev S2048x2048 : Shape := ⟨2, ![2048, 2048]⟩
abbrev S1x2048 : Shape := ⟨2, ![1, 2048]⟩
abbrev S128x4096 : Shape := ⟨2, ![128, 4096]⟩
abbrev S128x3x3072 : Shape := ⟨3, ![128, 3, 3072]⟩
abbrev S128x128 : Shape := ⟨2, ![128, 128]⟩
abbrev S4x3072 : Shape := ⟨2, ![4, 3072]⟩
abbrev S1x128 : Shape := ⟨2, ![1, 128]⟩
abbrev S128x8x128x128 : Shape := ⟨4, ![128, 8, 128, 128]⟩
abbrev S3x128x3072 : Shape := ⟨3, ![3, 128, 3072]⟩
abbrev S128x1024 : Shape := ⟨2, ![128, 1024]⟩
abbrev S512x1024 : Shape := ⟨2, ![512, 1024]⟩
abbrev S16x1024 : Shape := ⟨2, ![16, 1024]⟩
abbrev S512x2048 : Shape := ⟨2, ![512, 2048]⟩
abbrev S8x4096 : Shape := ⟨2, ![8, 4096]⟩
abbrev S3x8x3072 : Shape := ⟨3, ![3, 8, 3072]⟩
abbrev S8x128 : Shape := ⟨2, ![8, 128]⟩
abbrev S8x1024 : Shape := ⟨2, ![8, 1024]⟩
abbrev S8x8x128x128 : Shape := ⟨4, ![8, 8, 128, 128]⟩
abbrev S8x528x128 : Shape := ⟨3, ![8, 528, 128]⟩
abbrev S3x8x8x128x128 : Shape := ⟨5, ![3, 8, 8, 128, 128]⟩
abbrev S3 : Shape := ⟨1, ![3]⟩
abbrev S1 : Shape := ⟨1, ![1]⟩
abbrev S_ : Shape := ⟨0, ![]⟩
abbrev S1x8x8x128x128 : Shape := ⟨5, ![1, 8, 8, 128, 128]⟩
abbrev S1x3072 : Shape := ⟨2, ![1, 3072]⟩
abbrev S8x3072 : Shape := ⟨2, ![8, 3072]⟩
abbrev S1x8x3072 : Shape := ⟨3, ![1, 8, 3072]⟩
abbrev S8 : Shape := ⟨1, ![8]⟩
abbrev S8x1 : Shape := ⟨2, ![8, 1]⟩
abbrev S1x1x128x128 : Shape := ⟨4, ![1, 1, 128, 128]⟩
abbrev S1x1 : Shape := ⟨2, ![1, 1]⟩
abbrev S128 : Shape := ⟨1, ![128]⟩
abbrev S16x128 : Shape := ⟨2, ![16, 128]⟩
abbrev S1x16x128 : Shape := ⟨3, ![1, 16, 128]⟩
abbrev S512x128 : Shape := ⟨2, ![512, 128]⟩
abbrev S1x512x128 : Shape := ⟨3, ![1, 512, 128]⟩
abbrev S1024x512 : Shape := ⟨2, ![1024, 512]⟩
abbrev S512x512 : Shape := ⟨2, ![512, 512]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S512 : Shape := ⟨1, ![512]⟩
abbrev S512x1 : Shape := ⟨2, ![512, 1]⟩
abbrev S1x512 : Shape := ⟨2, ![1, 512]⟩

abbrev nBuf : Space → Nat
  | .hbm => 18
  | .vmem => 30
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x2048, .f32⟩
  | .hbm, ⟨3, _⟩ => ⟨S4x256x256, .bf16⟩
  | .hbm, ⟨4, _⟩ => ⟨S1x1024, .f32⟩
  | .hbm, ⟨5, _⟩ => ⟨S2048x2048, .bf16⟩
  | .hbm, ⟨6, _⟩ => ⟨S1x2048, .f32⟩
  | .hbm, ⟨7, _⟩ => ⟨S128x4096, .f32⟩
  | .hbm, ⟨8, _⟩ => ⟨S128x3x3072, .f32⟩
  | .hbm, ⟨9, _⟩ => ⟨S128x128, .f32⟩
  | .hbm, ⟨10, _⟩ => ⟨S4x3072, .f32⟩
  | .hbm, ⟨11, _⟩ => ⟨S1x128, .f32⟩
  | .hbm, ⟨12, _⟩ => ⟨S128x8x128x128, .f32⟩
  | .hbm, ⟨13, _⟩ => ⟨S3x128x3072, .f32⟩
  | .hbm, ⟨14, _⟩ => ⟨S8192x2048, .f32⟩
  | .hbm, ⟨15, _⟩ => ⟨S128x1024, .f32⟩
  | .hbm, ⟨16, _⟩ => ⟨S128x8x128x128, .f32⟩
  | .hbm, ⟨17, _⟩ => ⟨S3x128x3072, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S16x1024, .f32⟩
  | .local _ .vmem, ⟨5, _⟩ => ⟨S16x1024, .f32⟩
  | .local _ .vmem, ⟨6, _⟩ => ⟨S512x2048, .f32⟩
  | .local _ .vmem, ⟨7, _⟩ => ⟨S512x2048, .f32⟩
  | .local _ .vmem, ⟨8, _⟩ => ⟨S4x256x256, .bf16⟩
  | .local _ .vmem, ⟨9, _⟩ => ⟨S1x1024, .f32⟩
  | .local _ .vmem, ⟨10, _⟩ => ⟨S2048x2048, .bf16⟩
  | .local _ .vmem, ⟨11, _⟩ => ⟨S1x2048, .f32⟩
  | .local _ .vmem, ⟨12, _⟩ => ⟨S8x4096, .f32⟩
  | .local _ .vmem, ⟨13, _⟩ => ⟨S8x4096, .f32⟩
  | .local _ .vmem, ⟨14, _⟩ => ⟨S3x8x3072, .f32⟩
  | .local _ .vmem, ⟨15, _⟩ => ⟨S3x8x3072, .f32⟩
  | .local _ .vmem, ⟨16, _⟩ => ⟨S8x128, .f32⟩
  | .local _ .vmem, ⟨17, _⟩ => ⟨S8x128, .f32⟩
  | .local _ .vmem, ⟨18, _⟩ => ⟨S4x3072, .f32⟩
  | .local _ .vmem, ⟨19, _⟩ => ⟨S1x128, .f32⟩
  | .local _ .vmem, ⟨20, _⟩ => ⟨S512x2048, .f32⟩
  | .local _ .vmem, ⟨21, _⟩ => ⟨S512x2048, .f32⟩
  | .local _ .vmem, ⟨22, _⟩ => ⟨S8x1024, .f32⟩
  | .local _ .vmem, ⟨23, _⟩ => ⟨S8x1024, .f32⟩
  | .local _ .vmem, ⟨24, _⟩ => ⟨S8x8x128x128, .f32⟩
  | .local _ .vmem, ⟨25, _⟩ => ⟨S8x8x128x128, .f32⟩
  | .local _ .vmem, ⟨26, _⟩ => ⟨S3x8x3072, .f32⟩
  | .local _ .vmem, ⟨27, _⟩ => ⟨S3x8x3072, .f32⟩
  | .local _ .vmem, ⟨28, _⟩ => ⟨S8x528x128, .f32⟩
  | .local _ .vmem, ⟨29, _⟩ => ⟨S3x8x8x128x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v1_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c2_i32 : BitVec 32 := 2#32
  let v3 : BitVec 32 := Scalar.addi arg0 c2_i32
  let c16_i32 : BitVec 32 := 16#32
  let v4 : BitVec 1 := Scalar.cmpi .slt v3 c16_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c2_i32_1731 : BitVec 32 := 2#32
  let v3946 : BitVec 32 := Scalar.addi arg0 c2_i32_1731
  let c3_i32_1732 : BitVec 32 := 3#32
  let c0_i32_1733 : BitVec 32 := 0#32
  let v3947 : BitVec 1 := Scalar.cmpi .eq c3_i32_1732 c0_i32_1733
  let c1_i32_1734 : BitVec 32 := 1#32
  let v3948 : BitVec 32 := Scalar.select v3947 c1_i32_1734 c3_i32_1732
  let v3949 : BitVec 32 := Scalar.remsi v3946 v3948
  let c0_i32_1736 : BitVec 32 := 0#32
  let v3951 : BitVec 1 := Scalar.cmpi .slt v3949 c0_i32_1736
  let c0_i32_1737 : BitVec 32 := 0#32
  let v3952 : BitVec 1 := Scalar.cmpi .slt v3948 c0_i32_1737
  let v3953 : BitVec 1 := Scalar.xori v3951 v3952
  let c0_i32_1735 : BitVec 32 := 0#32
  let v3950 : BitVec 1 := Scalar.cmpi .ne v3949 c0_i32_1735
  let v3954 : BitVec 1 := Scalar.andi v3953 v3950
  let v3955 : BitVec 32 := Scalar.addi v3949 v3948
  let v3956 : BitVec 32 := Scalar.select v3954 v3955 v3949
  ![v3956.toNat]
def k0_off2 (i : grid0.Coords) : Fin 5 → Nat :=
  let arg0 : BitVec 32 := BitVec.ofNat 32 (i 0).val
  let c2_i32_1731 : BitVec 32 := 2#32
  let v3946 : BitVec 32 := Scalar.addi arg0 c2_i32_1731
  let c3_i32_1732 : BitVec 32 := 3#32
  let c0_i32_1733 : BitVec 32 := 0#32
  let v3947 : BitVec 1 := Scalar.cmpi .eq c3_i32_1732 c0_i32_1733
  let c1_i32_1734 : BitVec 32 := 1#32
  let v3948 : BitVec 32 := Scalar.select v3947 c1_i32_1734 c3_i32_1732
  let v3949 : BitVec 32 := Scalar.remsi v3946 v3948
  let c0_i32_1736 : BitVec 32 := 0#32
  let v3951 : BitVec 1 := Scalar.cmpi .slt v3949 c0_i32_1736
  let c0_i32_1737 : BitVec 32 := 0#32
  let v3952 : BitVec 1 := Scalar.cmpi .slt v3948 c0_i32_1737
  let v3953 : BitVec 1 := Scalar.xori v3951 v3952
  let c0_i32_1735 : BitVec 32 := 0#32
  let v3950 : BitVec 1 := Scalar.cmpi .ne v3949 c0_i32_1735
  let v3954 : BitVec 1 := Scalar.andi v3953 v3950
  let v3955 : BitVec 32 := Scalar.addi v3949 v3948
  let v3956 : BitVec 32 := Scalar.select v3954 v3955 v3949
  let c0_i32_1739 : BitVec 32 := 0#32
  let c0_i32_1740 : BitVec 32 := 0#32
  let c0_i32_1741 : BitVec 32 := 0#32
  let c0_i32_1742 : BitVec 32 := 0#32
  ![v3956.toNat, 0, 0, 0, 0]
def k0_off3 (i : grid0.Coords) : Fin 4 → Nat :=
  let arg0 : BitVec 32 := BitVec.ofNat 32 (i 0).val
  let c2_i32_1731 : BitVec 32 := 2#32
  let v3946 : BitVec 32 := Scalar.addi arg0 c2_i32_1731
  let c8_i32_1738 : BitVec 32 := 8#32
  let v3957 : BitVec 32 := Scalar.muli v3946 c8_i32_1738
  let c0_i32_1743 : BitVec 32 := 0#32
  let c0_i32_1744 : BitVec 32 := 0#32
  let c0_i32_1745 : BitVec 32 := 0#32
  ![v3957.toNat, 0, 0, 0]
def k0_off4 (i : grid0.Coords) : Fin 1 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![v16.toNat]
def k0_off5 (i : grid0.Coords) : Fin 5 → Nat :=
  let arg0 : BitVec 32 := BitVec.ofNat 32 (i 0).val
  let c3_i32 : BitVec 32 := 3#32
  let c0_i32_2 : BitVec 32 := 0#32
  let v7 : BitVec 1 := Scalar.cmpi .eq c3_i32 c0_i32_2
  let c1_i32 : BitVec 32 := 1#32
  let v8 : BitVec 32 := Scalar.select v7 c1_i32 c3_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let c0_i32_7 : BitVec 32 := 0#32
  let c0_i32_8 : BitVec 32 := 0#32
  let c0_i32_9 : BitVec 32 := 0#32
  ![v16.toNat, 0, 0, 0, 0]
def k0_off6 (i : grid0.Coords) : Fin 4 → Nat :=
  let arg0 : BitVec 32 := BitVec.ofNat 32 (i 0).val
  let c8_i32 : BitVec 32 := 8#32
  let v17 : BitVec 32 := Scalar.muli arg0 c8_i32
  let c0_i32_10 : BitVec 32 := 0#32
  let c0_i32_11 : BitVec 32 := 0#32
  let c0_i32_12 : BitVec 32 := 0#32
  ![v17.toNat, 0, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x8x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x8x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S3x8x3072 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S8192x1024 : Shape := ⟨2, ![8192, 1024]⟩
abbrev S8192x2048 : Shape := ⟨2, ![8192, 2048]⟩
abbrev S4x256x256 : Shape := ⟨3, ![4, 256, 256]⟩
abbrev S1x1024 : Shape := ⟨2, ![1, 1024]⟩
abbrev S2048x2048 : Shape := ⟨2, ![2048, 2048]⟩
abbrev S1x2048 : Shape := ⟨2, ![1, 2048]⟩
abbrev S128x4096 : Shape := ⟨2, ![128, 4096]⟩
abbrev S128x3x3072 : Shape := ⟨3, ![128, 3, 3072]⟩
abbrev S128x128 : Shape := ⟨2, ![128, 128]⟩
abbrev S4x3072 : Shape := ⟨2, ![4, 3072]⟩
abbrev S1x128 : Shape := ⟨2, ![1, 128]⟩
abbrev S128x8x128x128 : Shape := ⟨4, ![128, 8, 128, 128]⟩
abbrev S4x2048x1024 : Shape := ⟨3, ![4, 2048, 1024]⟩
abbrev S_ : Shape := ⟨0, ![]⟩
abbrev S4x15x1024 : Shape := ⟨3, ![4, 15, 1024]⟩
abbrev S4x2063x1024 : Shape := ⟨3, ![4, 2063, 1024]⟩
abbrev S4x1x1024 : Shape := ⟨3, ![4, 1, 1024]⟩
abbrev S4x2064x1024 : Shape := ⟨3, ![4, 2064, 1024]⟩
abbrev S2048 : Shape := ⟨1, ![2048]⟩
abbrev S4x2048x256 : Shape := ⟨3, ![4, 2048, 256]⟩
abbrev S1x2048x1 : Shape := ⟨3, ![1, 2048, 1]⟩
abbrev S4x2048x1x256 : Shape := ⟨4, ![4, 2048, 1, 256]⟩
abbrev S4x2048x4x256 : Shape := ⟨4, ![4, 2048, 4, 256]⟩
abbrev S4x256x4x2048 : Shape := ⟨4, ![4, 256, 4, 2048]⟩
abbrev S8192 : Shape := ⟨1, ![8192]⟩
abbrev S8192x1 : Shape := ⟨2, ![8192, 1]⟩
abbrev S128x3072 : Shape := ⟨2, ![128, 3072]⟩
abbrev S128x1024 : Shape := ⟨2, ![128, 1024]⟩
abbrev S128x1x3072 : Shape := ⟨3, ![128, 1, 3072]⟩
abbrev S128x4x3072 : Shape := ⟨3, ![128, 4, 3072]⟩
abbrev S1x3072 : Shape := ⟨2, ![1, 3072]⟩
abbrev S3072 : Shape := ⟨1, ![3072]⟩
abbrev S128x3x8x128 : Shape := ⟨4, ![128, 3, 8, 128]⟩
abbrev S128x1x8x128 : Shape := ⟨4, ![128, 1, 8, 128]⟩
abbrev S128x8x128 : Shape := ⟨3, ![128, 8, 128]⟩
abbrev S128x8 : Shape := ⟨2, ![128, 8]⟩
abbrev S128x8x1 : Shape := ⟨3, ![128, 8, 1]⟩
abbrev S128x8x1x1 : Shape := ⟨4, ![128, 8, 1, 1]⟩
abbrev S128x8x128x1 : Shape := ⟨4, ![128, 8, 128, 1]⟩
abbrev S128x8x1x128 : Shape := ⟨4, ![128, 8, 1, 128]⟩
abbrev S1x1x128 : Shape := ⟨3, ![1, 1, 128]⟩
abbrev S3x128x3072 : Shape := ⟨3, ![3, 128, 3072]⟩

abbrev nBuf : Space → Nat
  | .hbm => 241
  | .vmem => 0
  | .smem => 0
  | _ => 0

abbrev hbmTy0_0 (i : Nat) : BufTy := match i % 128 with
  | 0 => ⟨S8192x1024, .bf16⟩
  | 1 => ⟨S8192x1024, .f32⟩
  | 2 => ⟨S8192x2048, .f32⟩
  | 3 => ⟨S4x256x256, .bf16⟩
  | 4 => ⟨S1x1024, .f32⟩
  | 5 => ⟨S2048x2048, .bf16⟩
  | 6 => ⟨S1x2048, .f32⟩
  | 7 => ⟨S128x4096, .f32⟩
  | 8 => ⟨S128x3x3072, .f32⟩
  | 9 => ⟨S128x128, .f32⟩
  | 10 => ⟨S4x3072, .f32⟩
  | 11 => ⟨S1x128, .f32⟩
  | 12 => ⟨S128x8x128x128, .f32⟩
  | 13 => ⟨S4x256x256, .f32⟩
  | 14 => ⟨S4x2048x1024, .f32⟩
  | 15 => ⟨S_, .f32⟩
  | 16 => ⟨S4x15x1024, .f32⟩
  | 17 => ⟨S4x2063x1024, .f32⟩
  | 18 => ⟨S_, .f32⟩
  | 19 => ⟨S4x1x1024, .f32⟩
  | 20 => ⟨S_, .f32⟩
  | 21 => ⟨S_, .f32⟩
  | 22 => ⟨S4x2063x1024, .f32⟩
  | 23 => ⟨S4x2064x1024, .f32⟩
  | 24 => ⟨S2048, .i32⟩
  | 25 => ⟨S4x2048x1024, .f32⟩
  | 26 => ⟨S4x2048x256, .f32⟩
  | 27 => ⟨S4x2048x256, .f32⟩
  | 28 => ⟨S4x2048x256, .f32⟩
  | 29 => ⟨S_, .i32⟩
  | 30 => ⟨S2048, .i32⟩
  | 31 => ⟨S2048, .i32⟩
  | 32 => ⟨S_, .i32⟩
  | 33 => ⟨S2048, .i32⟩
  | 34 => ⟨S2048, .i32⟩
  | 35 => ⟨S2048, .f32⟩
  | 36 => ⟨S1x2048x1, .f32⟩
  | 37 => ⟨S4x2048x256, .f32⟩
  | 38 => ⟨S4x2048x256, .f32⟩
  | 39 => ⟨S4x2048x256, .f32⟩
  | 40 => ⟨S4x2048x256, .f32⟩
  | 41 => ⟨S4x2048x256, .f32⟩
  | 42 => ⟨S4x2048x256, .f32⟩
  | 43 => ⟨S4x2048x256, .f32⟩
  | 44 => ⟨S_, .i32⟩
  | 45 => ⟨S2048, .i32⟩
  | 46 => ⟨S2048, .i32⟩
  | 47 => ⟨S_, .i32⟩
  | 48 => ⟨S2048, .i32⟩
  | 49 => ⟨S2048, .i32⟩
  | 50 => ⟨S2048, .f32⟩
  | 51 => ⟨S1x2048x1, .f32⟩
  | 52 => ⟨S4x2048x256, .f32⟩
  | 53 => ⟨S4x2048x256, .f32⟩
  | 54 => ⟨S4x2048x256, .f32⟩
  | 55 => ⟨S4x2048x256, .f32⟩
  | 56 => ⟨S4x2048x256, .f32⟩
  | 57 => ⟨S4x2048x256, .f32⟩
  | 58 => ⟨S4x2048x256, .f32⟩
  | 59 => ⟨S_, .i32⟩
  | 60 => ⟨S2048, .i32⟩
  | 61 => ⟨S2048, .i32⟩
  | 62 => ⟨S_, .i32⟩
  | 63 => ⟨S2048, .i32⟩
  | 64 => ⟨S2048, .i32⟩
  | 65 => ⟨S2048, .f32⟩
  | 66 => ⟨S1x2048x1, .f32⟩
  | 67 => ⟨S4x2048x256, .f32⟩
  | 68 => ⟨S4x2048x256, .f32⟩
  | 69 => ⟨S4x2048x256, .f32⟩
  | 70 => ⟨S4x2048x256, .f32⟩
  | 71 => ⟨S4x2048x256, .f32⟩
  | 72 => ⟨S4x2048x256, .f32⟩
  | 73 => ⟨S4x2048x256, .f32⟩
  | 74 => ⟨S_, .i32⟩
  | 75 => ⟨S2048, .i32⟩
  | 76 => ⟨S2048, .i32⟩
  | 77 => ⟨S_, .i32⟩
  | 78 => ⟨S2048, .i32⟩
  | 79 => ⟨S2048, .i32⟩
  | 80 => ⟨S2048, .f32⟩
  | 81 => ⟨S1x2048x1, .f32⟩
  | 82 => ⟨S4x2048x256, .f32⟩
  | 83 => ⟨S4x2048x256, .f32⟩
  | 84 => ⟨S4x2048x256, .f32⟩
  | 85 => ⟨S4x2048x256, .f32⟩
  | 86 => ⟨S4x2048x1x256, .f32⟩
  | 87 => ⟨S4x2048x1x256, .f32⟩
  | 88 => ⟨S4x2048x1x256, .f32⟩
  | 89 => ⟨S4x2048x1x256, .f32⟩
  | 90 => ⟨S4x2048x4x256, .f32⟩
  | 91 => ⟨S4x256x4x2048, .f32⟩
  | 92 => ⟨S4x2048x4x256, .f32⟩
  | 93 => ⟨S8192x1024, .f32⟩
  | 94 => ⟨S8192x1024, .f32⟩
  | 95 => ⟨S8192x1024, .f32⟩
  | 96 => ⟨S8192x1024, .f32⟩
  | 97 => ⟨S8192x2048, .f32⟩
  | 98 => ⟨S2048x2048, .f32⟩
  | 99 => ⟨S8192x2048, .f32⟩
  | 100 => ⟨S8192x2048, .f32⟩
  | 101 => ⟨S_, .f32⟩
  | 102 => ⟨S8192, .f32⟩
  | 103 => ⟨S8192x1, .f32⟩
  | 104 => ⟨S_, .f32⟩
  | 105 => ⟨S8192x1, .f32⟩
  | 106 => ⟨S8192x1, .f32⟩
  | 107 => ⟨S_, .f32⟩
  | 108 => ⟨S8192x1, .f32⟩
  | 109 => ⟨S8192x1, .f32⟩
  | 110 => ⟨S8192x1, .f32⟩
  | 111 => ⟨S8192x2048, .f32⟩
  | 112 => ⟨S8192x2048, .f32⟩
  | 113 => ⟨S8192x2048, .f32⟩
  | 114 => ⟨S8192x2048, .f32⟩
  | 115 => ⟨S8192x2048, .f32⟩
  | 116 => ⟨S128x3072, .f32⟩
  | 117 => ⟨S128x1024, .f32⟩
  | 118 => ⟨S128x1x3072, .f32⟩
  | 119 => ⟨S128x4x3072, .f32⟩
  | 120 => ⟨S1x3072, .f32⟩
  | 121 => ⟨S3072, .f32⟩
  | 122 => ⟨S128x1x3072, .f32⟩
  | 123 => ⟨S128x3072, .f32⟩
  | 124 => ⟨S1x3072, .f32⟩
  | 125 => ⟨S128x3072, .f32⟩
  | 126 => ⟨S128x3072, .f32⟩
  | 127 => ⟨S_, .f32⟩
  | _ => ⟨S8192x1024, .bf16⟩

abbrev hbmTy0_1 (i : Nat) : BufTy := match i % 128 with
  | 0 => ⟨S128x3072, .f32⟩
  | 1 => ⟨S128x3072, .f32⟩
  | 2 => ⟨S1x3072, .f32⟩
  | 3 => ⟨S3072, .f32⟩
  | 4 => ⟨S128x1x3072, .f32⟩
  | 5 => ⟨S128x3072, .f32⟩
  | 6 => ⟨S1x3072, .f32⟩
  | 7 => ⟨S128x3072, .f32⟩
  | 8 => ⟨S128x3072, .f32⟩
  | 9 => ⟨S128x3072, .f32⟩
  | 10 => ⟨S1x3072, .f32⟩
  | 11 => ⟨S3072, .f32⟩
  | 12 => ⟨S128x1x3072, .f32⟩
  | 13 => ⟨S128x3072, .f32⟩
  | 14 => ⟨S1x3072, .f32⟩
  | 15 => ⟨S128x3072, .f32⟩
  | 16 => ⟨S128x3072, .f32⟩
  | 17 => ⟨S128x3072, .f32⟩
  | 18 => ⟨S1x3072, .f32⟩
  | 19 => ⟨S3072, .f32⟩
  | 20 => ⟨S128x1x3072, .f32⟩
  | 21 => ⟨S128x3072, .f32⟩
  | 22 => ⟨S1x3072, .f32⟩
  | 23 => ⟨S128x3072, .f32⟩
  | 24 => ⟨S128x3072, .f32⟩
  | 25 => ⟨S128x3072, .f32⟩
  | 26 => ⟨S128x3x3072, .f32⟩
  | 27 => ⟨S128x3072, .f32⟩
  | 28 => ⟨S128x3072, .f32⟩
  | 29 => ⟨S_, .f32⟩
  | 30 => ⟨S128x3072, .f32⟩
  | 31 => ⟨S128x3072, .f32⟩
  | 32 => ⟨S_, .f32⟩
  | 33 => ⟨S128x3072, .f32⟩
  | 34 => ⟨S128x3072, .f32⟩
  | 35 => ⟨S128x3072, .f32⟩
  | 36 => ⟨S128x3x8x128, .f32⟩
  | 37 => ⟨S128x1x8x128, .f32⟩
  | 38 => ⟨S128x8x128, .f32⟩
  | 39 => ⟨S128x8x128, .f32⟩
  | 40 => ⟨S_, .f32⟩
  | 41 => ⟨S128x8, .f32⟩
  | 42 => ⟨S128x8x1, .f32⟩
  | 43 => ⟨S_, .f32⟩
  | 44 => ⟨S128x8x1, .f32⟩
  | 45 => ⟨S128x8x1, .f32⟩
  | 46 => ⟨S128x8x1, .f32⟩
  | 47 => ⟨S128x8x128, .f32⟩
  | 48 => ⟨S128x8x128, .f32⟩
  | 49 => ⟨S_, .f32⟩
  | 50 => ⟨S128x8x128, .f32⟩
  | 51 => ⟨S128x8x128, .f32⟩
  | 52 => ⟨S128x1x8x128, .f32⟩
  | 53 => ⟨S128x8x128, .f32⟩
  | 54 => ⟨S128x8x128, .f32⟩
  | 55 => ⟨S_, .f32⟩
  | 56 => ⟨S128x8, .f32⟩
  | 57 => ⟨S128x8x1, .f32⟩
  | 58 => ⟨S_, .f32⟩
  | 59 => ⟨S128x8x1, .f32⟩
  | 60 => ⟨S128x8x1, .f32⟩
  | 61 => ⟨S128x8x1, .f32⟩
  | 62 => ⟨S128x8x128, .f32⟩
  | 63 => ⟨S128x8x128, .f32⟩
  | 64 => ⟨S128x1x8x128, .f32⟩
  | 65 => ⟨S128x8x128, .f32⟩
  | 66 => ⟨S128x8, .f32⟩
  | 67 => ⟨S128x8, .f32⟩
  | 68 => ⟨S128x8, .f32⟩
  | 69 => ⟨S128x8x1x1, .f32⟩
  | 70 => ⟨S128x8x128x128, .f32⟩
  | 71 => ⟨S128x8x128x128, .f32⟩
  | 72 => ⟨S128x8x128, .f32⟩
  | 73 => ⟨S128x8x128, .f32⟩
  | 74 => ⟨S128x8x1, .f32⟩
  | 75 => ⟨S128x8x128, .f32⟩
  | 76 => ⟨S128x8x128, .f32⟩
  | 77 => ⟨S128x8x128x1, .f32⟩
  | 78 => ⟨S128x8x1x128, .f32⟩
  | 79 => ⟨S128x8x128x128, .f32⟩
  | 80 => ⟨S128x8x128x128, .f32⟩
  | 81 => ⟨S128x8x128x128, .f32⟩
  | 82 => ⟨S128x8x128x128, .f32⟩
  | 83 => ⟨S128x8x128, .f32⟩
  | 84 => ⟨S128x8x128, .f32⟩
  | 85 => ⟨S_, .f32⟩
  | 86 => ⟨S128x8, .f32⟩
  | 87 => ⟨S128x8x1, .f32⟩
  | 88 => ⟨S_, .f32⟩
  | 89 => ⟨S128x8x1, .f32⟩
  | 90 => ⟨S128x8x1, .f32⟩
  | 91 => ⟨S_, .f32⟩
  | 92 => ⟨S128x8x1, .f32⟩
  | 93 => ⟨S128x8x1, .f32⟩
  | 94 => ⟨S128x8x1, .f32⟩
  | 95 => ⟨S128x8x128, .f32⟩
  | 96 => ⟨S128x8x128, .f32⟩
  | 97 => ⟨S1x1x128, .f32⟩
  | 98 => ⟨S128x8x128, .f32⟩
  | 99 => ⟨S128x8x128, .f32⟩
  | 100 => ⟨S128x1024, .f32⟩
  | 101 => ⟨S128x1024, .f32⟩
  | 102 => ⟨S_, .f32⟩
  | 103 => ⟨S128x1024, .f32⟩
  | 104 => ⟨S128x1024, .f32⟩
  | 105 => ⟨S_, .f32⟩
  | 106 => ⟨S128x1024, .f32⟩
  | 107 => ⟨S128x1024, .f32⟩
  | 108 => ⟨S128x1024, .f32⟩
  | 109 => ⟨S128x8x128, .f32⟩
  | 110 => ⟨S128x8x128, .f32⟩
  | 111 => ⟨S128x1024, .f32⟩
  | 112 => ⟨S3x128x3072, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_call0_call0_cst : Ref sig .tc := ⟨.hbm, 20, rfl⟩
abbrev main_call0_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_2 : Ref sig .tc := ⟨.hbm, 44, rfl⟩
abbrev main_v25 : Ref sig .tc := ⟨.hbm, 45, rfl⟩
abbrev main_v26 : Ref sig .tc := ⟨.hbm, 46, rfl⟩
abbrev main_c_3 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_6 : Ref sig .tc := ⟨.hbm, 74, rfl⟩
abbrev main_v51 : Ref sig .tc := ⟨.hbm, 75, rfl⟩
abbrev main_v52 : Ref sig .tc := ⟨.hbm, 76, rfl⟩
abbrev main_c_7 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_8 : Ref sig .tc := ⟨.hbm, 101, rfl⟩
abbrev main_v76 : Ref sig .tc := ⟨.hbm, 102, rfl⟩
abbrev main_v77 : Ref sig .tc := ⟨.hbm, 103, rfl⟩
abbrev main_cst_9 : Ref sig .tc := ⟨.hbm, 104, rfl⟩
abbrev main_v78 : Ref sig .tc := ⟨.hbm, 105, rfl⟩
abbrev main_v79 : Ref sig .tc := ⟨.hbm, 106, rfl⟩
abbrev main_cst_10 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_11 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_call1_v0 : Ref sig .tc := ⟨.hbm, 155, rfl⟩
abbrev main_call1_v1 : Ref sig .tc := ⟨.hbm, 156, rfl⟩
abbrev main_call1_cst : Ref sig .tc := ⟨.hbm, 157, rfl⟩
abbrev main_call1_v2 : Ref sig .tc := ⟨.hbm, 158, rfl⟩
abbrev main_call1_v3 : Ref sig .tc := ⟨.hbm, 159, rfl⟩
abbrev main_call1_cst_0 : Ref sig .tc := ⟨.hbm, 160, rfl⟩
abbrev main_call1_v4 : Ref sig .tc := ⟨.hbm, 161, rfl⟩
abbrev main_call1_v5 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_12 : Ref sig .tc := ⟨.hbm, 168, rfl⟩
abbrev main_v131 : Ref sig .tc := ⟨.hbm, 169, rfl⟩
abbrev main_v132 : Ref sig .tc := ⟨.hbm, 170, rfl⟩
abbrev main_cst_13 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_14 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_15 : Ref sig .tc := ⟨.hbm, 183, rfl⟩
abbrev main_v143 : Ref sig .tc := ⟨.hbm, 184, rfl⟩
abbrev main_v144 : Ref sig .tc := ⟨.hbm, 185, rfl⟩
abbrev main_cst_16 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_cst_17 : Ref sig .tc := ⟨.hbm, 213, rfl⟩
abbrev main_v171 : Ref sig .tc := ⟨.hbm, 214, rfl⟩
abbrev main_v172 : Ref sig .tc := ⟨.hbm, 215, rfl⟩
abbrev main_cst_18 : Ref sig .tc := ⟨.hbm, 216, rfl⟩
abbrev main_v173 : Ref sig .tc := ⟨.hbm, 217, rfl⟩
abbrev main_v174 : Ref sig .tc := ⟨.hbm, 218, rfl⟩
abbrev main_cst_19 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_call2_v0 : Ref sig .tc := ⟨.hbm, 228, rfl⟩
abbrev main_call2_v1 : Ref sig .tc := ⟨.hbm, 229, rfl⟩
abbrev main_call2_cst : Ref sig .tc := ⟨.hbm, 230, rfl⟩
abbrev main_call2_v2 : Ref sig .tc := ⟨.hbm, 231, rfl⟩
abbrev main_call2_v3 : Ref sig .tc := ⟨.hbm, 232, rfl⟩
abbrev main_call2_cst_0 : Ref sig .tc := ⟨.hbm, 233, rfl⟩
abbrev main_call2_v4 : Ref sig .tc := ⟨.hbm, 234, rfl⟩
abbrev main_call2_v5 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩

abbrev nD : Nat := 1
abbrev τ : Topo := Topo.v7x

variable {F : FTy → Type} [FloatOps F]
-- ==== Mlp.lean ====
abbrev S8192x2048 : Shape := ⟨2, ![8192, 2048]⟩
abbrev S1x2048 : Shape := ⟨2, ![1, 2048]⟩
abbrev S2048x8192 : Shape := ⟨2, ![2048, 8192]⟩
abbrev S128x2048 : Shape := ⟨2, ![128, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩
abbrev S128 : Shape := ⟨1, ![128]⟩
abbrev S128x1 : Shape := ⟨2, ![128, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S128x2048, .f32⟩
  | .hbm, ⟨6, _⟩ => ⟨S8192x2048, .f32⟩
  | .hbm, ⟨7, _⟩ => ⟨S128x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S1x2048, .f32⟩
  | .local _ .vmem, ⟨8, _⟩ => ⟨S128x2048, .f32⟩
  | .local _ .vmem, ⟨9, _⟩ => ⟨S512x2048, .f32⟩
  | .local _ .vmem, ⟨10, _⟩ => ⟨S512x2048, .f32⟩
  | .local _ .vmem, ⟨11, _⟩ => ⟨S128x2048, .f32⟩
  | .local _ .vmem, ⟨12, _⟩ => ⟨S512x2048, .bf16⟩
  | .local _ .vmem, ⟨13, _⟩ => ⟨S128x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond5 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def k0_cond2 (i : grid0.Coords) : BitVec 1 :=
  let arg0 : BitVec 32 := BitVec.ofNat 32 (i 0).val
  let c0_i32_21 : BitVec 32 := 0#32
  let v38 : BitVec 1 := Scalar.cmpi .eq arg0 c0_i32_21
  let v39 : BitVec 32 := Scalar.extui v38
  let c0_i32_22 : BitVec 32 := 0#32
  let v40 : BitVec 1 := Scalar.cmpi .ne v39 c0_i32_22
  v40

def k0_cond4 (i : grid0.Coords) : BitVec 1 :=
  let arg0 : BitVec 32 := BitVec.ofNat 32 (i 0).val
  let c0_i32_16 : BitVec 32 := 0#32
  let v24 : BitVec 1 := Scalar.cmpi .eq arg0 c0_i32_16
  let v25 : BitVec 32 := Scalar.extui v24
  let c0_i32_17 : BitVec 32 := 0#32
  let v26 : BitVec 1 := Scalar.cmpi .ne v25 c0_i32_17
  v26

def k0_cond6 (i : grid0.Coords) : BitVec 1 :=
  let arg0 : BitVec 32 := BitVec.ofNat 32 (i 0).val
  let c0_i32_23 : BitVec 32 := 0#32
  let v39 : BitVec 1 := Scalar.cmpi .eq arg0 c0_i32_23
  let v40 : BitVec 32 := Scalar.extui v39
  let c0_i32_24 : BitVec 32 := 0#32
  let v41 : BitVec 1 := Scalar.cmpi .ne v40 c0_i32_24
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== MlpRefIdeal.lean ====
abbrev S8192x2048 : Shape := ⟨2, ![8192, 2048]⟩
abbrev S1x2048 : Shape := ⟨2, ![1, 2048]⟩
abbrev S2048x8192 : Shape := ⟨2, ![2048, 8192]⟩
abbrev S128x2048 : Shape := ⟨2, ![128, 2048]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S128 : Shape := ⟨1, ![128]⟩
abbrev S128x1 : Shape := ⟨2, ![128, 1]⟩
abbrev S128x8192 : Shape := ⟨2, ![128, 8192]⟩

abbrev nBuf : Space → Nat
  | .hbm => 82
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S128x2048, .f32⟩
  | .hbm, ⟨6, _⟩ => ⟨S2048x8192, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S128x2048, .f32⟩
  | .hbm, ⟨46, _⟩ => ⟨S_, .f32⟩
  | .hbm, ⟨47, _⟩ => ⟨S128, .f32⟩
  | .hbm, ⟨48, _⟩ => ⟨S128x1, .f32⟩
  | .hbm, ⟨49, _⟩ => ⟨S_, .f32⟩
  | .hbm, ⟨50, _⟩ => ⟨S128x1, .f32⟩
  | .hbm, ⟨51, _⟩ => ⟨S128x1, .f32⟩
  | .hbm, ⟨52, _⟩ => ⟨S_, .f32⟩
  | .hbm, ⟨53, _⟩ => ⟨S128x1, .f32⟩
  | .hbm, ⟨54, _⟩ => ⟨S128x1, .f32⟩
  | .hbm, ⟨55, _⟩ => ⟨S128x1, .f32⟩
  | .hbm, ⟨56, _⟩ => ⟨S128x2048, .f32⟩
  | .hbm, ⟨57, _⟩ => ⟨S128x2048, .f32⟩
  | .hbm, ⟨58, _⟩ => ⟨S128x2048, .f32⟩
  | .hbm, ⟨59, _⟩ => ⟨S128x2048, .f32⟩
  | .hbm, ⟨60, _⟩ => ⟨S128x8192, .f32⟩
  | .hbm, ⟨61, _⟩ => ⟨S_, .f32⟩
  | .hbm, ⟨62, _⟩ => ⟨S128x8192, .f32⟩
  | .hbm, ⟨63, _⟩ => ⟨S128x8192, .f32⟩
  | .hbm, ⟨64, _⟩ => ⟨S128x8192, .f32⟩
  | .hbm, ⟨65, _⟩ => ⟨S128x2048, .f32⟩
  | .hbm, ⟨66, _⟩ => ⟨S128x2048, .f32⟩
  | .hbm, ⟨67, _⟩ => ⟨S_, .f32⟩
  | .hbm, ⟨68, _⟩ => ⟨S128, .f32⟩
  | .hbm, ⟨69, _⟩ => ⟨S128x1, .f32⟩
  | .hbm, ⟨70, _⟩ => ⟨S_, .f32⟩
  | .hbm, ⟨71, _⟩ => ⟨S128x1, .f32⟩
  | .hbm, ⟨72, _⟩ => ⟨S128x1, .f32⟩
  | .hbm, ⟨73, _⟩ => ⟨S_, .f32⟩
  | .hbm, ⟨74, _⟩ => ⟨S128x1, .f32⟩
  | .hbm, ⟨75, _⟩ => ⟨S128x1, .f32⟩
  | .hbm, ⟨76, _⟩ => ⟨S128x1, .f32⟩
  | .hbm, ⟨77, _⟩ => ⟨S128x2048, .f32⟩
  | .hbm, ⟨78, _⟩ => ⟨S128x2048, .f32⟩
  | .hbm, ⟨79, _⟩ => ⟨S128x2048, .f32⟩
  | .hbm, ⟨80, _⟩ => ⟨S128x2048, .f32⟩
  | .hbm, ⟨81, _⟩ => ⟨S128x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call1_cst : Ref sig .tc := ⟨.hbm, 61, rfl⟩
abbrev main_call1_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== InP.lean ====
abbrev S8192x2048 : Shape := ⟨2, ![8192, 2048]⟩
abbrev S1x2048 : Shape := ⟨2, ![1, 2048]⟩
abbrev S2048x4096 : Shape := ⟨2, ![2048, 4096]⟩
abbrev S2048x1024 : Shape := ⟨2, ![2048, 1024]⟩
abbrev S2048x128 : Shape := ⟨2, ![2048, 128]⟩
abbrev S8 : Shape := ⟨1, ![8]⟩
abbrev S1x8 : Shape := ⟨2, ![1, 8]⟩
abbrev S_ : Shape := ⟨0, ![]⟩
abbrev S1x128 : Shape := ⟨2, ![1, 128]⟩
abbrev S8192x4096 : Shape := ⟨2, ![8192, 4096]⟩
abbrev S8192x1024 : Shape := ⟨2, ![8192, 1024]⟩
abbrev S8192x128 : Shape := ⟨2, ![8192, 128]⟩
abbrev S1024x2048 : Shape := ⟨2, ![1024, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩
abbrev S8192x16 : Shape := ⟨2, ![8192, 16]⟩
abbrev S4x2048x4096 : Shape := ⟨3, ![4, 2048, 4096]⟩
abbrev S4x3x3072 : Shape := ⟨3, ![4, 3, 3072]⟩
abbrev S4x2048x1024 : Shape := ⟨3, ![4, 2048, 1024]⟩
abbrev S4x15x1024 : Shape := ⟨3, ![4, 15, 1024]⟩

abbrev nBuf : Space → Nat
  | .hbm => 23
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4096, .bf16⟩
  | .hbm, ⟨3, _⟩ => ⟨S2048x1024, .bf16⟩
  | .hbm, ⟨4, _⟩ => ⟨S2048x128, .bf16⟩
  | .hbm, ⟨5, _⟩ => ⟨S8, .f32⟩
  | .hbm, ⟨6, _⟩ => ⟨S8, .f32⟩
  | .hbm, ⟨7, _⟩ => ⟨S1x8, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S1x8, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S8192x4096, .f32⟩
  | .hbm, ⟨16, _⟩ => ⟨S8192x1024, .f32⟩
  | .hbm, ⟨17, _⟩ => ⟨S8192x128, .f32⟩
  | .hbm, ⟨18, _⟩ => ⟨S8192x16, .f32⟩
  | .hbm, ⟨19, _⟩ => ⟨S4x2048x4096, .f32⟩
  | .hbm, ⟨20, _⟩ => ⟨S4x3x3072, .f32⟩
  | .hbm, ⟨21, _⟩ => ⟨S4x2048x1024, .f32⟩
  | .hbm, ⟨22, _⟩ => ⟨S4x15x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x128, .bf16⟩
  | .local _ .vmem, ⟨7, _⟩ => ⟨S1x128, .f32⟩
  | .local _ .vmem, ⟨8, _⟩ => ⟨S1x128, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x128, .f32⟩
  | .local _ .vmem, ⟨14, _⟩ => ⟨S1024x128, .f32⟩
  | .local _ .vmem, ⟨15, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c4_i32 : BitVec 32 := 4#32
  let v4 : BitVec 1 := Scalar.cmpi .slt arg1 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c4_i32_3 : BitVec 32 := 4#32
  let v8 : BitVec 1 := Scalar.cmpi .eq arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== InRefIdeal.lean ====
abbrev S8192x2048 : Shape := ⟨2, ![8192, 2048]⟩
abbrev S1x2048 : Shape := ⟨2, ![1, 2048]⟩
abbrev S2048x4096 : Shape := ⟨2, ![2048, 4096]⟩
abbrev S2048x1024 : Shape := ⟨2, ![2048, 1024]⟩
abbrev S2048x128 : Shape := ⟨2, ![2048, 128]⟩
abbrev S8 : Shape := ⟨1, ![8]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S8192x1024 : Shape := ⟨2, ![8192, 1024]⟩
abbrev S8192x128 : Shape := ⟨2, ![8192, 128]⟩
abbrev S8192x8 : Shape := ⟨2, ![8192, 8]⟩
abbrev S1x8 : Shape := ⟨2, ![1, 8]⟩
abbrev S4x2048x4096 : Shape := ⟨3, ![4, 2048, 4096]⟩
abbrev S4x3x3072 : Shape := ⟨3, ![4, 3, 3072]⟩
abbrev S4x2048x1024 : Shape := ⟨3, ![4, 2048, 1024]⟩
abbrev S4x15x1024 : Shape := ⟨3, ![4, 15, 1024]⟩
abbrev S8192x16 : Shape := ⟨2, ![8192, 16]⟩

abbrev nBuf : Space → Nat
  | .hbm => 65
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4096, .bf16⟩
  | .hbm, ⟨3, _⟩ => ⟨S2048x1024, .bf16⟩
  | .hbm, ⟨4, _⟩ => ⟨S2048x128, .bf16⟩
  | .hbm, ⟨5, _⟩ => ⟨S8, .f32⟩
  | .hbm, ⟨6, _⟩ => ⟨S8, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S2048x4096, .f32⟩
  | .hbm, ⟨23, _⟩ => ⟨S8192x4096, .f32⟩
  | .hbm, ⟨24, _⟩ => ⟨S2048x1024, .f32⟩
  | .hbm, ⟨25, _⟩ => ⟨S8192x1024, .f32⟩
  | .hbm, ⟨26, _⟩ => ⟨S2048x128, .f32⟩
  | .hbm, ⟨27, _⟩ => ⟨S8192x128, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S8192x8, .f32⟩
  | .hbm, ⟨32, _⟩ => ⟨S_, .f32⟩
  | .hbm, ⟨33, _⟩ => ⟨S8192x8, .f32⟩
  | .hbm, ⟨34, _⟩ => ⟨S8192x8, .f32⟩
  | .hbm, ⟨35, _⟩ => ⟨S_, .f32⟩
  | .hbm, ⟨36, _⟩ => ⟨S8192x8, .f32⟩
  | .hbm, ⟨37, _⟩ => ⟨S8192x8, .f32⟩
  | .hbm, ⟨38, _⟩ => ⟨S8, .f32⟩
  | .hbm, ⟨39, _⟩ => ⟨S8, .f32⟩
  | .hbm, ⟨40, _⟩ => ⟨S1x8, .f32⟩
  | .hbm, ⟨41, _⟩ => ⟨S8192x8, .f32⟩
  | .hbm, ⟨42, _⟩ => ⟨S8192x8, .f32⟩
  | .hbm, ⟨43, _⟩ => ⟨S_, .f32⟩
  | .hbm, ⟨44, _⟩ => ⟨S8192x8, .f32⟩
  | .hbm, ⟨45, _⟩ => ⟨S8192x8, .f32⟩
  | .hbm, ⟨46, _⟩ => ⟨S8192x8, .f32⟩
  | .hbm, ⟨47, _⟩ => ⟨S8192x8, .f32⟩
  | .hbm, ⟨48, _⟩ => ⟨S8192x8, .i1⟩
  | .hbm, ⟨49, _⟩ => ⟨S8192x8, .f32⟩
  | .hbm, ⟨50, _⟩ => ⟨S8192x8, .f32⟩
  | .hbm, ⟨51, _⟩ => ⟨S8192x8, .f32⟩
  | .hbm, ⟨52, _⟩ => ⟨S8192x8, .f32⟩
  | .hbm, ⟨53, _⟩ => ⟨S8192x8, .f32⟩
  | .hbm, ⟨54, _⟩ => ⟨S8192x8, .f32⟩
  | .hbm, ⟨55, _⟩ => ⟨S8192x8, .f32⟩
  | .hbm, ⟨56, _⟩ => ⟨S8192x8, .f32⟩
  | .hbm, ⟨57, _⟩ => ⟨S1x8, .f32⟩
  | .hbm, ⟨58, _⟩ => ⟨S8192x8, .f32⟩
  | .hbm, ⟨59, _⟩ => ⟨S8192x8, .f32⟩
  | .hbm, ⟨60, _⟩ => ⟨S4x2048x4096, .f32⟩
  | .hbm, ⟨61, _⟩ => ⟨S4x3x3072, .f32⟩
  | .hbm, ⟨62, _⟩ => ⟨S4x2048x1024, .f32⟩
  | .hbm, ⟨63, _⟩ => ⟨S4x15x1024, .f32⟩
  | .hbm, ⟨64, _⟩ => ⟨S8192x16, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]
-- ==== MixS.lean ====
abbrev S128x1024 : Shape := ⟨2, ![128, 1024]⟩
abbrev S128x15x1024 : Shape := ⟨3, ![128, 15, 1024]⟩
abbrev S128x2048 : Shape := ⟨2, ![128, 2048]⟩
abbrev S4x256x256 : Shape := ⟨3, ![4, 256, 256]⟩
abbrev S1x1024 : Shape := ⟨2, ![1, 1024]⟩
abbrev S2048x2048 : Shape := ⟨2, ![2048, 2048]⟩
abbrev S1x2048 : Shape := ⟨2, ![1, 2048]⟩
abbrev S15x128x1024 : Shape := ⟨3, ![15, 128, 1024]⟩
abbrev S1x128x1024 : Shape := ⟨3, ![1, 128, 1024]⟩
abbrev S128x128 : Shape := ⟨2, ![128, 128]⟩
abbrev S1024x512 : Shape := ⟨2, ![1024, 512]⟩
abbrev S128x512 : Shape := ⟨2, ![128, 512]⟩
abbrev S1x128x128 : Shape := ⟨3, ![1, 128, 128]⟩
abbrev S128x256 : Shape := ⟨2, ![128, 256]⟩
abbrev S1x256x256 : Shape := ⟨3, ![1, 256, 256]⟩
abbrev S256x256 : Shape := ⟨2, ![256, 256]⟩
abbrev S1x256 : Shape := ⟨2, ![1, 256]⟩
abbrev S128 : Shape := ⟨1, ![128]⟩
abbrev S128x1 : Shape := ⟨2, ![128, 1]⟩
abbrev S1x512 : Shape := ⟨2, ![1, 512]⟩

abbrev nBuf : Space → Nat
  | .hbm => 11
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x15x1024, .f32⟩
  | .hbm, ⟨3, _⟩ => ⟨S128x2048, .f32⟩
  | .hbm, ⟨4, _⟩ => ⟨S4x256x256, .bf16⟩
  | .hbm, ⟨5, _⟩ => ⟨S1x1024, .f32⟩
  | .hbm, ⟨6, _⟩ => ⟨S2048x2048, .bf16⟩
  | .hbm, ⟨7, _⟩ => ⟨S1x2048, .f32⟩
  | .hbm, ⟨8, _⟩ => ⟨S15x128x1024, .f32⟩
  | .hbm, ⟨9, _⟩ => ⟨S128x2048, .f32⟩
  | .hbm, ⟨10, _⟩ => ⟨S15x128x1024, .f32⟩
  | .local _ .vmem, ⟨0, _⟩ => ⟨S128x1024, .f32⟩
  | .local _ .vmem, ⟨1, _⟩ => ⟨S128x1024, .f32⟩
  | .local _ .vmem, ⟨2, _⟩ => ⟨S15x128x1024, .f32⟩
  | .local _ .vmem, ⟨3, _⟩ => ⟨S128x2048, .f32⟩
  | .local _ .vmem, ⟨4, _⟩ => ⟨S4x256x256, .bf16⟩
  | .local _ .vmem, ⟨5, _⟩ => ⟨S1x1024, .f32⟩
  | .local _ .vmem, ⟨6, _⟩ => ⟨S2048x2048, .bf16⟩
  | .local _ .vmem, ⟨7, _⟩ => ⟨S1x2048, .f32⟩
  | .local _ .vmem, ⟨8, _⟩ => ⟨S128x2048, .f32⟩
  | .local _ .vmem, ⟨9, _⟩ => ⟨S15x128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S15x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S15x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== MixRefIdeal.lean ====
abbrev S128x1024 : Shape := ⟨2, ![128, 1024]⟩
abbrev S128x15x1024 : Shape := ⟨3, ![128, 15, 1024]⟩
abbrev S128x2048 : Shape := ⟨2, ![128, 2048]⟩
abbrev S4x256x256 : Shape := ⟨3, ![4, 256, 256]⟩
abbrev S1x1024 : Shape := ⟨2, ![1, 1024]⟩
abbrev S2048x2048 : Shape := ⟨2, ![2048, 2048]⟩
abbrev S1x2048 : Shape := ⟨2, ![1, 2048]⟩
abbrev S128x1x1024 : Shape := ⟨3, ![128, 1, 1024]⟩
abbrev S128x16x1024 : Shape := ⟨3, ![128, 16, 1024]⟩
abbrev S_ : Shape := ⟨0, ![]⟩
abbrev S128x17x1024 : Shape := ⟨3, ![128, 17, 1024]⟩
abbrev S1 : Shape := ⟨1, ![1]⟩
abbrev S128x1x256 : Shape := ⟨3, ![128, 1, 256]⟩
abbrev S1x1x1 : Shape := ⟨3, ![1, 1, 1]⟩
abbrev S128x1x1x256 : Shape := ⟨4, ![128, 1, 1, 256]⟩
abbrev S128x1x4x256 : Shape := ⟨4, ![128, 1, 4, 256]⟩
abbrev S4x256x128x1 : Shape := ⟨4, ![4, 256, 128, 1]⟩
abbrev S128 : Shape := ⟨1, ![128]⟩
abbrev S128x1 : Shape := ⟨2, ![128, 1]⟩
abbrev S15x128x1024 : Shape := ⟨3, ![15, 128, 1024]⟩

abbrev nBuf : Space → Nat
  | .hbm => 113
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x15x1024, .f32⟩
  | .hbm, ⟨3, _⟩ => ⟨S128x2048, .f32⟩
  | .hbm, ⟨4, _⟩ => ⟨S4x256x256, .bf16⟩
  | .hbm, ⟨5, _⟩ => ⟨S1x1024, .f32⟩
  | .hbm, ⟨6, _⟩ => ⟨S2048x2048, .bf16⟩
  | .hbm, ⟨7, _⟩ => ⟨S1x2048, .f32⟩
  | .hbm, ⟨8, _⟩ => ⟨S128x1x1024, .f32⟩
  | .hbm, ⟨9, _⟩ => ⟨S128x16x1024, .f32⟩
  | .hbm, ⟨10, _⟩ => ⟨S_, .f32⟩
  | .hbm, ⟨11, _⟩ => ⟨S128x1x1024, .f32⟩
  | .hbm, ⟨12, _⟩ => ⟨S_, .f32⟩
  | .hbm, ⟨13, _⟩ => ⟨S_, .f32⟩
  | .hbm, ⟨14, _⟩ => ⟨S128x16x1024, .f32⟩
  | .hbm, ⟨15, _⟩ => ⟨S128x17x1024, .f32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S128x1x1024, .f32⟩
  | .hbm, ⟨21, _⟩ => ⟨S128x1x256, .f32⟩
  | .hbm, ⟨22, _⟩ => ⟨S128x1x256, .f32⟩
  | .hbm, ⟨23, _⟩ => ⟨S128x1x256, .f32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S1, .i32⟩
  | .hbm, ⟨30, _⟩ => ⟨S1, .f32⟩
  | .hbm, ⟨31, _⟩ => ⟨S1x1x1, .f32⟩
  | .hbm, ⟨32, _⟩ => ⟨S128x1x256, .f32⟩
  | .hbm, ⟨33, _⟩ => ⟨S128x1x256, .f32⟩
  | .hbm, ⟨34, _⟩ => ⟨S128x1x256, .f32⟩
  | .hbm, ⟨35, _⟩ => ⟨S128x1x256, .f32⟩
  | .hbm, ⟨36, _⟩ => ⟨S128x1x256, .f32⟩
  | .hbm, ⟨37, _⟩ => ⟨S128x1x256, .f32⟩
  | .hbm, ⟨38, _⟩ => ⟨S128x1x256, .f32⟩
  | .hbm, ⟨39, _⟩ => ⟨S_, .i32⟩
  | .hbm, ⟨40, _⟩ => ⟨S1, .i32⟩
  | .hbm, ⟨41, _⟩ => ⟨S1, .i32⟩
  | .hbm, ⟨42, _⟩ => ⟨S_, .i32⟩
  | .hbm, ⟨43, _⟩ => ⟨S1, .i32⟩
  | .hbm, ⟨44, _⟩ => ⟨S1, .i32⟩
  | .hbm, ⟨45, _⟩ => ⟨S1, .f32⟩
  | .hbm, ⟨46, _⟩ => ⟨S1x1x1, .f32⟩
  | .hbm, ⟨47, _⟩ => ⟨S128x1x256, .f32⟩
  | .hbm, ⟨48, _⟩ => ⟨S128x1x256, .f32⟩
  | .hbm, ⟨49, _⟩ => ⟨S128x1x256, .f32⟩
  | .hbm, ⟨50, _⟩ => ⟨S128x1x256, .f32⟩
  | .hbm, ⟨51, _⟩ => ⟨S128x1x256, .f32⟩
  | .hbm, ⟨52, _⟩ => ⟨S128x1x256, .f32⟩
  | .hbm, ⟨53, _⟩ => ⟨S128x1x256, .f32⟩
  | .hbm, ⟨54, _⟩ => ⟨S_, .i32⟩
  | .hbm, ⟨55, _⟩ => ⟨S1, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S1, .i32⟩
  | .hbm, ⟨60, _⟩ => ⟨S1, .f32⟩
  | .hbm, ⟨61, _⟩ => ⟨S1x1x1, .f32⟩
  | .hbm, ⟨62, _⟩ => ⟨S128x1x256, .f32⟩
  | .hbm, ⟨63, _⟩ => ⟨S128x1x256, .f32⟩
  | .hbm, ⟨64, _⟩ => ⟨S128x1x256, .f32⟩
  | .hbm, ⟨65, _⟩ => ⟨S128x1x256, .f32⟩
  | .hbm, ⟨66, _⟩ => ⟨S128x1x256, .f32⟩
  | .hbm, ⟨67, _⟩ => ⟨S128x1x256, .f32⟩
  | .hbm, ⟨68, _⟩ => ⟨S128x1x256, .f32⟩
  | .hbm, ⟨69, _⟩ => ⟨S_, .i32⟩
  | .hbm, ⟨70, _⟩ => ⟨S1, .i32⟩
  | .hbm, ⟨71, _⟩ => ⟨S1, .i32⟩
  | .hbm, ⟨72, _⟩ => ⟨S_, .i32⟩
  | .hbm, ⟨73, _⟩ => ⟨S1, .i32⟩
  | .hbm, ⟨74, _⟩ => ⟨S1, .i32⟩
  | .hbm, ⟨75, _⟩ => ⟨S1, .f32⟩
  | .hbm, ⟨76, _⟩ => ⟨S1x1x1, .f32⟩
  | .hbm, ⟨77, _⟩ => ⟨S128x1x256, .f32⟩
  | .hbm, ⟨78, _⟩ => ⟨S128x1x256, .f32⟩
  | .hbm, ⟨79, _⟩ => ⟨S128x1x256, .f32⟩
  | .hbm, ⟨80, _⟩ => ⟨S128x1x256, .f32⟩
  | .hbm, ⟨81, _⟩ => ⟨S128x1x1x256, .f32⟩
  | .hbm, ⟨82, _⟩ => ⟨S128x1x1x256, .f32⟩
  | .hbm, ⟨83, _⟩ => ⟨S128x1x1x256, .f32⟩
  | .hbm, ⟨84, _⟩ => ⟨S128x1x1x256, .f32⟩
  | .hbm, ⟨85, _⟩ => ⟨S128x1x4x256, .f32⟩
  | .hbm, ⟨86, _⟩ => ⟨S4x256x256, .f32⟩
  | .hbm, ⟨87, _⟩ => ⟨S4x256x128x1, .f32⟩
  | .hbm, ⟨88, _⟩ => ⟨S128x1x4x256, .f32⟩
  | .hbm, ⟨89, _⟩ => ⟨S128x1024, .f32⟩
  | .hbm, ⟨90, _⟩ => ⟨S128x1024, .f32⟩
  | .hbm, ⟨91, _⟩ => ⟨S128x1024, .f32⟩
  | .hbm, ⟨92, _⟩ => ⟨S128x2048, .f32⟩
  | .hbm, ⟨93, _⟩ => ⟨S2048x2048, .f32⟩
  | .hbm, ⟨94, _⟩ => ⟨S128x2048, .f32⟩
  | .hbm, ⟨95, _⟩ => ⟨S128x2048, .f32⟩
  | .hbm, ⟨96, _⟩ => ⟨S_, .f32⟩
  | .hbm, ⟨97, _⟩ => ⟨S128, .f32⟩
  | .hbm, ⟨98, _⟩ => ⟨S128x1, .f32⟩
  | .hbm, ⟨99, _⟩ => ⟨S_, .f32⟩
  | .hbm, ⟨100, _⟩ => ⟨S128x1, .f32⟩
  | .hbm, ⟨101, _⟩ => ⟨S128x1, .f32⟩
  | .hbm, ⟨102, _⟩ => ⟨S_, .f32⟩
  | .hbm, ⟨103, _⟩ => ⟨S128x1, .f32⟩
  | .hbm, ⟨104, _⟩ => ⟨S128x1, .f32⟩
  | .hbm, ⟨105, _⟩ => ⟨S128x1, .f32⟩
  | .hbm, ⟨106, _⟩ => ⟨S128x2048, .f32⟩
  | .hbm, ⟨107, _⟩ => ⟨S128x2048, .f32⟩
  | .hbm, ⟨108, _⟩ => ⟨S128x2048, .f32⟩
  | .hbm, ⟨109, _⟩ => ⟨S128x2048, .f32⟩
  | .hbm, ⟨110, _⟩ => ⟨S128x2048, .f32⟩
  | .hbm, ⟨111, _⟩ => ⟨S128x15x1024, .f32⟩
  | .hbm, ⟨112, _⟩ => ⟨S15x128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_call0_call0_cst : Ref sig .tc := ⟨.hbm, 12, rfl⟩
abbrev main_call0_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_4 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_6 : Ref sig .tc := ⟨.hbm, 69, rfl⟩
abbrev main_v51 : Ref sig .tc := ⟨.hbm, 70, rfl⟩
abbrev main_v52 : Ref sig .tc := ⟨.hbm, 71, rfl⟩
abbrev main_c_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_8 : Ref sig .tc := ⟨.hbm, 96, rfl⟩
abbrev main_v76 : Ref sig .tc := ⟨.hbm, 97, rfl⟩
abbrev main_v77 : Ref sig .tc := ⟨.hbm, 98, rfl⟩
abbrev main_cst_9 : Ref sig .tc := ⟨.hbm, 99, rfl⟩
abbrev main_v78 : Ref sig .tc := ⟨.hbm, 100, rfl⟩
abbrev main_v79 : Ref sig .tc := ⟨.hbm, 101, rfl⟩
abbrev main_cst_10 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩

abbrev nD : Nat := 1
abbrev τ : Topo := Topo.v7x

variable {F : FTy → Type} [FloatOps F]
-- ==== Proof.Tile.lean ====
module

public import proofs.«01_k».proof.Proof.Gen.KernelIdeal.Skeleton

/-! The token job of one grid point, written once for a token row `t` and a head `h`: the vectors the
    kernel body builds for that pair, and the lists of the blocks it stores. -/

@[expose] public section

noncomputable section

namespace Cert.Tile
open Cert.KernelIdeal Cert.KernelIdeal.Gen
open Idealize.ShloMosaic
open Idealize.SL.Sem

variable {F : FTy → Type} [FloatOps F]

theorem headSlice (o : ℕ) (ho : o + 128 ≤ 3072) : S8x3072.Slices ![0, o] S8x128 :=
  ⟨rfl, fun a => by match a with
    | 0 => exact le_refl 8
    | 1 => exact ho⟩

theorem rowSlice (t o : ℕ) (ht : t + 1 ≤ 8) (ho : o + 128 ≤ 3072) : S8x3072.Slices ![t, o] S1x128 :=
  ⟨rfl, fun a => by match a with
    | 0 => exact ht
    | 1 => exact ho⟩

theorem rowOfHead (t : ℕ) (ht : t + 1 ≤ 8) : S8x128.Slices ![t, 0] S1x128 :=
  ⟨rfl, fun a => by match a with
    | 0 => exact ht
    | 1 => exact le_refl 128⟩

theorem gateSlice (t o : ℕ) (ht : t + 1 ≤ 8) (ho : o + 1 ≤ 128) : S8x128.Slices ![t, o] S1x1 :=
  ⟨rfl, fun a => by match a with
    | 0 => exact ht
    | 1 => exact ho⟩

theorem zSlice (t o : ℕ) (ht : t + 1 ≤ 8) (ho : o + 128 ≤ 4096) : S8x4096.Slices ![t, o] S1x128 :=
  ⟨rfl, fun a => by match a with
    | 0 => exact ht
    | 1 => exact ho⟩

theorem inbOut (t h : Fin 8) : ∀ a, (![t.val, 128 * h.val] : Fin 2 → Nat) a + S1x128.size a ≤ S8x1024.size a
  | 0 => show t.val + 1 ≤ 8 by omega
  | 1 => show 128 * h.val + 128 ≤ 1024 by omega

theorem inbState (t h : Fin 8) :
    ∀ a, (![t.val, h.val, 0, 0] : Fin 4 → Nat) a + S1x1x128x128.size a ≤ S8x8x128x128.size a
  | 0 => show t.val + 1 ≤ 8 by omega
  | 1 => show h.val + 1 ≤ 8 by omega
  | 2 => le_refl 128
  | 3 => le_refl 128

/-- The columns from `o` of the activated projection, each row scaled to unit length times `sc`. -/
def unitHead (sc : BitVec 32) (o : ℕ) (ho : o + 128 ≤ 3072) (a : FVec F S8x3072 .f32) : FVec F S8x128 .f32 :=
  have v79 : FVec F S8x128 .f32 := extractStridedSlice S8x128 ![0, o] a (headSlice o ho)
  mulf v79 (broadcastTo S8x128
    (mulf (rsqrt (addf (shapeCast S8x1
      (multiReduction .add [1] S8 (mulf v79 v79) 0x00000000#32 reduces_S8x128_S8 (.inl rfl) rfl) shapeCasts_S8_S8x1)
      (broadcast S8x1 (Scalar.ofBits .f32 0x358637BD#32)))) (broadcast S8x1 (Scalar.ofBits .f32 sc)))
    broadcasts_S8x1_S8x128)

/-- One row of such a head, stood upright and repeated over all columns. -/
def upright (t : Fin 8) (q : FVec F S8x128 .f32) : FVec F S128x128 .f32 :=
  transpose S128x128 [1, 0] (broadcastTo S128x128 (shapeCast S1x128
    (extractStridedSlice S1x128 ![t.val, 0] q (rowOfHead t t.2)) shapeCasts_S1x128_S1x128)
    broadcasts_S1x128_S128x128) transposes_S128x128_p1_0_S128x128

/-- The state of token `t` and head `h` after its decay. -/
def faded (t h : Fin 8) (g : Vec F S8x128 .f32) (s : Vec F S1x1x128x128 .f32) : FVec F S128x128 .f32 :=
  mulf (shapeCast S128x128 s shapeCasts_S1x1x128x128_S128x128)
    (broadcastTo S128x128 (extractStridedSlice S1x1 ![t.val, h.val] (exp g) (gateSlice t h t.2 (by omega)))
      broadcasts_S1x1_S128x128)

/-- The key of head `h` in token `t`, upright. -/
def keyCol (t h : Fin 8) (a : FVec F S8x3072 .f32) : FVec F S128x128 .f32 :=
  upright t (unitHead 0x3F800000#32 (1024 + 128 * h.val) (by omega) a)

/-- The query of head `h` in token `t`, upright. -/
def queryCol (t h : Fin 8) (a : FVec F S8x3072 .f32) : FVec F S128x128 .f32 :=
  upright t (unitHead 0x3DB504F3#32 (128 * h.val) (by omega) a)

/-- The correction row of token `t` and head `h`. -/
def correction (t h : Fin 8) (a : FVec F S8x3072 .f32) (g : Vec F S8x128 .f32) (s : Vec F S1x1x128x128 .f32) :
    FVec F S1x128 .f32 :=
  mulf (subf (extractStridedSlice S1x128 ![t.val, 2048 + 128 * h.val] a (rowSlice t _ t.2 (by omega)))
    (shapeCast S1x128 (multiReduction .add [0] S128 (mulf (faded t h g s) (keyCol t h a)) 0x00000000#32
      reduces_S128x128_S128 (.inl rfl) rfl) shapeCasts_S128_S1x128))
    (broadcastTo S1x128 (extractStridedSlice S1x1 ![t.val, 8 + h.val] g (gateSlice t _ t.2 (by omega)))
      broadcasts_S1x1_S1x128)

/-- The new state of token `t` and head `h`. -/
def renewed (t h : Fin 8) (a : FVec F S8x3072 .f32) (g : Vec F S8x128 .f32) (s : Vec F S1x1x128x128 .f32) :
    FVec F S128x128 .f32 :=
  addf (faded t h g s) (mulf (keyCol t h a)
    (broadcastTo S128x128 (correction t h a g s) broadcasts_S1x128_S128x128))

/-- The block the body stores as that new state. -/
def stateBlock (t h : Fin 8) (a : FVec F S8x3072 .f32) (g : Vec F S8x128 .f32) (s : Vec F S1x1x128x128 .f32) :
    FVec F S1x1x128x128 .f32 :=
  shapeCast S1x1x128x128 (renewed t h a g s) shapeCasts_S128x128_S1x1x128x128

/-- The read-out row of token `t` and head `h`. -/
def answer (t h : Fin 8) (a : FVec F S8x3072 .f32) (g : Vec F S8x128 .f32) (s : Vec F S1x1x128x128 .f32) :
    FVec F S1x128 .f32 :=
  shapeCast S1x128 (multiReduction .add [0] S128 (mulf (renewed t h a g s) (queryCol t h a)) 0x00000000#32
      reduces_S128x128_S128 (.inl rfl) rfl) shapeCasts_S128_S1x128

/-- The half of the gate columns of token `t` and head `h`. -/
def halfGate (t h : Fin 8) (x : Vec F S8x4096 .f32) : FVec F S1x128 .f32 :=
  mulf (broadcast S1x128 (Scalar.ofBits .f32 0x3F000000#32))
    (extractStridedSlice S1x128 ![t.val, 3072 + 128 * h.val] x (zSlice t _ t.2 (by omega)))

/-- The row the body stores as the layer's output for token `t` and head `h`. -/
def outRow (t h : Fin 8) (x : Vec F S8x4096 .f32) (w : Vec F S1x128 .f32) (o : FVec F S1x128 .f32) :
    FVec F S1x128 .f32 :=
  mulf (mulf (mulf o (broadcastTo S1x128 (rsqrt (addf (divf (shapeCast S1x1
    (multiReduction .add [1] S1 (mulf o o) 0x00000000#32 reduces_S1x128_S1 (.inl rfl) rfl) shapeCasts_S1_S1x1)
    (broadcast S1x1 (Scalar.ofBits .f32 0x43000000#32)))
    (broadcast S1x1 (Scalar.ofBits .f32 0x358637BD#32)))) broadcasts_S1x1_S1x128)) w)
    (addf (halfGate t h x) (mulf (halfGate t h x) (tanh (halfGate t h x))))

/-- The stored blocks of a function of the token and the head, the last stored first. -/
def overAll {α : Type} (p : Fin 8 → Fin 8 → α) : List α :=
  [7, 6, 5, 4, 3, 2, 1, 0].flatMap fun t : Fin 8 => [7, 6, 5, 4, 3, 2, 1, 0].map fun h : Fin 8 => p t h

theorem exists_overAll {α : Type} {p : Fin 8 → Fin 8 → α} {P : α → Prop} (t h : Fin 8) (hP : P (p t h)) :
    ∃ a ∈ overAll p, P a := by
  refine ⟨p t h, List.mem_flatMap.2 ⟨t, ?_, List.mem_map.2 ⟨h, ?_, rfl⟩⟩, hP⟩ <;> fin_cases t <;> fin_cases h <;> decide

theorem of_mem_overAll {α : Type} {p : Fin 8 → Fin 8 → α} {a : α} (ha : a ∈ overAll p) : ∃ t h, a = p t h := by
  obtain ⟨t, -, ha⟩ := List.mem_flatMap.1 ha
  obtain ⟨h, -, rfl⟩ := List.mem_map.1 ha
  exact ⟨t, h, rfl⟩

/-- The blocks of the state window. -/
def statePieces (a : FVec F S8x3072 .f32) (g : Vec F S8x128 .f32) (S : Fin 8 → Fin 8 → Vec F S1x1x128x128 .f32) :
    List (View.Piece (Elt F) S8x8x128x128 .f32) :=
  overAll fun t h => ⟨Rect.unit ![t.val, h.val, 0, 0] S1x1x128x128.size (inbState t h), stateBlock t h a g (S t h)⟩

/-- The blocks of the token output window. -/
def outPieces (x : Vec F S8x4096 .f32) (a : FVec F S8x3072 .f32) (g : Vec F S8x128 .f32) (w : Vec F S1x128 .f32)
    (S : Fin 8 → Fin 8 → Vec F S1x1x128x128 .f32) : List (View.Piece (Elt F) S8x1024 .f32) :=
  overAll fun t h => ⟨Rect.unit ![t.val, 128 * h.val] S1x128.size (inbOut t h),
    outRow t h x w (answer t h a g (S t h))⟩

end Cert.Tile

end

end
-- ==== Proof.Blend.lean ====
module

public import proofs.«01_k».proof.Proof.Gen.KernelIdeal.Skeleton

/-! The pooling and output mixing of one grid point, written once for a strip of 128 columns, a group
    of two strips, and a chunk of 512 output columns; and the lists of the blocks that the body stores. -/

@[expose] public section

noncomputable section

namespace Cert.Blend
open Cert.KernelIdeal Cert.KernelIdeal.Gen
open Idealize.ShloMosaic
open Idealize.SL.Sem

variable {F : FTy → Type} [FloatOps F]

theorem inbHalo (s : Fin 8) : ∀ a, (![s.val, 0, 0] : Fin 3 → Nat) a + S1x16x128.size a ≤ S8x528x128.size a
  | 0 => show s.val + 1 ≤ 8 by omega
  | 1 => show 0 + 16 ≤ 528 by omega
  | 2 => le_refl 128

theorem inbShift (s : Fin 8) (r : ℕ) :
    ∀ a, (![s.val, 16 - r, 0] : Fin 3 → Nat) a + S1x512x128.size a ≤ S8x528x128.size a
  | 0 => show s.val + 1 ≤ 8 by omega
  | 1 => show 16 - r + 512 ≤ 528 by omega
  | 2 => le_refl 128

theorem inbChunk (n : Fin 4) : ∀ a, (![0, 512 * n.val] : Fin 2 → Nat) a + S512x512.size a ≤ S512x2048.size a
  | 0 => le_refl 512
  | 1 => show 512 * n.val + 512 ≤ 2048 by omega

/-- The start of the tile in its sequence, as the body computes it from the grid coordinate. -/
def startWord (i : BitVec 32) : BitVec 32 :=
  let v3522 : BitVec 32 := Scalar.remsi (Scalar.muli i 512#32) 2048#32
  Scalar.select (Scalar.andi (Scalar.xori (Scalar.cmpi .slt v3522 0#32) (Scalar.cmpi .slt 2048#32 0#32))
    (Scalar.cmpi .ne v3522 0#32)) (Scalar.addi v3522 2048#32) v3522

/-- The same start where the divisor's sign has already been used. -/
def startWord' (i : BitVec 32) : BitVec 32 :=
  let v3522 : BitVec 32 := Scalar.remsi (Scalar.muli i 512#32) 2048#32
  Scalar.select 0#1 (Scalar.addi v3522 2048#32) v3522

/-- The rows before the tile, or zeros at the start of a sequence. -/
def halo (w : BitVec 32) (hist : Vec F S16x128 .f32) : FVec F S1x16x128 .f32 :=
  shapeCast S1x16x128 (Scalar.select (Scalar.cmpi .sgt w 0#32) hist
    (broadcast S16x128 (Scalar.ofBits .f32 0x00000000#32) : FVec F S16x128 .f32)) shapeCasts_S16x128_S1x16x128

/-- The strip's own rows, behind its halo. -/
def body (u : Vec F S512x128 .f32) : FVec F S1x512x128 .f32 :=
  shapeCast S1x512x128 u shapeCasts_S512x128_S1x512x128

/-- The blocks stored in the extended strips, the last stored first. -/
def extPieces (w : Fin 8 → BitVec 32) (U : Fin 8 → Vec F S512x128 .f32) (H : Fin 8 → Vec F S16x128 .f32) :
    List (View.Piece (Elt F) S8x528x128 .f32) :=
  [7, 6, 5, 4, 3, 2, 1, 0].flatMap fun s : Fin 8 =>
    [⟨Rect.unit ![s.val, 16 - 0, 0] S1x512x128.size (inbShift s 0), body (U s)⟩,
     ⟨Rect.unit ![s.val, 0, 0] S1x16x128.size (inbHalo s), halo (w s) (H s)⟩]

/-- The row's own value and the `n` before it, added up. -/
def windowSum (u : Vec F S512x128 .f32) (E : ℕ → Vec F S1x512x128 .f32) : ℕ → FVec F S512x128 .f32
  | 0 => u
  | n + 1 => addf (windowSum u E n) (shapeCast S512x128 (E (n + 1)) shapeCasts_S1x512x128_S512x128)

/-- The number of rows in the window of length `n`, as a float. -/
def counts (w : BitVec 32) (n : ℕ) : FVec F S512x128 .f32 :=
  sitofp .f32 (minsi (addi (addi (broadcast S512x128 (Scalar.addi 0#32 w) : IVec S512x128 32)
    (iota .tc S512x128 32 [0] iota_S512x128_d0_w32))
    (broadcast S512x128 1#32)) (broadcast S512x128 (BitVec.ofNat 32 n)))

/-- The pooled strip: the window's mean less the row itself. -/
def pooledStrip (w : BitVec 32) (n : ℕ) (u : Vec F S512x128 .f32) (E : ℕ → Vec F S1x512x128 .f32) :
    FVec F S512x128 .f32 :=
  subf (divf (windowSum u E (n - 1)) (counts w n)) u

/-- One group: two pooled strips times the group's matrix, scaled. -/
def group (p q : FVec F S512x128 .f32) (wp : Vec F S1x256x256 .bf16) (ps : Vec F S1x256 .f32) : FVec F S512x256 .bf16 :=
  truncf .bf16 (mulf (matmul dot_S512x256_S256x256_S512x256_1_0_0_1_n_n none
    (truncf .bf16 (concatenate S512x256 1 [⟨S512x128, p⟩, ⟨S512x128, q⟩] concatenates_S512x128_S512x128_S512x256_d1) bitsLt_bf16_f32)
    (shapeCast S256x256 wp shapeCasts_S1x256x256_S256x256) (constant S512x256 .f32 0x00000000#32 : FVec F S512x256 .f32))
    (broadcastTo S512x256 ps broadcasts_S1x256_S512x256)) bitsLt_bf16_f32

/-- The four groups side by side. -/
def groups (g : Fin 4 → FVec F S512x256 .bf16) : FVec F S512x1024 .bf16 :=
  concatenate S512x1024 1 [⟨S512x256, g 0⟩, ⟨S512x256, g 1⟩, ⟨S512x256, g 2⟩, ⟨S512x256, g 3⟩]
    concatenates_S512x256_S512x256_S512x256_S512x256_S512x1024_d1

/-- The product stored first in an output chunk. -/
def firstHalf (oa : Vec F S512x1024 .bf16) (wo : Vec F S1024x512 .bf16) : FVec F S512x512 .f32 :=
  matmul dot_S512x1024_S1024x512_S512x512_1_0_0_1_n_n none oa wo (constant S512x512 .f32 0x00000000#32 : FVec F S512x512 .f32)

/-- The mixed chunk: what was stored first, and the pooled half's product. -/
def mixChunk (ob : FVec F S512x1024 .bf16) (before : Vec F S512x512 .f32) (wo : Vec F S1024x512 .bf16) : FVec F S512x512 .f32 :=
  addf (shapeCast S512x512 before shapeCasts_S512x512_S512x512) (firstHalf ob wo)

/-- The sum of squares along each row of a chunk. -/
def squares (p : FVec F S512x512 .f32) : FVec F S512x1 .f32 :=
  shapeCast S512x1 (multiReduction .add [1] S512 (mulf p p) 0x00000000#32 reduces_S512x512_S512 (.inl rfl) rfl)
    shapeCasts_S512_S512x1

/-- One over the root of the mean square of each row. -/
def rootInv (p : Fin 4 → FVec F S512x512 .f32) : FVec F S512x1 .f32 :=
  rsqrt (addf (mulf (addf (addf (addf (addf (broadcast S512x1 (Scalar.ofBits .f32 0x00000000#32) : FVec F S512x1 .f32)
    (squares (p 0))) (squares (p 1))) (squares (p 2))) (squares (p 3)))
    (broadcast S512x1 (Scalar.ofBits .f32 0x3A000000#32)))
    (broadcast S512x1 (Scalar.ofBits .f32 0x358637BD#32)))

/-- The chunk stored last: the residual and the scaled mix. -/
def finalChunk (x : Vec F S512x512 .f32) (p : FVec F S512x512 .f32) (inv : FVec F S512x1 .f32) (nw : Vec F S1x512 .f32) :
    FVec F S512x512 .f32 :=
  addf x (mulf (mulf p (broadcastTo S512x512 inv broadcasts_S512x1_S512x512)) (broadcastTo S512x512 nw broadcasts_S1x512_S512x512))

/-- The four products stored first. -/
def firstPieces (oa : Vec F S512x1024 .bf16) (WA : Fin 4 → Vec F S1024x512 .bf16) :
    List (View.Piece (Elt F) S512x2048 .f32) :=
  [3, 2, 1, 0].map fun n : Fin 4 => ⟨Rect.unit ![0, 512 * n.val] S512x512.size (inbChunk n), firstHalf oa (WA n)⟩

/-- The four chunks stored last, over the products stored first. -/
def lastPieces (p : Fin 4 → FVec F S512x512 .f32) (oa : Vec F S512x1024 .bf16) (WA : Fin 4 → Vec F S1024x512 .bf16)
    (X : Fin 4 → Vec F S512x512 .f32) (NW : Fin 4 → Vec F S1x512 .f32) : List (View.Piece (Elt F) S512x2048 .f32) :=
  ([3, 2, 1, 0].map fun n : Fin 4 => ⟨Rect.unit ![0, 512 * n.val] S512x512.size (inbChunk n),
    finalChunk (X n) (p n) (rootInv p) (NW n)⟩) ++ firstPieces oa WA

end Cert.Blend

end

end
-- ==== Proof.Found.lean ====
module

public import proofs.«01_k».proof.Proof.Gen.KernelIdeal.Value
public import proofs.«01_k».proof.Proof.Tile
public import proofs.«01_k».proof.Proof.Blend

/-! What one grid point leaves in each output window: the blocks its body stores, in terms of what the
    body loads. The three kinds of grid point differ only in the copies that they start. -/

@[expose] public section

noncomputable section
namespace Cert.Found
open Cert.KernelIdeal Cert.KernelIdeal.Gen Idealize.ShloMosaic Idealize.ShloMosaic.TcCoe Idealize.SL.Sem Idealize.ShloMosaic.Tactic
open Idealize.ShloMosaic.Pipeline (Dat)
open Cert.Tile Cert.Blend

variable {F : FTy → Type} [FloatOps F]
variable (m : (ℓ : Loc nD τ sig) → Buf (Elt F) ℓ) (ρ : Dev nD → PrngReg)

/-- The projection rows as the body loads them. -/
def rawX (c : Dev nD) (t : Fin cfg0.N) : Vec F S8x4096 .f32 :=
  View.readAt (Elt F) (ms0_8 t).view (Rect.unit ![0, 0] S8x4096.size inb_S8x4096_S8x4096_0_0).toLoadRect
    ((hs0_8 t).unread (iblk m c 8 t))

theorem inbCs (j : Fin 3) : ∀ a, (![j.val, 0, 0] : Fin 3 → Nat) a + S1x8x3072.size a ≤ S3x8x3072.size a
  | 0 => show j.val + 1 ≤ 3 by omega
  | 1 => le_refl 8
  | 2 => le_refl 3072

def rawCs (c : Dev nD) (t : Fin cfg0.N) (j : Fin 3) : Vec F S1x8x3072 .f32 :=
  View.readAt (Elt F) (ms0_9 t).view (Rect.unit (s := S3x8x3072) ![j.val, 0, 0] S1x8x3072.size (inbCs j)).toLoadRect
    ((hs0_9 t).unread (iblk m c 9 t))

def rawG (c : Dev nD) (t : Fin cfg0.N) : Vec F S8x128 .f32 :=
  View.readAt (Elt F) (ms0_10 t).view (Rect.unit ![0, 0] S8x128.size inb_S8x128_S8x128_0_0).toLoadRect
    ((hs0_10 t).unread (iblk m c 10 t))

def rawCw (c : Dev nD) (t : Fin cfg0.N) : Vec F S4x3072 .f32 :=
  View.readAt (Elt F) (ms0_11 t).view (Rect.unit ![0, 0] S4x3072.size inb_S4x3072_S4x3072_0_0).toLoadRect
    ((hs0_11 t).unread (iblk m c 11 t))

def rawW (c : Dev nD) (t : Fin cfg0.N) : Vec F S1x128 .f32 :=
  View.readAt (Elt F) (ms0_12 t).view (Rect.unit ![0, 0] S1x128.size inb_S1x128_S1x128_0_0).toLoadRect
    ((hs0_12 t).unread (iblk m c 12 t))

def rawAct (c : Dev nD) (t : Fin cfg0.N) : FVec F S8x3072 .f32 :=
  k0_pay3 (rawX m c t) (rawCw m c t) (rawCs m c t 0) (rawCs m c t 1) (rawCs m c t 2)

def rawS (c : Dev nD) (t : Fin cfg0.N) (a h : Fin 8) : Vec F S1x1x128x128 .f32 :=
  (rslot0_0 (Ring.sl 3 t.val)).view.readCov
    [⟨Rect.whole S8x8x128x128, ReadAs.same.apply (View.read (Elt F) (srcB0_0 (Ring.bk 16 t.val)).view (V m c main_arg12))⟩]
    (Rect.unit (s := S8x8x128x128) ![a.val, h.val, 0, 0] S1x1x128x128.size (inbState a h)).toLoadRect

/-- The `r`-th chunk of 512 columns of the half of the output matrix from row `o`. -/
theorem inbWo (o : Fin 2) (n : Fin 4) :
    ∀ a, (![1024 * o.val, 512 * n.val] : Fin 2 → Nat) a + S1024x512.size a ≤ S2048x2048.size a
  | 0 => show 1024 * o.val + 1024 ≤ 2048 by omega
  | 1 => show 512 * n.val + 512 ≤ 2048 by omega

theorem inbNw (n : Fin 4) : ∀ a, (![0, 512 * n.val] : Fin 2 → Nat) a + S1x512.size a ≤ S1x2048.size a
  | 0 => le_refl 1
  | 1 => show 512 * n.val + 512 ≤ 2048 by omega

theorem inbWp (g : Fin 4) : ∀ a, (![g.val, 0, 0] : Fin 3 → Nat) a + S1x256x256.size a ≤ S4x256x256.size a
  | 0 => show g.val + 1 ≤ 4 by omega
  | 1 => le_refl 256
  | 2 => le_refl 256

theorem inbPs (g : Fin 4) : ∀ a, (![0, 256 * g.val] : Fin 2 → Nat) a + S1x256.size a ≤ S1x1024.size a
  | 0 => le_refl 1
  | 1 => show 256 * g.val + 256 ≤ 1024 by omega

theorem inbU (s : Fin 8) : ∀ a, (![0, 128 * s.val] : Fin 2 → Nat) a + S512x128.size a ≤ S512x1024.size a
  | 0 => le_refl 512
  | 1 => show 128 * s.val + 128 ≤ 1024 by omega

theorem inbHist (s : Fin 8) : ∀ a, (![0, 128 * s.val] : Fin 2 → Nat) a + S16x128.size a ≤ S16x1024.size a
  | 0 => le_refl 16
  | 1 => show 128 * s.val + 128 ≤ 1024 by omega

/-- The attention rows as the body loads them. -/
def rawOa (c : Dev nD) (t : Fin cfg0.N) : Vec F S512x1024 .bf16 :=
  View.readAt (Elt F) (ms0_0 t).view (Rect.unit ![0, 0] S512x1024.size inb_S512x1024_S512x1024_0_0).toLoadRect
    ((hs0_0 t).unread (iblk m c 0 t))

/-- One strip of the pooling input. -/
def rawU (c : Dev nD) (t : Fin cfg0.N) (s : Fin 8) : Vec F S512x128 .f32 :=
  View.readAt (Elt F) (ms0_1 t).view (Rect.unit (s := S512x1024) ![0, 128 * s.val] S512x128.size (inbU s)).toLoadRect
    ((hs0_1 t).unread (iblk m c 1 t))

/-- One strip of the rows before the tile. -/
def rawH (c : Dev nD) (t : Fin cfg0.N) (s : Fin 8) : Vec F S16x128 .f32 :=
  View.readAt (Elt F) (ms0_2 t).view (Rect.unit (s := S16x1024) ![0, 128 * s.val] S16x128.size (inbHist s)).toLoadRect
    ((hs0_2 t).unread (iblk m c 2 t))

/-- One chunk of the residual rows. -/
def rawR (c : Dev nD) (t : Fin cfg0.N) (n : Fin 4) : Vec F S512x512 .f32 :=
  View.readAt (Elt F) (ms0_3 t).view (Rect.unit (s := S512x2048) ![0, 512 * n.val] S512x512.size (inbChunk n)).toLoadRect
    ((hs0_3 t).unread (iblk m c 3 t))

/-- One group's pooling matrix. -/
def rawWp (c : Dev nD) (t : Fin cfg0.N) (g : Fin 4) : Vec F S1x256x256 .bf16 :=
  View.readAt (Elt F) (ms0_4 t).view (Rect.unit (s := S4x256x256) ![g.val, 0, 0] S1x256x256.size (inbWp g)).toLoadRect
    ((hs0_4 t).unread (iblk m c 4 t))

/-- One group's scales. -/
def rawPs (c : Dev nD) (t : Fin cfg0.N) (g : Fin 4) : Vec F S1x256 .f32 :=
  View.readAt (Elt F) (ms0_5 t).view (Rect.unit (s := S1x1024) ![0, 256 * g.val] S1x256.size (inbPs g)).toLoadRect
    ((hs0_5 t).unread (iblk m c 5 t))

/-- One chunk of a half of the output matrix. -/
def rawWo (c : Dev nD) (t : Fin cfg0.N) (o : Fin 2) (n : Fin 4) : Vec F S1024x512 .bf16 :=
  View.readAt (Elt F) (ms0_6 t).view (Rect.unit (s := S2048x2048) ![1024 * o.val, 512 * n.val] S1024x512.size (inbWo o n)).toLoadRect
    ((hs0_6 t).unread (iblk m c 6 t))

/-- One chunk of the norm's weights. -/
def rawNw (c : Dev nD) (t : Fin cfg0.N) (n : Fin 4) : Vec F S1x512 .f32 :=
  View.readAt (Elt F) (ms0_7 t).view (Rect.unit (s := S1x2048) ![0, 512 * n.val] S1x512.size (inbNw n)).toLoadRect
    ((hs0_7 t).unread (iblk m c 7 t))

/-- The grid coordinate as a word. -/
def coordWord (t : Fin cfg0.N) : BitVec 32 := BitVec.ofNat 32 (grid0.coords t 0).val

/-- The start word that the halo of strip `s` is chosen by. -/
def haloWord (t : Fin cfg0.N) : Fin 8 → BitVec 32
  | 0 => startWord (coordWord t)
  | 1 => startWord (coordWord t)
  | _ => startWord' (coordWord t)

/-- The strip `s` of the extended rows, `r` rows up. -/
def rawE (c : Dev nD) (t : Fin cfg0.N) (s : Fin 8) (r : ℕ) : Vec F S1x512x128 .f32 :=
  scM0_0.view.readCov (extPieces (haloWord t) (rawU m c t) (rawH m c t))
    (Rect.unit (s := S8x528x128) ![s.val, 16 - r, 0] S1x512x128.size (inbShift s r)).toLoadRect

/-- The pooled and mixed group `g`. -/
def rawGroup (c : Dev nD) (t : Fin cfg0.N) (g : Fin 4) : FVec F S512x256 .bf16 :=
  group (pooledStrip (startWord' (coordWord t)) (2 * 2 ^ g.val) (rawU m c t ⟨2 * g.val, by omega⟩) (rawE m c t ⟨2 * g.val, by omega⟩))
    (pooledStrip (startWord' (coordWord t)) (2 * 2 ^ g.val) (rawU m c t ⟨2 * g.val + 1, by omega⟩) (rawE m c t ⟨2 * g.val + 1, by omega⟩))
    (rawWp m c t g) (rawPs m c t g)

/-- One chunk of the mix. -/
def rawMix (c : Dev nD) (t : Fin cfg0.N) (n : Fin 4) : FVec F S512x512 .f32 :=
  mixChunk (groups (rawGroup m c t))
    ((ms0_13 t).view.readCov (firstPieces (rawOa m c t) (rawWo m c t 0))
      (Rect.unit (s := S512x2048) ![0, 512 * n.val] S512x512.size (inbChunk n)).toLoadRect)
    (rawWo m c t 1 n)

/-- The blocks stored as the new convolution history, the last stored first. -/
def historyPieces (x : Vec F S8x4096 .f32) (C : Fin 3 → Vec F S1x8x3072 .f32) :
    List (View.Piece (Elt F) S3x8x3072 .f32) :=
  [⟨Rect.unit (s := S3x8x3072) ![(2 : Fin 3).val, 0, 0] S1x8x3072.size (inbCs 2), k0_pay6 x⟩,
   ⟨Rect.unit (s := S3x8x3072) ![(1 : Fin 3).val, 0, 0] S1x8x3072.size (inbCs 1), k0_pay5 (C 2)⟩,
   ⟨Rect.unit (s := S3x8x3072) ![(0 : Fin 3).val, 0, 0] S1x8x3072.size (inbCs 0), k0_pay4 (C 1)⟩]

/-- At a point that starts its sequence the ring has two more blocks to fetch. -/
theorem early {t : ℕ} (h : t % 16 = 0) (ht : t < 16) : t < 14 := by omega

/-- What a grid point leaves in window 13: the mixed rows. -/
theorem flushed13 (c : Dev nD) (t : Fin cfg0.N) :
    (dats m 0 c).flushed 13 t = (cfg0.win 13).cut (grid0.coords t)
      (View.canon (lastPieces (rawMix m c t) (rawOa m c t) (rawWo m c t 0) (rawR m c t) (rawNw m c t))) := by
  by_cases h0 : t.val % 16 = 0
  · rw [Value.flushed13_A m c t h0 (early h0 t.2)]; unfold out0_A_13
    rw [View.read_writes_junk_eq_canon]; unfold kernelRun0_A; dsimp only; rfl
  by_cases h1 : t.val < 14
  · rw [Value.flushed13_B m c t h0 h1]; unfold out0_B_13
    rw [View.read_writes_junk_eq_canon]; unfold kernelRun0_B; dsimp only; rfl
  · rw [Value.flushed13_C m c t h0 h1]; unfold out0_C_13
    rw [View.read_writes_junk_eq_canon]; unfold kernelRun0_C; dsimp only; rfl

/-- What a grid point leaves in window 14: the tokens' outputs. -/
theorem flushed14 (c : Dev nD) (t : Fin cfg0.N) :
    (dats m 0 c).flushed 14 t = (cfg0.win 14).cut (grid0.coords t)
      (View.canon (outPieces (rawX m c t) (rawAct m c t) (rawG m c t) (rawW m c t) (rawS m c t))) := by
  by_cases h0 : t.val % 16 = 0
  · rw [Value.flushed14_A m c t h0 (early h0 t.2)]; unfold out0_A_14
    rw [View.read_writes_junk_eq_canon]; unfold kernelRun0_A; dsimp only; rfl
  by_cases h1 : t.val < 14
  · rw [Value.flushed14_B m c t h0 h1]; unfold out0_B_14
    rw [View.read_writes_junk_eq_canon]; unfold kernelRun0_B; dsimp only; rfl
  · rw [Value.flushed14_C m c t h0 h1]; unfold out0_C_14
    rw [View.read_writes_junk_eq_canon]; unfold kernelRun0_C; dsimp only; rfl

/-- What a grid point leaves in window 15: the new states. -/
theorem flushed15 (c : Dev nD) (t : Fin cfg0.N) :
    (dats m 0 c).flushed 15 t = (cfg0.win 15).cut (grid0.coords t)
      (View.canon (statePieces (rawAct m c t) (rawG m c t) (rawS m c t))) := by
  by_cases h0 : t.val % 16 = 0
  · rw [Value.flushed15_A m c t h0 (early h0 t.2)]; unfold out0_A_15
    rw [View.read_writes_junk_eq_canon]; unfold kernelRun0_A; dsimp only; rfl
  by_cases h1 : t.val < 14
  · rw [Value.flushed15_B m c t h0 h1]; unfold out0_B_15
    rw [View.read_writes_junk_eq_canon]; unfold kernelRun0_B; dsimp only; rfl
  · rw [Value.flushed15_C m c t h0 h1]; unfold out0_C_15
    rw [View.read_writes_junk_eq_canon]; unfold kernelRun0_C; dsimp only; rfl

/-- What a grid point leaves in window 16: the new convolution history. -/
theorem flushed16 (c : Dev nD) (t : Fin cfg0.N) :
    (dats m 0 c).flushed 16 t = (cfg0.win 16).cut (grid0.coords t)
      (View.canon (historyPieces (rawX m c t) (rawCs m c t))) := by
  by_cases h0 : t.val % 16 = 0
  · rw [Value.flushed16_A m c t h0 (early h0 t.2)]; unfold out0_A_16
    rw [View.read_writes_junk_eq_canon]; unfold kernelRun0_A; dsimp only; rfl
  by_cases h1 : t.val < 14
  · rw [Value.flushed16_B m c t h0 h1]; unfold out0_B_16
    rw [View.read_writes_junk_eq_canon]; unfold kernelRun0_B; dsimp only; rfl
  · rw [Value.flushed16_C m c t h0 h1]; unfold out0_C_16
    rw [View.read_writes_junk_eq_canon]; unfold kernelRun0_C; dsimp only; rfl

end Cert.Found

end

end
-- ==== Proof.Loads.lean ====
module

public import proofs.«01_k».proof.Proof.Found
public import Idealize.ShloMosaic.Lib.Pointwise
public import Idealize.ShloMosaic.Lib.Pipeline.ValueKit.Point

/-! What the body loads at one grid point, element by element, in terms of the program's arguments. -/

@[expose] public section

noncomputable section

namespace Cert.Loads
open Cert.KernelIdeal Cert.KernelIdeal.Gen Idealize.ShloMosaic Idealize.ShloMosaic.TcCoe Idealize.SL.Sem Idealize.ShloMosaic.Tactic
open Idealize.ShloMosaic.Pipeline (Dat)
open Cert.Found

variable (m : (ℓ : Loc nD τ sig) → Buf (Elt Ideal) ℓ)

/-- The block of each window at each grid point. -/
theorem idx : ∀ t : Fin cfg0.N, win0_0.index t = ![t.val, 0] ∧ win0_1.index t = ![t.val, 0] ∧
    win0_2.index t = ![32 * t.val - 1, 0] ∧ win0_3.index t = ![t.val, 0] ∧ win0_4.index t = ![0, 0, 0] ∧
    win0_5.index t = ![0, 0] ∧ win0_6.index t = ![0, 0] ∧ win0_7.index t = ![0, 0] ∧ win0_8.index t = ![t.val, 0] ∧
    win0_9.index t = ![0, t.val, 0] ∧ win0_10.index t = ![t.val, 0] ∧ win0_11.index t = ![0, 0] ∧
    win0_12.index t = ![0, 0] ∧ win0_13.index t = ![t.val, 0] ∧ win0_14.index t = ![t.val, 0] ∧
    win0_15.index t = ![t.val, 0, 0, 0] ∧ win0_16.index t = ![0, t.val, 0] := by
  decide +kernel

theorem lt16 (t : Fin cfg0.N) : t.val < 16 := t.2

/-- What one store of a whole array leaves. -/
theorem canon_whole {Val : EltTy → Type} [∀ e, Nonempty (Val e)] (S : Shape) {e : EltTy} (w : S.Idx → Val e) (y : S.Idx) :
    View.canon [(⟨Rect.whole S, w⟩ : View.Piece Val S e)] y = w y := by
  have h := View.canon_cons_emb (Val := Val) (Rect.whole S) w [] y
  rwa [Rect.emb_whole_apply] at h

theorem x_read (c : Dev nD) (t : Fin cfg0.N) (r : Fin 8) (k : Fin 4096) :
    rawX m c t (ix2 r k) = m ((c : Thread nD τ).loc main_arg7) (ix2 ⟨8 * t.val + r.val, by have := lt16 t; omega⟩ k) := by
  unfold rawX
  rw [View.readAt_eq_ld, (hs0_8 t).read_unread, View.ld_apply]
  blk_ext [iblk, V_main_arg7, idx t, Rect.idx_unit_val]

theorem g_read (c : Dev nD) (t : Fin cfg0.N) (r : Fin 8) (k : Fin 128) :
    rawG m c t (ix2 r k) = m ((c : Thread nD τ).loc main_arg9) (ix2 ⟨8 * t.val + r.val, by have := lt16 t; omega⟩ k) := by
  unfold rawG
  rw [View.readAt_eq_ld, (hs0_10 t).read_unread, View.ld_apply]
  blk_ext [iblk, V_main_arg9, idx t, Rect.idx_unit_val]

theorem cw_read (c : Dev nD) (t : Fin cfg0.N) (r : Fin 4) (k : Fin 3072) :
    rawCw m c t (ix2 r k) = m ((c : Thread nD τ).loc main_arg10) (ix2 r k) := by
  unfold rawCw
  rw [View.readAt_eq_ld, (hs0_11 t).read_unread, View.ld_apply]
  blk_ext [iblk, V_main_arg10, idx t, Rect.idx_unit_val]

theorem w_read (c : Dev nD) (t : Fin cfg0.N) (r : Fin 1) (k : Fin 128) :
    rawW m c t (ix2 r k) = m ((c : Thread nD τ).loc main_arg11) (ix2 r k) := by
  unfold rawW
  rw [View.readAt_eq_ld, (hs0_12 t).read_unread, View.ld_apply]
  blk_ext [iblk, V_main_arg11, idx t, Rect.idx_unit_val]

theorem oa_read (c : Dev nD) (t : Fin cfg0.N) (r : Fin 512) (k : Fin 1024) :
    rawOa m c t (ix2 r k) = m ((c : Thread nD τ).loc main_arg0) (ix2 ⟨512 * t.val + r.val, by have := lt16 t; omega⟩ k) := by
  unfold rawOa
  rw [View.readAt_eq_ld, (hs0_0 t).read_unread, View.ld_apply]
  blk_ext [iblk, V_main_arg0, idx t, Rect.idx_unit_val]

theorem u_read (c : Dev nD) (t : Fin cfg0.N) (s : Fin 8) (r : Fin 512) (k : Fin 128) :
    rawU m c t s (ix2 r k) = m ((c : Thread nD τ).loc main_arg1) (ix2 ⟨512 * t.val + r.val, by have := lt16 t; omega⟩ ⟨128 * s.val + k.val, by omega⟩) := by
  unfold rawU
  rw [View.readAt_eq_ld, (hs0_1 t).read_unread, View.ld_apply]
  blk_ext [iblk, V_main_arg1, idx t, Rect.idx_unit_val]

theorem h_read (c : Dev nD) (t : Fin cfg0.N) (ht : 0 < t.val) (s : Fin 8) (r : Fin 16) (k : Fin 128) :
    rawH m c t s (ix2 r k) = m ((c : Thread nD τ).loc main_arg1) (ix2 ⟨512 * t.val - 16 + r.val, by have := lt16 t; omega⟩ ⟨128 * s.val + k.val, by omega⟩) := by
  unfold rawH
  rw [View.readAt_eq_ld, (hs0_2 t).read_unread, View.ld_apply]
  blk_ext [iblk, V_main_arg1, idx t, Rect.idx_unit_val]

theorem r_read (c : Dev nD) (t : Fin cfg0.N) (n : Fin 4) (r : Fin 512) (k : Fin 512) :
    rawR m c t n (ix2 r k) = m ((c : Thread nD τ).loc main_arg2) (ix2 ⟨512 * t.val + r.val, by have := lt16 t; omega⟩ ⟨512 * n.val + k.val, by omega⟩) := by
  unfold rawR
  rw [View.readAt_eq_ld, (hs0_3 t).read_unread, View.ld_apply]
  blk_ext [iblk, V_main_arg2, idx t, Rect.idx_unit_val]

theorem wp_read (c : Dev nD) (t : Fin cfg0.N) (g : Fin 4) (z : Fin 1) (r k : Fin 256) :
    rawWp m c t g (ix3 z r k) = m ((c : Thread nD τ).loc main_arg3) (ix3 g r k) := by
  unfold rawWp
  rw [View.readAt_eq_ld, (hs0_4 t).read_unread, View.ld_apply]
  blk_ext [iblk, V_main_arg3, idx t, Rect.idx_unit_val]

theorem ps_read (c : Dev nD) (t : Fin cfg0.N) (g : Fin 4) (z : Fin 1) (k : Fin 256) :
    rawPs m c t g (ix2 z k) = m ((c : Thread nD τ).loc main_arg4) (ix2 0 ⟨256 * g.val + k.val, by omega⟩) := by
  unfold rawPs
  rw [View.readAt_eq_ld, (hs0_5 t).read_unread, View.ld_apply]
  blk_ext [iblk, V_main_arg4, idx t, Rect.idx_unit_val]

theorem wo_read (c : Dev nD) (t : Fin cfg0.N) (o : Fin 2) (n : Fin 4) (r : Fin 1024) (k : Fin 512) :
    rawWo m c t o n (ix2 r k) = m ((c : Thread nD τ).loc main_arg5) (ix2 ⟨1024 * o.val + r.val, by omega⟩ ⟨512 * n.val + k.val, by omega⟩) := by
  unfold rawWo
  rw [View.readAt_eq_ld, (hs0_6 t).read_unread, View.ld_apply]
  blk_ext [iblk, V_main_arg5, idx t, Rect.idx_unit_val]

theorem nw_read (c : Dev nD) (t : Fin cfg0.N) (n : Fin 4) (z : Fin 1) (k : Fin 512) :
    rawNw m c t n (ix2 z k) = m ((c : Thread nD τ).loc main_arg6) (ix2 0 ⟨512 * n.val + k.val, by omega⟩) := by
  unfold rawNw
  rw [View.readAt_eq_ld, (hs0_7 t).read_unread, View.ld_apply]
  blk_ext [iblk, V_main_arg6, idx t, Rect.idx_unit_val]

theorem ring16 : ∀ t : Fin cfg0.N, Ring.bk 16 t.val = t.val := by decide +kernel

theorem s_read (c : Dev nD) (t : Fin cfg0.N) (a h : Fin 8) (z1 z2 : Fin 1) (i j : Fin 128) :
    rawS m c t a h (ix4 z1 z2 i j) = m ((c : Thread nD τ).loc main_arg12) (ix4 ⟨8 * t.val + a.val, by have := lt16 t; omega⟩ h i j) := by
  unfold rawS
  rw [View.readCov_eq_canon']
  refine (canon_whole _ _ _).trans ?_
  rw [V_main_arg12]
  show m ((c : Thread nD τ).loc main_arg12) ((srcB0_0 (Ring.bk 16 t.val)).view.emb ((Rect.unit (s := S8x8x128x128) ![a.val, h.val, 0, 0] S1x1x128x128.size (Tile.inbState a h)).idx (ix4 z1 z2 i j))) = _
  refine congrArg (m ((c : Thread nD τ).loc main_arg12)) (funext fun (a' : Fin 4) => Fin.ext ?_)
  have e := ring16 t
  match a' with
  | 0 => show 8 * (Ring.bk 16 t.val).val + 1 * (a.val + 1 * z1.val) = 8 * t.val + a.val; omega
  | 1 => show 0 + 1 * (h.val + 1 * z2.val) = h.val; omega
  | 2 => show 0 + 1 * (0 + 1 * i.val) = i.val; omega
  | 3 => show 0 + 1 * (0 + 1 * j.val) = j.val; omega

theorem cs_read (c : Dev nD) (t : Fin cfg0.N) (n : Fin 3) (z : Fin 1) (r : Fin 8) (k : Fin 3072) :
    rawCs m c t n (ix3 z r k) = m ((c : Thread nD τ).loc main_arg8) (ix3 ⟨8 * t.val + r.val, by have := lt16 t; omega⟩ n k) := by
  unfold rawCs
  rw [View.readAt_eq_ld, (hs0_9 t).read_unread, View.ld_apply]
  unfold iblk
  entry_read
  have i9 := congrFun (idx t).2.2.2.2.2.2.2.2.2.1
  have e : (win0_9.blk t).view.emb ((Rect.unit (s := S3x8x3072) ![n.val, 0, 0] S1x8x3072.size (inbCs n)).idx (ix3 z r k))
      = (ix3 n (⟨8 * t.val + r.val, by have := lt16 t; omega⟩ : Fin 128) k : S3x128x3072.Idx) := by
    refine funext fun (a' : Fin 3) => Fin.ext ?_
    match a' with
    | 0 => show win0_9.index t 0 * 3 + 1 * (n.val + 1 * z.val) = n.val; rw [i9 0]; show 0 * 3 + _ = _; omega
    | 1 => show win0_9.index t 1 * 8 + 1 * (0 + 1 * r.val) = 8 * t.val + r.val; rw [i9 1]; show t.val * 8 + _ = _; omega
    | 2 => show win0_9.index t 2 * 3072 + 1 * (0 + 1 * k.val) = k.val; rw [i9 2]; show 0 * 3072 + _ = _; omega
  refine (congrArg (transpose S3x128x3072 [1, 0, 2] (m (c, Proc.tc.devRef main_arg8)) transposes_S128x3x3072_S3x128x3072_1_0_2) e).trans ?_
  pointwise

end Cert.Loads

end

end
-- ==== Proof.Scalars.lean ====
/- Facts about single extended reals and about finite sums of them, used by the value proofs. -/
module

public import Idealize.ShloMosaic.Lib.Pointwise
public import Idealize.ShloMosaic.Lib.IdealHost

@[expose] public section

noncomputable section

namespace Cert.Scalars

open Idealize.ShloMosaic
open scoped BigOperators

/-- An extended real that is a real number. -/
def Real' (x : EReal) : Prop := ∃ r : ℝ, x = (r : EReal)

/-- The f32 pattern of one half. -/
theorem half_f32 : Ideal.ofBits .f32 0x3F000000#32 = (((1 : ℝ) / 2 : ℝ) : EReal) := by
  simp [Ideal.ofBits, Ideal.ieee, -EReal.coe_mul]; norm_num

/-- The logistic form of `x · σ(x)` and its form by the hyperbolic tangent of the half agree at a real number. -/
theorem silu_real (r : ℝ) :
    Ideal.ofBits .f32 0x3F000000#32 * (r : EReal)
        + Ideal.ofBits .f32 0x3F000000#32 * (r : EReal) * Ideal.tanh (Ideal.ofBits .f32 0x3F000000#32 * (r : EReal))
      = (r : EReal) * Ideal.div 1 (1 + Ideal.exp (-(r : EReal))) := by
  have hc : ∀ a b : ℝ, ((a : EReal) + (b : EReal)) = ((a + b : ℝ) : EReal) := fun a b => (EReal.coe_add a b).symm
  have hpos : (1 + Real.exp (-r)) ≠ 0 := by positivity
  rw [half_f32, ← EReal.coe_mul, Ideal.tanh_coe, ← EReal.coe_neg, Ideal.exp_coe, ← EReal.coe_one, hc,
    Ideal.div_coe hpos, ← EReal.coe_mul, ← EReal.coe_mul, ← EReal.coe_mul, hc]
  congr 1
  have h1 : Real.exp (-r) = Real.exp (-(1 / 2 * r)) * Real.exp (-(1 / 2 * r)) := by
    rw [← Real.exp_add]; ring_nf
  have h2 : Real.exp (1 / 2 * r) * Real.exp (-(1 / 2 * r)) = 1 := by
    rw [← Real.exp_add]; simp
  rw [Real.tanh_eq_sinh_div_cosh, Real.sinh_eq, Real.cosh_eq, h1]
  have ha : 0 < Real.exp (1 / 2 * r) := Real.exp_pos _
  have hb : 0 < Real.exp (-(1 / 2 * r)) := Real.exp_pos _
  generalize Real.exp (1 / 2 * r) = a at *
  generalize Real.exp (-(1 / 2 * r)) = b at *
  have hab : a + b ≠ 0 := by positivity
  have hbb : 1 + b * b ≠ 0 := by positivity
  field_simp
  linear_combination (2 * r * b) * h2

/-- `x · σ(x)`. -/
def silu (x : EReal) : EReal := x * Ideal.div 1 (1 + Ideal.exp (-x))

theorem silu_of_real {x : EReal} (h : Real' x) :
    Ideal.ofBits .f32 0x3F000000#32 * x
        + Ideal.ofBits .f32 0x3F000000#32 * x * Ideal.tanh (Ideal.ofBits .f32 0x3F000000#32 * x) = silu x := by
  obtain ⟨r, rfl⟩ := h; exact silu_real r

theorem Real'.add {x y : EReal} (hx : Real' x) (hy : Real' y) : Real' (x + y) := by
  obtain ⟨a, rfl⟩ := hx; obtain ⟨b, rfl⟩ := hy; exact ⟨a + b, (EReal.coe_add a b).symm⟩

theorem Real'.mul {x y : EReal} (hx : Real' x) (hy : Real' y) : Real' (x * y) := by
  obtain ⟨a, rfl⟩ := hx; obtain ⟨b, rfl⟩ := hy; exact ⟨a * b, (EReal.coe_mul a b).symm⟩

/-- The window sum of width `w` ending at position `p` of a sequence that is zero before its start. -/
def winSum (f : ℕ → EReal) (p w : ℕ) : EReal := ∑ r ∈ Finset.range w, if r ≤ p then f (p - r) else 0

/-- A fold that adds one term per number is the start plus the finite sum. -/
theorem foldl_add_eq_sum (n : ℕ) (g : Fin n → EReal) (v : EReal) :
    (List.finRange n).foldl (fun r k => r + g k) v = v + ∑ k, g k := by
  rw [Fin.sum_univ_def]
  generalize List.finRange n = l
  induction l generalizing v with
  | nil => simp
  | cons a l ih => simp only [List.foldl_cons, List.map_cons, List.sum_cons]; rw [ih, add_assoc]

/-- A number below `2^31` as a signed word. -/
theorem toInt_ofNat_small {n : ℕ} (h : n < 2 ^ 31) : (BitVec.ofNat 32 n).toInt = (n : ℤ) := by
  have h1 : (BitVec.ofNat 32 n).toNat = n := by rw [BitVec.toNat_ofNat]; exact Nat.mod_eq_of_lt (by omega)
  rw [BitVec.toInt_eq_toNat_of_lt (by rw [h1]; omega), h1]

/-- The count word: the position plus one, at most the window. -/
theorem count_word {t w : ℕ} (ht : t < 2 ^ 30) (hw : w < 2 ^ 30) :
    ((IntOp.minsi (IntOp.addi (BitVec.ofNat 32 t) 1#32) (BitVec.ofNat 32 w)).toInt : ℝ) = ((min (t + 1) w : ℕ) : ℝ) := by
  have h1 : IntOp.addi (BitVec.ofNat 32 t) 1#32 = BitVec.ofNat 32 (t + 1) := by
    unfold IntOp.addi; rw [BitVec.ofNat_add]
  rw [h1]
  unfold IntOp.minsi
  rw [BitVec.slt_eq_decide, toInt_ofNat_small (by omega), toInt_ofNat_small (by omega)]
  by_cases h : t + 1 < w
  · rw [if_pos (by simpa using (by exact_mod_cast h : ((t + 1 : ℕ) : ℤ) < (w : ℤ))), toInt_ofNat_small (by omega), Nat.min_eq_left (by omega)]; norm_cast
  · rw [if_neg (by simpa using (by exact_mod_cast (Nat.le_of_not_lt h) : (w : ℤ) ≤ ((t + 1 : ℕ) : ℤ))), toInt_ofNat_small (by omega), Nat.min_eq_right (by omega)]; norm_cast

/-- A windowed running sum along the middle axis: each element is the sum of the elements up to it. -/
theorem cumsum_apply {A n m C : ℕ} (hm : m + 1 = n) (x : (⟨3, ![A, n, C]⟩ : Shape).Idx → EReal) (init : EReal) (h0 : init = 0)
    (h : (⟨3, ![A, n, C]⟩ : Shape).ReduceWindows ![1, n, 1] ![1, 1, 1] ![0, m, 0] ![0, 0, 0] ⟨3, ![A, n, C]⟩)
    (b : Fin A) (p : Fin n) (c : Fin C) :
    Ideal.hostReduceWindowAdd ![1, n, 1] ![1, 1, 1] ![0, m, 0] ![0, 0, 0] h x init (ix3 b p c)
      = ∑ q : Fin n, if q.val ≤ p.val then x (ix3 b q c) else 0 := by
  unfold Ideal.hostReduceWindowAdd Host.reduceWindow
  dsimp only
  rw [foldl_add_eq_sum, h0, zero_add]
  have hp := p.isLt
  let e : (⟨3, ![1, n, 1]⟩ : Shape).Idx → Fin n := fun i => ⟨if m ≤ p.val + (i 1).val then p.val + (i 1).val - (m) else p.val + (i 1).val + 1, by
    have h1 : (i 1).val < n := (i 1).isLt
    split <;> omega⟩
  have he : Function.Bijective e := by
    have hinj : Function.Injective e := by
      intro i j hij
      have h1 : (i 1).val < n := (i 1).isLt
      have h2 : (j 1).val < n := (j 1).isLt
      have h3 : (if m ≤ p.val + (i 1).val then p.val + (i 1).val - (m) else p.val + (i 1).val + 1)
        = (if m ≤ p.val + (j 1).val then p.val + (j 1).val - (m) else p.val + (j 1).val + 1) := congrArg Fin.val hij
      have h4 : (i 1).val = (j 1).val := by split at h3 <;> split at h3 <;> omega
      rw [eq_ix3 i, eq_ix3 j]
      exact congrArg₂ (fun (t : Fin n) (s : Fin 1 × Fin 1) => (ix3 (n0 := 1) (n2 := 1) s.1 t s.2)) (Fin.ext h4)
        (Subsingleton.elim ((i 0, i 2) : Fin 1 × Fin 1) (j 0, j 2))
    refine (Fintype.bijective_iff_injective_and_card e).2 ⟨hinj, ?_⟩
    rw [Fintype.card_congr (⟨fun i => i 1, fun k : Fin n => (ix3 (n0 := 1) (n2 := 1) 0 k 0), fun i => ?_, fun _ => rfl⟩ : (⟨3, ![1, n, 1]⟩ : Shape).Idx ≃ Fin n)]
    conv_rhs => rw [eq_ix3 i]
    exact congrArg (fun (s : Fin 1 × Fin 1) => (ix3 (n0 := 1) (n2 := 1) s.1 (i 1) s.2)) (Subsingleton.elim ((0, 0) : Fin 1 × Fin 1) (i 0, i 2))
  refine Fintype.sum_bijective (fun k => e ((Shape.rowMajor ⟨3, ![1, n, 1]⟩).symm k)) (he.comp (Equiv.bijective _)) _ _ (fun k => ?_)
  obtain ⟨w, hw⟩ : ∃ w, (Shape.rowMajor ⟨3, ![1, n, 1]⟩).symm k = w := ⟨_, rfl⟩
  have hev : (e ((Shape.rowMajor ⟨3, ![1, n, 1]⟩).symm k)).val = (if m ≤ p.val + (w 1).val then p.val + (w 1).val - (m) else p.val + (w 1).val + 1) := by rw [hw]
  have w0 : (w 0).val = 0 := by have : (w 0).val < 1 := (w 0).isLt; omega
  have w1 : (w 1).val < n := (w 1).isLt
  have w2 : (w 2).val = 0 := by have : (w 2).val < 1 := (w 2).isLt; omega
  have hb := b.isLt
  have hcc := c.isLt
  by_cases hin : m ≤ p.val + (w 1).val
  · rw [dif_pos, if_pos]
    · congr 1
      funext a
      refine Fin.ext ?_
      match a with
      | 0 => show b.val * 1 + ((Shape.rowMajor ⟨3, ![1, n, 1]⟩).symm k 0).val - 0 = b.val; rw [hw]; omega
      | 1 =>
        show p.val * 1 + ((Shape.rowMajor ⟨3, ![1, n, 1]⟩).symm k 1).val - (m) = (e ((Shape.rowMajor ⟨3, ![1, n, 1]⟩).symm k)).val
        rw [hev, hw, if_pos hin]; omega
      | 2 => show c.val * 1 + ((Shape.rowMajor ⟨3, ![1, n, 1]⟩).symm k 2).val - 0 = c.val; rw [hw]; omega
    · rw [hev, if_pos hin]; omega
    · intro a
      match a with
      | 0 => show 0 ≤ b.val * 1 + ((Shape.rowMajor ⟨3, ![1, n, 1]⟩).symm k 0).val ∧ b.val * 1 + ((Shape.rowMajor ⟨3, ![1, n, 1]⟩).symm k 0).val - 0 < A; rw [hw]; omega
      | 1 => show m ≤ p.val * 1 + ((Shape.rowMajor ⟨3, ![1, n, 1]⟩).symm k 1).val ∧ p.val * 1 + ((Shape.rowMajor ⟨3, ![1, n, 1]⟩).symm k 1).val - (m) < n; rw [hw]; omega
      | 2 => show 0 ≤ c.val * 1 + ((Shape.rowMajor ⟨3, ![1, n, 1]⟩).symm k 2).val ∧ c.val * 1 + ((Shape.rowMajor ⟨3, ![1, n, 1]⟩).symm k 2).val - 0 < C; rw [hw]; omega
  · rw [dif_neg, if_neg]
    · rw [hev, if_neg hin]; omega
    · intro hall
      have h1 : m ≤ p.val * 1 + ((Shape.rowMajor ⟨3, ![1, n, 1]⟩).symm k 1).val := (hall 1).1
      rw [hw] at h1; omega

/-- The same running sum, over the numbers up to the position. -/
theorem sum_fin_le_eq_range {n : ℕ} (f : ℕ → EReal) (p : Fin n) :
    (∑ q : Fin n, if q.val ≤ p.val then f q.val else 0) = ∑ q ∈ Finset.range (p.val + 1), f q := by
  rw [Fin.sum_univ_eq_sum_range (fun q => if q ≤ p.val then f q else 0) n, ← Finset.sum_filter]
  refine Finset.sum_congr (Finset.ext fun q => ?_) (fun _ _ => rfl)
  have := p.isLt
  simp only [Finset.mem_filter, Finset.mem_range]; omega

/-- The difference of two running sums of real numbers is the sum between. -/
theorem sub_prefix (f : ℕ → EReal) (m w : ℕ) (hf : ∀ q < m + w, Real' (f q)) :
    (∑ q ∈ Finset.range (m + w), f q) - (∑ q ∈ Finset.range m, f q) = ∑ r ∈ Finset.range w, f (m + r) := by
  have hch : ∀ q, ∃ r : ℝ, q < m + w → f q = (r : EReal) := fun q => by
    by_cases h : q < m + w
    · obtain ⟨r, hr⟩ := hf q h; exact ⟨r, fun _ => hr⟩
    · exact ⟨0, fun h' => absurd h' h⟩
  choose g hg using hch
  have hs : ∀ s : Finset ℕ, (∑ q ∈ s, ((g q : ℝ) : EReal)) = ((∑ q ∈ s, g q : ℝ) : EReal) := fun s => by
    induction s using Finset.induction_on with
    | empty => simp
    | insert a s ha ih => rw [Finset.sum_insert ha, Finset.sum_insert ha, ih, EReal.coe_add]
  have e1 : (∑ q ∈ Finset.range (m + w), f q) = ((∑ q ∈ Finset.range (m + w), g q : ℝ) : EReal) := by
    rw [← hs]; exact Finset.sum_congr rfl fun q hq => hg q (Finset.mem_range.1 hq)
  have e2 : (∑ q ∈ Finset.range m, f q) = ((∑ q ∈ Finset.range m, g q : ℝ) : EReal) := by
    rw [← hs]; exact Finset.sum_congr rfl fun q hq => hg q (by have := Finset.mem_range.1 hq; omega)
  have e3 : (∑ r ∈ Finset.range w, f (m + r)) = ((∑ r ∈ Finset.range w, g (m + r) : ℝ) : EReal) := by
    have : (∑ r ∈ Finset.range w, f (m + r)) = ∑ r ∈ Finset.range w, ((g (m + r) : ℝ) : EReal) :=
      Finset.sum_congr rfl fun r hr => hg _ (by have := Finset.mem_range.1 hr; omega)
    rw [this]
    generalize Finset.range w = s
    induction s using Finset.induction_on with
    | empty => simp
    | insert a s ha ih => rw [Finset.sum_insert ha, Finset.sum_insert ha, ih, EReal.coe_add]
  rw [e1, e2, e3, ← EReal.coe_sub, Finset.sum_range_add, add_sub_cancel_left]

/-- A sequence padded in front by fifteen zeros. -/
def padded (f : ℕ → EReal) (q : ℕ) : EReal := if q < 15 then 0 else f (q - 15)

/-- The window sum as a difference of running sums of the padded sequence. -/
theorem winSum_eq_sub (f : ℕ → EReal) (p w m : ℕ) (hm : m + w = p + 16) (hw : w ≤ 16) (hf : ∀ q ≤ p, Real' (f q)) :
    (∑ q ∈ Finset.range (p + 16), padded f q) - (∑ q ∈ Finset.range m, padded f q) = winSum f p w := by
  rw [← hm, sub_prefix (padded f) m w]
  · unfold winSum
    rw [← Finset.sum_range_reflect]
    refine Finset.sum_congr rfl fun r hr => ?_
    have hr := Finset.mem_range.1 hr
    unfold padded
    by_cases h : r ≤ p
    · rw [if_neg (by omega), if_pos h]; congr 1; omega
    · rw [if_pos (by omega), if_neg h]
  · intro q hq
    unfold padded
    split
    · exact ⟨0, rfl⟩
    · exact hf _ (by omega)

end Cert.Scalars

end
-- ==== Proof.Spec.lean ====
/- The layer's formulas for one row, as functions of extended reals: what both programs of the mix call compute. -/
module

public import proofs.«01_k».proof.Proof.Scalars

@[expose] public section

noncomputable section

namespace Cert.Spec

open Idealize.ShloMosaic Cert.Scalars
open scoped BigOperators

/-- The constant under the square roots. -/
abbrev eps : EReal := Ideal.ofBits .f32 0x358637BD#32

/-- Column `128 h + e` of a row of eight heads. -/
abbrev headCol (h : Fin 8) (e : Fin 128) : Fin 1024 := ⟨128 * h.val + e.val, by omega⟩

section Token
variable (x : Fin 4096 → EReal) (cs : Fin 3 → Fin 3072 → EReal) (g : Fin 128 → EReal) (cw : Fin 4 → Fin 3072 → EReal)
  (gnw : Fin 128 → EReal) (s : Fin 128 → Fin 128 → EReal)

/-- The causal convolution over the three kept rows and the new one. -/
def conv (c : Fin 3072) : EReal :=
  cw 3 c * x ⟨c.val, by omega⟩ + cw 0 c * cs 0 c + cw 1 c * cs 1 c + cw 2 c * cs 2 c

def act (c : Fin 3072) : EReal := silu (conv x cs cw c)

/-- The reciprocal of a head's norm, the head starting at column `o`. -/
def invNorm (o : ℕ) (ho : o + 128 ≤ 3072) : EReal :=
  Ideal.rsqrt ((∑ e : Fin 128, act x cs cw ⟨o + e.val, by omega⟩ * act x cs cw ⟨o + e.val, by omega⟩) + eps)

def qn (h : Fin 8) (e : Fin 128) : EReal :=
  act x cs cw ⟨128 * h.val + e.val, by omega⟩ * (invNorm x cs cw (128 * h.val) (by omega) * Ideal.ofBits .f32 0x3DB504F3#32)

def kn (h : Fin 8) (e : Fin 128) : EReal :=
  act x cs cw ⟨1024 + 128 * h.val + e.val, by omega⟩ * invNorm x cs cw (1024 + 128 * h.val) (by omega)

/-- The decayed state. -/
def decayed (h : Fin 8) (i j : Fin 128) : EReal := s i j * Ideal.exp (g ⟨h.val, by omega⟩)

/-- What the delta rule writes along the key. -/
def delta (h : Fin 8) (j : Fin 128) : EReal :=
  (act x cs cw ⟨2048 + 128 * h.val + j.val, by omega⟩ - ∑ i : Fin 128, decayed g s h i j * kn x cs cw h i) * g ⟨8 + h.val, by omega⟩

/-- The state after the token. -/
def newState (h : Fin 8) (i j : Fin 128) : EReal := decayed g s h i j + kn x cs cw h i * delta x cs g cw s h j

/-- The state read along the query. -/
def readout (h : Fin 8) (j : Fin 128) : EReal := ∑ i : Fin 128, newState x cs g cw s h i j * qn x cs cw h i

/-- The head's output: the readout scaled to unit mean square, weighted, gated. -/
def tokOut (h : Fin 8) (j : Fin 128) : EReal :=
  readout x cs g cw s h j
      * Ideal.rsqrt (Ideal.div (∑ e : Fin 128, readout x cs g cw s h e * readout x cs g cw s h e) (Ideal.ofBits .f32 0x43000000#32) + eps)
      * gnw j * silu (x ⟨3072 + 128 * h.val + j.val, by omega⟩)

end Token

section Mix
/-- The window of each group of columns. -/
abbrev win (g : Fin 4) : ℕ := 2 * 2 ^ g.val

/-- The pooled value: the mean over the window less the current value. -/
def pooled (f : ℕ → EReal) (p : ℕ) (w : ℕ) : EReal :=
  Ideal.div (winSum f p w) (((min (p + 1) w : ℕ) : ℝ) : EReal) - f p

variable (oa : Fin 1024 → EReal) (f : Fin 1024 → ℕ → EReal) (p : ℕ) (xr : Fin 2048 → EReal) (wp : Fin 4 → Fin 256 → Fin 256 → EReal)
  (ps : Fin 1024 → EReal) (wo : Fin 2048 → Fin 2048 → EReal) (nw : Fin 2048 → EReal)

/-- A group's pooled row through the group's matrix. -/
def poolMix (g : Fin 4) (e : Fin 256) : EReal :=
  (∑ d : Fin 256, pooled (f ⟨256 * g.val + d.val, by omega⟩) p (win g) * wp g d e) * ps ⟨256 * g.val + e.val, by omega⟩

/-- The output projection of the recurrence's row beside the pooled row. -/
def mixed (n : Fin 2048) : EReal :=
  (∑ k : Fin 1024, oa k * wo ⟨k.val, by omega⟩ n)
    + ∑ k : Fin 1024, poolMix f p wp ps ⟨k.val / 256, by omega⟩ ⟨k.val % 256, by omega⟩ * wo ⟨1024 + k.val, by omega⟩ n

def mixOut (n : Fin 2048) : EReal :=
  xr n + mixed oa f p wp ps wo n
    * Ideal.rsqrt (Ideal.div (∑ m : Fin 2048, mixed oa f p wp ps wo m * mixed oa f p wp ps wo m) (Ideal.ofBits .f32 0x45000000#32) + eps) * nw n

end Mix

end Cert.Spec

end
-- ==== Proof.RefMix.lean ====
/- The reference program's mixed rows, read at an index. -/
module

public import proofs.«01_k».proof.Proof.Spec
public import proofs.«01_k».proof.Proof.Gen.ReferenceIdeal.Read

@[expose] public section

set_option maxHeartbeats 1000000

noncomputable section

namespace Cert.RefMix

open Cert.ReferenceIdeal Cert.ReferenceIdeal.Gen Cert.ReferenceIdeal.Read Idealize.ShloMosaic Idealize.ShloMosaic.TcCoe Idealize.SL.Sem Idealize.ShloMosaic.StableHlo Cert.Scalars
open scoped BigOperators

variable (x0 : (⟨S8192x1024, .bf16⟩ : BufTy).Contents (Elt Ideal)) (x1 : (⟨S8192x1024, .f32⟩ : BufTy).Contents (Elt Ideal))
  (x2 : (⟨S8192x2048, .f32⟩ : BufTy).Contents (Elt Ideal)) (x3 : (⟨S4x256x256, .bf16⟩ : BufTy).Contents (Elt Ideal))
  (x4 : (⟨S1x1024, .f32⟩ : BufTy).Contents (Elt Ideal)) (x5 : (⟨S2048x2048, .bf16⟩ : BufTy).Contents (Elt Ideal))
  (x6 : (⟨S1x2048, .f32⟩ : BufTy).Contents (Elt Ideal))

/-- Row `t` of sequence `b`. -/
abbrev rowOf (b : Fin 4) (t : Fin 2048) : Fin 8192 := ⟨2048 * b.val + t.val, by omega⟩

/-- Column `c` of sequence `b`, as a function of the position. -/
def seqCol (u : (⟨S8192x1024, .f32⟩ : BufTy).Contents (Elt Ideal)) (b : Fin 4) (c : Fin 1024) (q : ℕ) : EReal :=
  if h : q < 2048 then u (ix2 (rowOf b ⟨q, h⟩) c) else 0

theorem up_read (b : Fin 4) (q : Fin 2063) (c : Fin 1024) :
    val_main_v3 (F := Ideal) x1 (ix3 b q c) = padded (seqCol x1 b c) q.val := by
  pointwise [val_main_v3, val_main_v2, val_main_v1, val_main_cst]
  unfold padded seqCol
  by_cases h : q.val < 15
  · rw [dif_pos h, if_pos h]
  · rw [dif_neg h, if_neg h, dif_pos (by omega)]
    exact congrArg (fun k : Fin 8192 => x1 (ix2 k c)) (Fin.ext (by simp; omega))

theorem cum_read (b : Fin 4) (q : Fin 2063) (c : Fin 1024) :
    val_main_v5 (F := Ideal) x1 (ix3 b q c) = ∑ r ∈ Finset.range (q.val + 1), padded (seqCol x1 b c) r := by
  unfold val_main_v5 Host.reduceWindowAdd
  rw [Ideal.hostReduceWindowAdd_def]
  have hi : val_main_call0_call0_v0 (F := Ideal) (Shape.Idx.first h_S_) = (0 : EReal) := by
    rw [val_main_call0_call0_v0_apply, val_main_call0_call0_cst_apply]; exact Ideal.ofBits_zero_f32
  rw [cumsum_apply (A := 4) (n := 2063) (m := 2062) (C := 1024) rfl (val_main_v3 (F := Ideal) x1) _ hi
    reduceWindows_S4x2063x1024_S4x2063x1024_w1s1p0_0_w2063s1p2062_0_w1s1p0_0 b q c]
  simp only [up_read]
  exact sum_fin_le_eq_range _ q

theorem c0_read (b : Fin 4) (q : Fin 2064) (c : Fin 1024) :
    val_main_v6 (F := Ideal) x1 (ix3 b q c) = ∑ r ∈ Finset.range q.val, padded (seqCol x1 b c) r := by
  pointwise [val_main_v6, val_main_v4, val_main_cst_0]
  simp only [cum_read]
  by_cases h : q.val < 1
  · rw [dif_pos h, show q.val = 0 by omega, Finset.range_zero, Finset.sum_empty]
  · rw [dif_neg h, show q.val - 1 + 1 = q.val by omega]

theorem seqCol_real {x1} (hu : ∀ i, Real' (x1 i)) (b : Fin 4) (c : Fin 1024) (q : ℕ) : Real' (seqCol x1 b c q) := by
  unfold seqCol
  split
  · exact hu _
  · exact ⟨0, rfl⟩

theorem group_fin {x1} (hu : ∀ i, Real' (x1 i)) (b : Fin 4) (c : Fin 1024) (t : Fin 2048) (w m : ℕ) (hm : m + w = t.val + 16) (hw : w ≤ 16) :
    Ideal.div ((∑ r ∈ Finset.range (16 + t.val), padded (seqCol x1 b c) r) - (∑ r ∈ Finset.range m, padded (seqCol x1 b c) r))
        ((FloatOps.sitofp .f32 (IntOp.minsi (IntOp.addi (BitVec.ofNat 32 t.val) 1#32) (BitVec.ofNat 32 w)) : Ideal .f32)) - padded (seqCol x1 b c) (15 + t.val)
      = Spec.pooled (seqCol x1 b c) t.val w := by
  have h1 := winSum_eq_sub (seqCol x1 b c) t.val w m hm hw (fun q _ => seqCol_real hu b c q)
  rw [Nat.add_comm 16, h1]
  unfold Spec.pooled
  have ht := t.isLt
  have h2 : (FloatOps.sitofp .f32 (IntOp.minsi (IntOp.addi (BitVec.ofNat 32 t.val) 1#32) (BitVec.ofNat 32 w)) : Ideal .f32)
      = (((min (t.val + 1) w : ℕ) : ℝ) : EReal) := congrArg (fun r : ℝ => (r : EReal)) (count_word (by omega) (by omega))
  rw [h2]
  unfold padded
  rw [if_neg (by omega), show 15 + t.val - 15 = t.val by omega]

theorem group0_read (hu : ∀ i, Real' (x1 i)) (b : Fin 4) (t : Fin 2048) (d : Fin 256) :
    val_main_v21 (F := Ideal) x1 (ix3 b t d) = Spec.pooled (seqCol x1 b ⟨256 * 0 + d.val, by omega⟩) t.val (Spec.win 0) := by
  pointwise [val_main_v21, val_main_v20, val_main_v19, val_main_v18, val_main_v17, val_main_v16, val_main_v15, val_main_v14, val_main_v13, val_main_v12, val_main_v11, val_main_v10, val_main_v9, val_main_v8, val_main_v7, val_main_c, val_main_c_1]
  simp only [c0_read, up_read]
  exact group_fin hu b _ t 2 (14 + t.val) (by omega) (by omega)

theorem group1_read (hu : ∀ i, Real' (x1 i)) (b : Fin 4) (t : Fin 2048) (d : Fin 256) :
    val_main_v34 (F := Ideal) x1 (ix3 b t d) = Spec.pooled (seqCol x1 b ⟨256 * 1 + d.val, by omega⟩) t.val (Spec.win 1) := by
  pointwise [val_main_v34, val_main_v33, val_main_v32, val_main_v31, val_main_v30, val_main_v29, val_main_v28, val_main_v27, val_main_v26, val_main_v25, val_main_v24, val_main_v23, val_main_v22, val_main_v8, val_main_v7, val_main_c_2, val_main_c_3]
  simp only [c0_read, up_read]
  exact group_fin hu b _ t 4 (12 + t.val) (by omega) (by omega)

theorem group2_read (hu : ∀ i, Real' (x1 i)) (b : Fin 4) (t : Fin 2048) (d : Fin 256) :
    val_main_v47 (F := Ideal) x1 (ix3 b t d) = Spec.pooled (seqCol x1 b ⟨256 * 2 + d.val, by omega⟩) t.val (Spec.win 2) := by
  pointwise [val_main_v47, val_main_v46, val_main_v45, val_main_v44, val_main_v43, val_main_v42, val_main_v41, val_main_v40, val_main_v39, val_main_v38, val_main_v37, val_main_v36, val_main_v35, val_main_v8, val_main_v7, val_main_c_4, val_main_c_5]
  simp only [c0_read, up_read]
  exact group_fin hu b _ t 8 (8 + t.val) (by omega) (by omega)

theorem group3_read (hu : ∀ i, Real' (x1 i)) (b : Fin 4) (t : Fin 2048) (d : Fin 256) :
    val_main_v60 (F := Ideal) x1 (ix3 b t d) = Spec.pooled (seqCol x1 b ⟨256 * 3 + d.val, by omega⟩) t.val (Spec.win 3) := by
  pointwise [val_main_v60, val_main_v59, val_main_v58, val_main_v57, val_main_v56, val_main_v55, val_main_v54, val_main_v53, val_main_v52, val_main_v51, val_main_v50, val_main_v49, val_main_v48, val_main_v8, val_main_v7, val_main_c_6, val_main_c_7]
  simp only [c0_read, up_read]
  exact group_fin hu b _ t 16 t.val (by omega) (by omega)

theorem pooled_read (hu : ∀ i, Real' (x1 i)) (b : Fin 4) (t : Fin 2048) (g : Fin 4) (d : Fin 256) :
    val_main_v65 (F := Ideal) x1 (ix4 b t g d) = Spec.pooled (seqCol x1 b ⟨256 * g.val + d.val, by omega⟩) t.val (Spec.win g) := by
  match g with
  | 0 =>
    have key : val_main_v65 (F := Ideal) x1 (ix4 b t 0 d) = val_main_v21 (F := Ideal) x1 (ix3 b t d) := by
      pointwise [val_main_v65, val_main_v64, val_main_v63, val_main_v62, val_main_v61]
    exact key.trans (group0_read x1 hu b t d)
  | 1 =>
    have key : val_main_v65 (F := Ideal) x1 (ix4 b t 1 d) = val_main_v34 (F := Ideal) x1 (ix3 b t d) := by
      pointwise [val_main_v65, val_main_v64, val_main_v63, val_main_v62, val_main_v61]
    exact key.trans (group1_read x1 hu b t d)
  | 2 =>
    have key : val_main_v65 (F := Ideal) x1 (ix4 b t 2 d) = val_main_v47 (F := Ideal) x1 (ix3 b t d) := by
      pointwise [val_main_v65, val_main_v64, val_main_v63, val_main_v62, val_main_v61]
    exact key.trans (group2_read x1 hu b t d)
  | 3 =>
    have key : val_main_v65 (F := Ideal) x1 (ix4 b t 3 d) = val_main_v60 (F := Ideal) x1 (ix3 b t d) := by
      pointwise [val_main_v65, val_main_v64, val_main_v63, val_main_v62, val_main_v61]
    exact key.trans (group3_read x1 hu b t d)

theorem ob_read (hu : ∀ i, Real' (x1 i)) (b : Fin 4) (t : Fin 2048) (c : Fin 1024) :
    val_main_v70 (F := Ideal) x1 x3 x4 (ix2 (rowOf b t) c)
      = Spec.poolMix (seqCol x1 b) t.val (fun g d e => x3 (ix3 g d e)) (fun c => x4 (ix2 0 c)) ⟨c.val / 256, by omega⟩ ⟨c.val % 256, by omega⟩ := by
  pointwise [val_main_v70, val_main_v69, val_main_v68, val_main_v67, val_main_v66, val_main_v0]
  simp only [pooled_read x1 hu]
  have e1 : (⟨(2048 * b.val + t.val) / 2048, by omega⟩ : Fin 4) = b := Fin.ext (by simp; omega)
  have e2 : (2048 * b.val + t.val) % 2048 = t.val := by omega
  have e3 : (⟨256 * (c.val / 256) + c.val % 256, by omega⟩ : Fin 1024) = c := Fin.ext (by simp; omega)
  simp only [e1, e2]
  unfold Spec.poolMix
  rw [e3]
  simp only [mul_comm (Spec.pooled _ _ _)]

theorem mix_read (hu : ∀ i, Real' (x1 i)) (b : Fin 4) (t : Fin 2048) (n : Fin 2048) :
    val_main_v74 (F := Ideal) x0 x1 x3 x4 x5 (ix2 (rowOf b t) n)
      = Spec.mixed (fun k => x0 (ix2 (rowOf b t) k)) (seqCol x1 b) t.val (fun g d e => x3 (ix3 g d e)) (fun c => x4 (ix2 0 c)) (fun k n => x5 (ix2 k n)) n := by
  pointwise [val_main_v74, val_main_v73, val_main_v72, val_main_v71]
  simp only [ob_read x1 x3 x4 hu]
  rfl

theorem out_read (hu : ∀ i, Real' (x1 i)) (b : Fin 4) (t : Fin 2048) (n : Fin 2048) :
    val_main_v87 (F := Ideal) x0 x1 x2 x3 x4 x5 x6 (ix2 (rowOf b t) n)
      = Spec.mixOut (fun k => x0 (ix2 (rowOf b t) k)) (seqCol x1 b) t.val (fun n => x2 (ix2 (rowOf b t) n)) (fun g d e => x3 (ix3 g d e)) (fun c => x4 (ix2 0 c))
          (fun k n => x5 (ix2 k n)) (fun n => x6 (ix2 0 n)) n := by
  pointwise [val_main_v87, val_main_v86, val_main_v85, val_main_v84, val_main_v83, val_main_v82, val_main_v81, val_main_v80, val_main_v79, val_main_v78, val_main_v77, val_main_v76, val_main_v75, val_main_cst_8, val_main_cst_9, val_main_cst_10]
  simp only [mix_read x0 x1 x3 x4 x5 hu]
  rfl

end Cert.RefMix

end
-- ==== Proof.MixStage.lean ====
module

public import proofs.«01_k».proof.Proof.Loads
public import proofs.«01_k».proof.Proof.RefMix
public import Idealize.ShloMosaic.Lib.Pointwise
public import Idealize.ShloMosaic.Lib.Pipeline.CanonAppend

/-! The pooling and the mix of one grid point, read element by element as the layer's formulas for one row. -/

@[expose] public section

noncomputable section

namespace Cert.MixStage
open Cert.KernelIdeal Cert.KernelIdeal.Gen Idealize.ShloMosaic
open Cert.Blend Cert.Scalars
open scoped BigOperators

/-- The place of a grid point's tile in its sequence. -/
theorem words : ∀ t : Fin cfg0.N, Found.coordWord t = BitVec.ofNat 32 t.val ∧
    startWord (Found.coordWord t) = BitVec.ofNat 32 (512 * (t.val % 4)) ∧
    startWord' (Found.coordWord t) = BitVec.ofNat 32 (512 * (t.val % 4)) ∧
    (Scalar.cmpi .sgt (BitVec.ofNat 32 (512 * (t.val % 4))) 0#32 = if 0 < t.val % 4 then 1#1 else 0#1) := by
  decide +kernel

section Strips
variable (w : Fin 8 → BitVec 32) (U : Fin 8 → Vec Ideal S512x128 .f32) (H : Fin 8 → Vec Ideal S16x128 .f32)

/-- The extended strips as one function of the index. -/
def extended (s : Fin 8) (q : Fin 528) (k : Fin 128) : EReal :=
  if h : 16 ≤ q.val then U s (ix2 ⟨q.val - 16, by omega⟩ k)
  else if Scalar.cmpi .sgt (w s) 0#32 = 1#1 then H s (ix2 ⟨q.val, by omega⟩ k) else 0

theorem body_read (s : Fin 8) (z : Fin 1) (q : Fin 512) (k : Fin 128) : body (U s) (ix3 z q k) = U s (ix2 q k) := by
  unfold body
  pointwise

theorem halo_read (v : BitVec 32) (z : Fin 1) (s : Fin 8) (q : Fin 16) (k : Fin 128) :
    halo v (H s) (ix3 z q k) = if Scalar.cmpi .sgt v 0#32 = 1#1 then H s (ix2 q k) else 0 := by
  unfold halo
  by_cases h : Scalar.cmpi .sgt v 0#32 = 1#1
  · rw [if_pos h, h]
    pointwise
  · rw [if_neg h]
    pointwise
    exact if_neg h

/-- The same function of an index of the extended array. -/
def extendedAt (y : S8x528x128.Idx) : Elt Ideal .f32 := extended w U H (y 0) (y 1) (y 2)

theorem extendedAt_body (s : Fin 8) (q : Fin 512) (k : Fin 128) :
    extendedAt w U H (ix3 s ⟨16 + q.val, by omega⟩ k) = U s (ix2 q k) := by
  show extended w U H s ⟨16 + q.val, _⟩ k = _
  unfold extended
  rw [dif_pos (show 16 ≤ 16 + q.val by omega)]
  simp only [Nat.add_sub_cancel_left]

theorem extendedAt_halo (s : Fin 8) (q : Fin 16) (k : Fin 128) :
    extendedAt w U H (ix3 s ⟨q.val, by omega⟩ k) = if Scalar.cmpi .sgt (w s) 0#32 = 1#1 then H s (ix2 q k) else 0 := by
  show extended w U H s ⟨q.val, _⟩ k = _
  unfold extended
  rw [dif_neg (show ¬ 16 ≤ q.val by omega)]

theorem body_piece (s : Fin 8) (x : S1x512x128.Idx) :
    body (U s) x = extendedAt w U H ((Rect.unit (s := S8x528x128) ![s.val, 16 - 0, 0] S1x512x128.size (inbShift s 0)).emb x) := by
  rw [eq_ix3 x]
  generalize (x 0 : Fin 1) = z; generalize (x 1 : Fin 512) = q; generalize (x 2 : Fin 128) = k
  refine (body_read U s z q k).trans ((extendedAt_body w U H s q k).symm.trans (congrArg (extendedAt w U H) (funext fun (a : Fin 3) => Fin.ext ?_)))
  match a with
  | 0 => have hz : z.val < 1 := z.isLt; show s.val = s.val + 1 * z.val; omega
  | 1 => show 16 + q.val = 16 - 0 + 1 * q.val; omega
  | 2 => show k.val = 0 + 1 * k.val; omega

theorem halo_piece (s : Fin 8) (x : S1x16x128.Idx) :
    halo (w s) (H s) x = extendedAt w U H ((Rect.unit (s := S8x528x128) ![s.val, 0, 0] S1x16x128.size (inbHalo s)).emb x) := by
  rw [eq_ix3 x]
  generalize (x 0 : Fin 1) = z; generalize (x 1 : Fin 16) = q; generalize (x 2 : Fin 128) = k
  refine (halo_read H (w s) z s q k).trans ((extendedAt_halo w U H s q k).symm.trans (congrArg (extendedAt w U H) (funext fun (a : Fin 3) => Fin.ext ?_)))
  match a with
  | 0 => have hz : z.val < 1 := z.isLt; show s.val = s.val + 1 * z.val; omega
  | 1 => show q.val = 0 + 1 * q.val; omega
  | 2 => show k.val = 0 + 1 * k.val; omega

theorem mem_strips (s : Fin 8) : s ∈ [(7 : Fin 8), 6, 5, 4, 3, 2, 1, 0] := by revert s; decide

theorem ext_read (s : Fin 8) (q : Fin 528) (k : Fin 128) :
    View.canon (Val := Elt Ideal) (extPieces w U H) (ix3 s q k) = extendedAt w U H (ix3 s q k) := by
  refine View.canon_apply_of_pieces (Val := Elt Ideal) (extendedAt w U H) _ (fun p hp x => ?_) _ ?_
  · obtain ⟨s, -, hp⟩ := List.mem_flatMap.1 hp
    rcases List.mem_cons.1 hp with rfl | hp
    · exact body_piece w U H s x
    · obtain rfl := List.mem_singleton.1 hp
      exact halo_piece w U H s x
  · by_cases h : 16 ≤ q.val
    · refine ⟨_, List.mem_flatMap.2 ⟨s, mem_strips s, List.mem_cons_self ..⟩, (Rect.mem_set_unit (inb := inbShift s 0)).2 fun (a : Fin 3) => ?_⟩
      match a with
      | 0 => show s.val ≤ s.val ∧ s.val < s.val + 1; omega
      | 1 => show 16 - 0 ≤ q.val ∧ q.val < 16 - 0 + 512; omega
      | 2 => show 0 ≤ k.val ∧ k.val < 0 + 128; omega
    · refine ⟨_, List.mem_flatMap.2 ⟨s, mem_strips s, List.mem_cons_of_mem _ (List.mem_singleton_self _)⟩, (Rect.mem_set_unit (inb := inbHalo s)).2 fun (a : Fin 3) => ?_⟩
      match a with
      | 0 => show s.val ≤ s.val ∧ s.val < s.val + 1; omega
      | 1 => show 0 ≤ q.val ∧ q.val < 0 + 16; omega
      | 2 => show 0 ≤ k.val ∧ k.val < 0 + 128; omega

/-- The strip `s` of the extended rows from row `16 - r`. -/
theorem shifted_read (s : Fin 8) (r : ℕ) (hr : r ≤ 16) (z : Fin 1) (q : Fin 512) (k : Fin 128) :
    View.canon (Val := Elt Ideal) (extPieces w U H)
        ((Rect.unit (s := S8x528x128) ![s.val, 16 - r, 0] S1x512x128.size (inbShift s r)).idx (ix3 z q k))
      = extendedAt w U H (ix3 s ⟨16 - r + q.val, by omega⟩ k) := by
  rw [← ext_read]
  refine congrArg (View.canon (Val := Elt Ideal) (extPieces w U H)) (funext fun (a : Fin 3) => Fin.ext ?_)
  match a with
  | 0 => show s.val + 1 * z.val = s.val; omega
  | 1 => show 16 - r + 1 * q.val = 16 - r + q.val; omega
  | 2 => show 0 + 1 * k.val = k.val; omega

end Strips

theorem windowSum_read (u : Vec Ideal S512x128 .f32) (E : ℕ → Vec Ideal S1x512x128 .f32) (f : ℕ → EReal) (q : Fin 512) (k : Fin 128)
    (n : ℕ) (h0 : u (ix2 q k) = f 0) (h : ∀ r ≤ n, 0 < r → E r (ix3 0 q k) = f r) :
    windowSum u E n (ix2 q k) = ∑ r ∈ Finset.range (n + 1), f r := by
  induction n with
  | zero => simpa [windowSum] using h0
  | succ n ih =>
    rw [Finset.sum_range_succ, ← ih (fun r hr => h r (by omega)), ← h (n + 1) le_rfl (by omega)]
    show addf (windowSum u E n) _ _ = _
    pointwise

theorem counts_read (b n : ℕ) (hb : b < 4096) (hn : n < 4096) (q : Fin 512) (k : Fin 128) :
    counts (F := Ideal) (BitVec.ofNat 32 b) n (ix2 q k) = (((min (b + q.val + 1) n : ℕ) : ℝ) : EReal) := by
  unfold counts
  pointwise
  have e : IntOp.addi (Scalar.addi (0#32) (BitVec.ofNat 32 b)) (BitVec.ofNat 32 q.val) = BitVec.ofNat 32 (b + q.val) := by
    show 0#32 + BitVec.ofNat 32 b + BitVec.ofNat 32 q.val = _
    rw [BitVec.zero_add, ← BitVec.ofNat_add]
  rw [e]
  exact congrArg (fun r : ℝ => (r : EReal)) (count_word (by omega) (by omega))

theorem group_read (p q : FVec Ideal S512x128 .f32) (wp : Vec Ideal S1x256x256 .bf16) (ps : Vec Ideal S1x256 .f32) (r : Fin 512) (e : Fin 256) :
    group p q wp ps (ix2 r e) =
      (∑ d : Fin 256, (if h : d.val < 128 then p (ix2 r ⟨d.val, h⟩) else q (ix2 r ⟨d.val - 128, by omega⟩)) * wp (ix3 0 d e)) * ps (ix2 0 e) := by
  unfold group
  pointwise

theorem groups_read (g : Fin 4 → FVec Ideal S512x256 .bf16) (r : Fin 512) (k : Fin 1024) :
    groups g (ix2 r k) = g ⟨k.val / 256, by omega⟩ (ix2 r ⟨k.val % 256, by omega⟩) := by
  unfold groups
  pointwise
  have hk := k.isLt
  split
  · have e : k.val / 256 = 0 := by omega
    have e' : k.val % 256 = k.val := by omega
    simp only [e, e']; rfl
  split
  · have e : k.val / 256 = 1 := by omega
    have e' : k.val % 256 = k.val - 256 := by omega
    simp only [e, e']; rfl
  split
  · have e : k.val / 256 = 2 := by omega
    have e' : k.val % 256 = k.val - 256 - 256 := by omega
    simp only [e, e']; rfl
  · have e : k.val / 256 = 3 := by omega
    have e' : k.val % 256 = k.val - 256 - 256 - 256 := by omega
    simp only [e, e']; rfl

theorem firstHalf_read (oa : Vec Ideal S512x1024 .bf16) (wo : Vec Ideal S1024x512 .bf16) (r : Fin 512) (e : Fin 512) :
    firstHalf oa wo (ix2 r e) = ∑ k : Fin 1024, oa (ix2 r k) * wo (ix2 k e) := by
  unfold firstHalf
  pointwise

theorem mixChunk_read (ob : FVec Ideal S512x1024 .bf16) (before : Vec Ideal S512x512 .f32) (wo : Vec Ideal S1024x512 .bf16) (r : Fin 512) (e : Fin 512) :
    mixChunk ob before wo (ix2 r e) = before (ix2 r e) + ∑ k : Fin 1024, ob (ix2 r k) * wo (ix2 k e) := by
  unfold mixChunk
  rw [← firstHalf_read]
  pointwise

/-- One over the row length. -/
theorem inv_len : Ideal.ofBits .f32 0x3A000000#32 = Ideal.div 1 (Ideal.ofBits .f32 0x45000000#32) := by
  have a : Ideal.ofBits .f32 0x3A000000#32 = ((1 / 2048 : ℝ) : EReal) := by
    simp [Ideal.ofBits, Ideal.ieee, -EReal.coe_mul]; norm_num
  have b : Ideal.ofBits .f32 0x45000000#32 = ((2048 : ℝ) : EReal) := by
    simp [Ideal.ofBits, Ideal.ieee, -EReal.coe_mul]; norm_num
  rw [a, b, ← EReal.coe_one, Ideal.div_coe (by norm_num), ← EReal.coe_mul]
  norm_num

theorem len_ne : Ideal.ofBits .f32 0x45000000#32 ≠ 0 := by
  have b : Ideal.ofBits .f32 0x45000000#32 = ((2048 : ℝ) : EReal) := by
    simp [Ideal.ofBits, Ideal.ieee, -EReal.coe_mul]; norm_num
  rw [b]
  exact_mod_cast (by norm_num : (2048 : ℝ) ≠ 0)

theorem rootInv_read (p : Fin 4 → FVec Ideal S512x512 .f32) (r : Fin 512) (z : Fin 1) (F : Fin 2048 → EReal)
    (h : ∀ (n : Fin 4) (e : Fin 512), p n (ix2 r e) = F ⟨512 * n.val + e.val, by omega⟩) :
    rootInv p (ix2 r z) = Ideal.rsqrt (Ideal.div (∑ m : Fin 2048, F m * F m) (Ideal.ofBits .f32 0x45000000#32) + Spec.eps) := by
  rw [Fin.sum_univ_tiles 4 512 (by norm_num), Fin.sum_univ_four, ← Ideal.mul_one_div len_ne, ← inv_len]
  unfold rootInv squares
  pointwise
  simp only [h]
  rfl

theorem final_read (x : Vec Ideal S512x512 .f32) (p : FVec Ideal S512x512 .f32) (inv : FVec Ideal S512x1 .f32) (nw : Vec Ideal S1x512 .f32)
    (r e : Fin 512) : finalChunk x p inv nw (ix2 r e) = x (ix2 r e) + p (ix2 r e) * inv (ix2 r 0) * nw (ix2 0 e) := by
  unfold finalChunk
  pointwise

/-- The four chunks side by side. -/
def wide (f : Fin 4 → FVec Ideal S512x512 .f32) (y : S512x2048.Idx) : Elt Ideal .f32 :=
  f ⟨(y 1).val / 512, by have : (y 1).val < 2048 := (y 1).isLt; omega⟩ (ix2 (y 0) ⟨(y 1).val % 512, Nat.mod_lt _ (by norm_num)⟩)

theorem wide_at (f : Fin 4 → FVec Ideal S512x512 .f32) (n : Fin 4) (q e : Fin 512) :
    wide f (ix2 q ⟨512 * n.val + e.val, by omega⟩) = f n (ix2 q e) := by
  have h1 : (512 * n.val + e.val) / 512 = n.val := by omega
  have h2 : (512 * n.val + e.val) % 512 = e.val := by omega
  show f ⟨(512 * n.val + e.val) / 512, _⟩ (ix2 q ⟨(512 * n.val + e.val) % 512, _⟩) = _
  simp only [h1, h2]

theorem chunk_emb (n : Fin 4) (q e : Fin 512) :
    ((Rect.unit (s := S512x2048) ![0, 512 * n.val] S512x512.size (inbChunk n)).emb (ix2 q e))
      = ix2 q ⟨512 * n.val + e.val, by omega⟩ := by
  refine funext fun (a : Fin 2) => Fin.ext ?_
  match a with
  | 0 => show 0 + 1 * q.val = q.val; omega
  | 1 => show 512 * n.val + 1 * e.val = 512 * n.val + e.val; omega

/-- Four chunks stored side by side. -/
abbrev chunkPieces (f : Fin 4 → FVec Ideal S512x512 .f32) : List (View.Piece (Elt Ideal) S512x2048 .f32) :=
  [3, 2, 1, 0].map fun n : Fin 4 => ⟨Rect.unit ![0, 512 * n.val] S512x512.size (inbChunk n), f n⟩

theorem mem_chunks (n : Fin 4) : n ∈ [(3 : Fin 4), 2, 1, 0] := by revert n; decide

theorem wide_read (f : Fin 4 → FVec Ideal S512x512 .f32) (L : List (View.Piece (Elt Ideal) S512x2048 .f32)) (n : Fin 4) (q e : Fin 512) :
    View.canon (Val := Elt Ideal) (chunkPieces f ++ L) (ix2 q ⟨512 * n.val + e.val, by omega⟩) = f n (ix2 q e) := by
  rw [← wide_at f]
  refine View.canon_append_of_pieces (Val := Elt Ideal) (wide f) L _ (fun p hp x => ?_) _ ?_
  · obtain ⟨n, -, rfl⟩ := List.mem_map.1 hp
    have e : ∀ x : S512x512.Idx, f n x = wide f ((Rect.unit (s := S512x2048) ![0, 512 * n.val] S512x512.size (inbChunk n)).emb x) := fun x => by
      rw [eq_ix2 x]
      exact ((congrArg (wide f) (chunk_emb n (x 0) (x 1))).trans (wide_at f n (x 0) (x 1))).symm
    exact e x
  · refine ⟨_, List.mem_map.2 ⟨n, mem_chunks n, rfl⟩, (Rect.mem_set_unit (inb := inbChunk n)).2 fun (a : Fin 2) => ?_⟩
    match a with
    | 0 => show 0 ≤ q.val ∧ q.val < 0 + 512; omega
    | 1 => show 512 * n.val ≤ 512 * n.val + e.val ∧ 512 * n.val + e.val < 512 * n.val + 512; omega

end Cert.MixStage

end

end
-- ==== Proof.GridMix.lean ====
module

public import proofs.«01_k».proof.Proof.MixStage

/-! What a grid point stores in the window of the mixed rows: the layer's formula of the program's arguments. -/

@[expose] public section

noncomputable section

namespace Cert.GridMix
open Cert.KernelIdeal Cert.KernelIdeal.Gen Idealize.ShloMosaic Idealize.ShloMosaic.TcCoe Idealize.SL.Sem Idealize.ShloMosaic.Tactic
open Cert.Found Cert.Loads Cert.MixStage Cert.Blend Cert.Scalars Cert.RefMix
open scoped BigOperators

variable (m : (ℓ : Loc nD τ sig) → Buf (Elt Ideal) ℓ) (c : Dev nD) (t : Fin cfg0.N)

/-- The sequence of a grid point's tile, and a row's position in it. -/
def seqOf : Fin 4 := ⟨t.val / 4, by have := lt16 t; omega⟩
def posOf (q : Fin 512) : Fin 2048 := ⟨512 * (t.val % 4) + q.val, by omega⟩

/-- The row of the whole array that a tile's row is. -/
theorem row_eq (q : Fin 512) : rowOf (seqOf t) (posOf t q) = ⟨512 * t.val + q.val, by have := lt16 t; omega⟩ :=
  Fin.ext (by show 2048 * (t.val / 4) + (512 * (t.val % 4) + q.val) = _; simp only []; omega)

/-- One column of the pooling input along the tile's sequence. -/
abbrev col (k : Fin 1024) : ℕ → EReal := seqCol (m ((c : Thread nD τ).loc main_arg1)) (seqOf t) k

theorem col_at (k : Fin 1024) (p : ℕ) (r : Fin 8192) (hp : p < 2048) (hr : 2048 * (t.val / 4) + p = r.val) :
    col m c t k p = m ((c : Thread nD τ).loc main_arg1) (ix2 r k) := by
  unfold col seqCol
  rw [dif_pos hp]
  exact congrArg (fun r : Fin 8192 => m ((c : Thread nD τ).loc main_arg1) (ix2 r k)) (Fin.ext hr)

theorem strip_read (s : Fin 8) (q : Fin 512) (k : Fin 128) :
    rawU m c t s (ix2 q k) = col m c t ⟨128 * s.val + k.val, by omega⟩ (posOf t q).val := by
  rw [u_read, col_at m c t _ _ _ (posOf t q).isLt]
  show 2048 * (t.val / 4) + (512 * (t.val % 4) + q.val) = 512 * t.val + q.val
  omega

theorem halo_word (s : Fin 8) : haloWord t s = BitVec.ofNat 32 (512 * (t.val % 4)) := by
  unfold haloWord
  split
  · exact (words t).2.1
  · exact (words t).2.1
  · exact (words t).2.2.1

theorem earlier_read (s : Fin 8) (r : ℕ) (hr : r < 16) (z : Fin 1) (q : Fin 512) (k : Fin 128) :
    rawE m c t s r (ix3 z q k)
      = if r ≤ (posOf t q).val then col m c t ⟨128 * s.val + k.val, by omega⟩ ((posOf t q).val - r) else 0 := by
  have ht := lt16 t
  have hp : (posOf t q).val = 512 * (t.val % 4) + q.val := rfl
  unfold rawE
  rw [View.readCov_eq_canon']
  refine (shifted_read (haloWord t) (rawU m c t) (rawH m c t) s r (by omega) z q k).trans ?_
  by_cases h : r ≤ q.val
  · rw [if_pos (by omega)]
    have e : (⟨16 - r + q.val, by omega⟩ : Fin 528) = ⟨16 + (⟨q.val - r, by omega⟩ : Fin 512).val, by simp only []; omega⟩ := Fin.ext (by simp only []; omega)
    rw [e, extendedAt_body, strip_read]
    refine congrArg (col m c t _) ?_
    show 512 * (t.val % 4) + (q.val - r) = _
    omega
  · have e : (⟨16 - r + q.val, by omega⟩ : Fin 528) = ⟨(⟨16 - r + q.val, by omega⟩ : Fin 16).val, by simp only []; omega⟩ := rfl
    rw [e, extendedAt_halo, halo_word, (words t).2.2.2]
    by_cases h0 : 0 < t.val % 4
    · rw [if_pos h0, if_pos rfl, if_pos (by omega), h_read m c t (by omega)]
      refine (col_at m c t _ _ _ (by omega) ?_).symm
      show 2048 * (t.val / 4) + ((posOf t q).val - r) = 512 * t.val - 16 + (16 - r + q.val)
      omega
    · rw [if_neg h0, if_neg (by decide), if_neg (by omega)]

/-- A pooled strip is the window's mean less the row. -/
theorem pooled_read (s : Fin 8) (n : ℕ) (hn : 0 < n) (hn' : n ≤ 16) (q : Fin 512) (k : Fin 128) :
    pooledStrip (startWord' (coordWord t)) n (rawU m c t s) (rawE m c t s) (ix2 q k)
      = Spec.pooled (col m c t ⟨128 * s.val + k.val, by omega⟩) (posOf t q).val n := by
  have hw : windowSum (rawU m c t s) (rawE m c t s) (n - 1) (ix2 q k)
      = winSum (col m c t ⟨128 * s.val + k.val, by omega⟩) (posOf t q).val n := by
    refine (windowSum_read _ _ (fun r => if r ≤ (posOf t q).val then col m c t ⟨128 * s.val + k.val, by omega⟩ ((posOf t q).val - r) else 0)
      q k (n - 1) ?_ (fun r hr _ => earlier_read m c t s r (by omega) 0 q k)).trans ?_
    · rw [if_pos (Nat.zero_le _)]; exact strip_read m c t s q k
    · rw [Nat.sub_add_cancel hn]; rfl
  have hc := counts_read (512 * (t.val % 4)) n (by omega) (by omega) q k
  unfold pooledStrip Spec.pooled
  rw [(words t).2.2.1]
  pointwise
  rw [hw, hc, strip_read]
  rfl

/-- The arguments of the mix, as the layer's formula takes them. -/
abbrev oaRow (q : Fin 512) : Fin 1024 → EReal := fun k => m ((c : Thread nD τ).loc main_arg0) (ix2 (rowOf (seqOf t) (posOf t q)) k)
abbrev xRow (q : Fin 512) : Fin 2048 → EReal := fun n => m ((c : Thread nD τ).loc main_arg2) (ix2 (rowOf (seqOf t) (posOf t q)) n)
abbrev wPool : Fin 4 → Fin 256 → Fin 256 → EReal := fun g d e => m ((c : Thread nD τ).loc main_arg3) (ix3 g d e)
abbrev sPool : Fin 1024 → EReal := fun k => m ((c : Thread nD τ).loc main_arg4) (ix2 0 k)
abbrev wOut : Fin 2048 → Fin 2048 → EReal := fun k n => m ((c : Thread nD τ).loc main_arg5) (ix2 k n)
abbrev wNorm : Fin 2048 → EReal := fun n => m ((c : Thread nD τ).loc main_arg6) (ix2 0 n)

theorem group_at (g : Fin 4) (q : Fin 512) (e : Fin 256) :
    rawGroup m c t g (ix2 q e) = Spec.poolMix (col m c t) (posOf t q).val (wPool m c) (sPool m c) g e := by
  have hw : 0 < Spec.win g ∧ Spec.win g ≤ 16 := by revert g; decide
  unfold rawGroup Spec.poolMix
  rw [group_read, ps_read]
  refine congrArg (· * _) (Finset.sum_congr rfl fun d _ => ?_)
  rw [wp_read]
  refine congrArg (· * _) ?_
  by_cases h : d.val < 128
  · rw [dif_pos h, pooled_read m c t _ _ hw.1 hw.2]
    refine congrArg (fun k => Spec.pooled (col m c t k) (posOf t q).val (Spec.win g)) (Fin.ext ?_)
    show 128 * (2 * g.val) + d.val = 256 * g.val + d.val; omega
  · rw [dif_neg h, pooled_read m c t _ _ hw.1 hw.2]
    refine congrArg (fun k => Spec.pooled (col m c t k) (posOf t q).val (Spec.win g)) (Fin.ext ?_)
    show 128 * (2 * g.val + 1) + (d.val - 128) = 256 * g.val + d.val; omega

theorem first_at (n : Fin 4) (q e : Fin 512) :
    firstHalf (rawOa m c t) (rawWo m c t 0 n) (ix2 q e)
      = ∑ k : Fin 1024, oaRow m c t q k * wOut m c ⟨k.val, by omega⟩ ⟨512 * n.val + e.val, by omega⟩ := by
  rw [firstHalf_read]
  refine Finset.sum_congr rfl fun k _ => ?_
  rw [oa_read, wo_read]
  have e : ∀ hh, (⟨1024 * (0 : Fin 2).val + k.val, hh⟩ : Fin 2048) = ⟨k.val, by omega⟩ := fun _ => Fin.ext (by simp)
  simp only [e, ← row_eq]

theorem mix_at (n : Fin 4) (q e : Fin 512) :
    rawMix m c t n (ix2 q e)
      = Spec.mixed (oaRow m c t q) (col m c t) (posOf t q).val (wPool m c) (sPool m c) (wOut m c) ⟨512 * n.val + e.val, by omega⟩ := by
  unfold rawMix Spec.mixed
  rw [mixChunk_read, View.readCov_eq_canon']
  refine congrArg₂ (· + ·) ?_ (Finset.sum_congr rfl fun k _ => ?_)
  · refine Eq.trans ?_ (first_at m c t n q e)
    refine Eq.trans ?_ (wide_read (fun n => firstHalf (rawOa m c t) (rawWo m c t 0 n)) [] n q e)
    rw [List.append_nil]
    exact congrArg _ (chunk_emb n q e)
  · rw [groups_read, group_at, wo_read]
    rfl

/-- What the grid point leaves in its block of the mixed rows. -/
theorem last_at (n : Fin 4) (q e : Fin 512) :
    View.canon (Val := Elt Ideal) (lastPieces (rawMix m c t) (rawOa m c t) (rawWo m c t 0) (rawR m c t) (rawNw m c t))
        (ix2 q ⟨512 * n.val + e.val, by omega⟩)
      = Spec.mixOut (oaRow m c t q) (col m c t) (posOf t q).val (xRow m c t q) (wPool m c) (sPool m c) (wOut m c) (wNorm m c)
          ⟨512 * n.val + e.val, by omega⟩ := by
  refine (wide_read (fun n => finalChunk (rawR m c t n) (rawMix m c t n) (rootInv (rawMix m c t)) (rawNw m c t n)) _ n q e).trans ?_
  rw [final_read, r_read, nw_read, mix_at, rootInv_read _ _ _
    (Spec.mixed (oaRow m c t q) (col m c t) (posOf t q).val (wPool m c) (sPool m c) (wOut m c)) (fun n e => mix_at m c t n q e)]
  unfold Spec.mixOut xRow
  rw [row_eq]

end Cert.GridMix

end

end
-- ==== Proof.TokStage.lean ====
module

public import proofs.«01_k».proof.Proof.Tile
public import proofs.«01_k».proof.Proof.Spec
public import Idealize.ShloMosaic.Lib.Pointwise

/-! The token job of one grid point, read element by element as the layer's formulas for one row. -/

@[expose] public section

noncomputable section

namespace Cert.TokStage
open Cert.KernelIdeal Cert.KernelIdeal.Gen Idealize.ShloMosaic
open Cert.Tile Cert.Scalars
open scoped BigOperators

variable (X : Vec Ideal S8x4096 .f32) (C : Fin 3 → Vec Ideal S1x8x3072 .f32) (G : Vec Ideal S8x128 .f32) (W : Vec Ideal S4x3072 .f32)
  (Wn : Vec Ideal S1x128 .f32) (S : Vec Ideal S1x1x128x128 .f32) (A : FVec Ideal S8x3072 .f32) (t h : Fin 8)
variable (x : Fin 4096 → EReal) (cs : Fin 3 → Fin 3072 → EReal) (g : Fin 128 → EReal) (cw : Fin 4 → Fin 3072 → EReal)
  (gnw : Fin 128 → EReal) (s : Fin 128 → Fin 128 → EReal)

theorem one_f32 : Ideal.ofBits .f32 0x3F800000#32 = 1 := by
  simp [Ideal.ofBits, Ideal.ieee, -EReal.coe_mul]; norm_num

theorem act_read (hx : ∀ k, X (ix2 t k) = x k) (hc : ∀ n k, C n (ix3 0 t k) = cs n k) (hw : ∀ n k, W (ix2 n k) = cw n k)
    (fx : ∀ k, Real' (x k)) (fc : ∀ n k, Real' (cs n k)) (fw : ∀ n k, Real' (cw n k)) (c : Fin 3072) :
    k0_pay3 X W (C 0) (C 1) (C 2) (ix2 t c) = Spec.act x cs cw c := by
  have hr : Real' (Spec.conv x cs cw c) :=
    ((((fw 3 c).mul (fx _)).add ((fw 0 c).mul (fc 0 c))).add ((fw 1 c).mul (fc 1 c))).add ((fw 2 c).mul (fc 2 c))
  refine Eq.trans ?_ (silu_of_real hr)
  unfold k0_pay3 Spec.conv
  pointwise
  simp only [hx, hc, hw]

theorem head_read (sc : BitVec 32) (o : ℕ) (ho : o + 128 ≤ 3072) (ha : ∀ c, A (ix2 t c) = Spec.act x cs cw c) (e : Fin 128) :
    unitHead sc o ho A (ix2 t e)
      = Spec.act x cs cw ⟨o + e.val, by omega⟩ * (Spec.invNorm x cs cw o ho * Ideal.ofBits .f32 sc) := by
  unfold unitHead Spec.invNorm
  simp only [← ha]
  pointwise

theorem upright_read (q : FVec Ideal S8x128 .f32) (i j : Fin 128) : upright t q (ix2 i j) = q (ix2 t i) := by
  unfold upright
  pointwise

theorem key_read (ha : ∀ c, A (ix2 t c) = Spec.act x cs cw c) (i j : Fin 128) : keyCol t h A (ix2 i j) = Spec.kn x cs cw h i := by
  unfold keyCol Spec.kn
  rw [upright_read, head_read A t x cs cw _ _ _ ha, one_f32, mul_one]

theorem query_read (ha : ∀ c, A (ix2 t c) = Spec.act x cs cw c) (i j : Fin 128) : queryCol t h A (ix2 i j) = Spec.qn x cs cw h i := by
  unfold queryCol Spec.qn
  rw [upright_read, head_read A t x cs cw _ _ _ ha]

theorem faded_read (hs : ∀ i j, S (ix4 0 0 i j) = s i j) (hg : ∀ k, G (ix2 t k) = g k) (i j : Fin 128) :
    faded t h G S (ix2 i j) = Spec.decayed g s h i j := by
  unfold faded Spec.decayed
  pointwise
  simp only [hs, hg]

theorem correction_read (ha : ∀ c, A (ix2 t c) = Spec.act x cs cw c) (hs : ∀ i j, S (ix4 0 0 i j) = s i j)
    (hg : ∀ k, G (ix2 t k) = g k) (z : Fin 1) (j : Fin 128) :
    correction t h A G S (ix2 z j) = Spec.delta x cs g cw s h j := by
  unfold correction Spec.delta
  pointwise
  simp only [faded_read G S t h g s hs hg, key_read A t h x cs cw ha, ha, hg]

theorem renewed_read (ha : ∀ c, A (ix2 t c) = Spec.act x cs cw c) (hs : ∀ i j, S (ix4 0 0 i j) = s i j)
    (hg : ∀ k, G (ix2 t k) = g k) (i j : Fin 128) :
    renewed t h A G S (ix2 i j) = Spec.newState x cs g cw s h i j := by
  unfold renewed Spec.newState
  pointwise
  simp only [faded_read G S t h g s hs hg, key_read A t h x cs cw ha, correction_read G S A t h x cs g cw s ha hs hg]

theorem state_read (ha : ∀ c, A (ix2 t c) = Spec.act x cs cw c) (hs : ∀ i j, S (ix4 0 0 i j) = s i j)
    (hg : ∀ k, G (ix2 t k) = g k) (z1 z2 : Fin 1) (i j : Fin 128) :
    stateBlock t h A G S (ix4 z1 z2 i j) = Spec.newState x cs g cw s h i j := by
  unfold stateBlock
  pointwise
  simp only [renewed_read G S A t h x cs g cw s ha hs hg]

theorem answer_read (ha : ∀ c, A (ix2 t c) = Spec.act x cs cw c) (hs : ∀ i j, S (ix4 0 0 i j) = s i j)
    (hg : ∀ k, G (ix2 t k) = g k) (z : Fin 1) (j : Fin 128) :
    answer t h A G S (ix2 z j) = Spec.readout x cs g cw s h j := by
  unfold answer Spec.readout
  pointwise
  simp only [renewed_read G S A t h x cs g cw s ha hs hg, query_read A t h x cs cw ha]

theorem gate_read (hx : ∀ k, X (ix2 t k) = x k) (z : Fin 1) (j : Fin 128) :
    halfGate t h X (ix2 z j) = Ideal.ofBits .f32 0x3F000000#32 * x ⟨3072 + 128 * h.val + j.val, by omega⟩ := by
  unfold halfGate
  pointwise
  simp only [hx]

theorem out_read (ha : ∀ c, A (ix2 t c) = Spec.act x cs cw c) (hs : ∀ i j, S (ix4 0 0 i j) = s i j)
    (hg : ∀ k, G (ix2 t k) = g k) (hx : ∀ k, X (ix2 t k) = x k) (hw : ∀ k, Wn (ix2 0 k) = gnw k) (fx : ∀ k, Real' (x k))
    (z : Fin 1) (j : Fin 128) :
    outRow t h X Wn (answer t h A G S) (ix2 z j) = Spec.tokOut x cs g cw gnw s h j := by
  obtain rfl := Subsingleton.elim z 0
  unfold outRow Spec.tokOut
  rw [← silu_of_real (fx _)]
  pointwise
  simp only [answer_read G S A t h x cs g cw s ha hs hg, gate_read X t h x hx, hw]

end Cert.TokStage

end

end
-- ==== Proof.GridTok.lean ====
module

public import proofs.«01_k».proof.Proof.Loads
public import proofs.«01_k».proof.Proof.TokStage

/-! What a grid point stores in the windows of the token job: the layer's formulas of the program's arguments. -/

@[expose] public section

noncomputable section

namespace Cert.GridTok
open Cert.KernelIdeal Cert.KernelIdeal.Gen Idealize.ShloMosaic Idealize.ShloMosaic.TcCoe Idealize.SL.Sem Idealize.ShloMosaic.Tactic
open Cert.Found Cert.Loads Cert.TokStage Cert.Tile Cert.Scalars
open scoped BigOperators

section Blocks
variable (X : Vec Ideal S8x4096 .f32) (A : FVec Ideal S8x3072 .f32) (G : Vec Ideal S8x128 .f32) (W : Vec Ideal S1x128 .f32)
  (S : Fin 8 → Fin 8 → Vec Ideal S1x1x128x128 .f32) (C : Fin 3 → Vec Ideal S1x8x3072 .f32)

/-- The stored states as one function of the index. -/
def statesAt (y : S8x8x128x128.Idx) : Elt Ideal .f32 :=
  stateBlock (y 0 : Fin 8) (y 1 : Fin 8) A G (S (y 0 : Fin 8) (y 1 : Fin 8)) (ix4 0 0 (y 2 : Fin 128) (y 3 : Fin 128))

theorem states_canon (t h : Fin 8) (i j : Fin 128) :
    View.canon (Val := Elt Ideal) (statePieces A G S) (ix4 t h i j) = stateBlock t h A G (S t h) (ix4 0 0 i j) := by
  refine View.canon_apply_of_pieces (Val := Elt Ideal) (statesAt A G S) _ (fun p hp x => ?_) (ix4 t h i j) ?_
  · obtain ⟨t, h, rfl⟩ := of_mem_overAll hp
    have e : ∀ x : S1x1x128x128.Idx, stateBlock t h A G (S t h) x
        = statesAt A G S ((Rect.unit (s := S8x8x128x128) ![t.val, h.val, 0, 0] S1x1x128x128.size (inbState t h)).emb x) := fun x => by
      have hx : (Rect.unit (s := S8x8x128x128) ![t.val, h.val, 0, 0] S1x1x128x128.size (inbState t h)).emb x
          = ix4 t h (x 2 : Fin 128) (x 3 : Fin 128) := by
        refine funext fun (a : Fin 4) => Fin.ext ?_
        have h0 : (x 0).val < 1 := (x 0).isLt
        have h1 : (x 1).val < 1 := (x 1).isLt
        match a with
        | 0 => show t.val + 1 * (x 0).val = t.val; omega
        | 1 => show h.val + 1 * (x 1).val = h.val; omega
        | 2 => show 0 + 1 * (x 2).val = (x 2).val; omega
        | 3 => show 0 + 1 * (x 3).val = (x 3).val; omega
      have hy : x = ix4 0 0 (x 2 : Fin 128) (x 3 : Fin 128) := by
        exact (eq_ix4 x).trans (congrArg₂ (fun (a b : Fin 1) => (ix4 a b (x 2 : Fin 128) (x 3 : Fin 128) : S1x1x128x128.Idx))
          (Subsingleton.elim (α := Fin 1) _ _) (Subsingleton.elim (α := Fin 1) _ _))
      rw [hx]
      exact congrArg (stateBlock t h A G (S t h)) hy
    exact e x
  · refine exists_overAll t h ((Rect.mem_set_unit (inb := inbState t h)).2 fun (a : Fin 4) => ?_)
    match a with
    | 0 => show t.val ≤ t.val ∧ t.val < t.val + 1; omega
    | 1 => show h.val ≤ h.val ∧ h.val < h.val + 1; omega
    | 2 => show 0 ≤ i.val ∧ i.val < 0 + 128; omega
    | 3 => show 0 ≤ j.val ∧ j.val < 0 + 128; omega

/-- The stored output rows as one function of the index. -/
def outAt (y : S8x1024.Idx) : Elt Ideal .f32 :=
  have hy : (y 1).val < 1024 := (y 1).isLt
  outRow (y 0 : Fin 8) ⟨(y 1).val / 128, by omega⟩ X W (answer (y 0 : Fin 8) ⟨(y 1).val / 128, by omega⟩ A G
    (S (y 0 : Fin 8) ⟨(y 1).val / 128, by omega⟩)) (ix2 0 ⟨(y 1).val % 128, by omega⟩)

theorem outAt_at (t h : Fin 8) (j : Fin 128) :
    outAt X A G W S (ix2 t ⟨128 * h.val + j.val, by omega⟩) = outRow t h X W (answer t h A G (S t h)) (ix2 0 j) := by
  have h1 : (128 * h.val + j.val) / 128 = h.val := by omega
  have h2 : (128 * h.val + j.val) % 128 = j.val := by omega
  show outRow t ⟨(128 * h.val + j.val) / 128, _⟩ X W (answer t ⟨(128 * h.val + j.val) / 128, _⟩ A G
    (S t ⟨(128 * h.val + j.val) / 128, _⟩)) (ix2 0 ⟨(128 * h.val + j.val) % 128, _⟩) = _
  simp only [h1, h2]

theorem out_canon (t h : Fin 8) (j : Fin 128) :
    View.canon (Val := Elt Ideal) (outPieces X A G W S) (ix2 t ⟨128 * h.val + j.val, by omega⟩)
      = outRow t h X W (answer t h A G (S t h)) (ix2 0 j) := by
  rw [← outAt_at]
  refine View.canon_apply_of_pieces (Val := Elt Ideal) (outAt X A G W S) _ (fun p hp x => ?_) _ ?_
  · obtain ⟨t, h, rfl⟩ := of_mem_overAll hp
    have e : ∀ x : S1x128.Idx, outRow t h X W (answer t h A G (S t h)) x
        = outAt X A G W S ((Rect.unit (s := S8x1024) ![t.val, 128 * h.val] S1x128.size (inbOut t h)).emb x) := fun x => by
      have hj : (x 1).val < 128 := (x 1).isLt
      have hx : (Rect.unit (s := S8x1024) ![t.val, 128 * h.val] S1x128.size (inbOut t h)).emb x
          = ix2 t ⟨128 * h.val + (x 1).val, by omega⟩ := by
        refine funext fun (a : Fin 2) => Fin.ext ?_
        have h0 : (x 0).val < 1 := (x 0).isLt
        match a with
        | 0 => show t.val + 1 * (x 0).val = t.val; omega
        | 1 => show 128 * h.val + 1 * (x 1).val = 128 * h.val + (x 1).val; omega
      have hy : x = ix2 0 (x 1 : Fin 128) := by
        exact (eq_ix2 x).trans (congrArg (fun a : Fin 1 => (ix2 a (x 1 : Fin 128) : S1x128.Idx)) (Subsingleton.elim (α := Fin 1) _ _))
      rw [hx]
      exact (congrArg (outRow t h X W (answer t h A G (S t h))) hy).trans (outAt_at X A G W S t h (x 1 : Fin 128)).symm
    exact e x
  · refine exists_overAll t h ((Rect.mem_set_unit (inb := inbOut t h)).2 fun (a : Fin 2) => ?_)
    match a with
    | 0 => show t.val ≤ t.val ∧ t.val < t.val + 1; omega
    | 1 => show 128 * h.val ≤ 128 * h.val + j.val ∧ 128 * h.val + j.val < 128 * h.val + 128; omega

/-- The stored history as one function of the index. -/
def historyAt (y : S3x8x3072.Idx) : Elt Ideal .f32 :=
  if h : (y 0).val < 2 then C ⟨(y 0).val + 1, by omega⟩ (ix3 0 (y 1 : Fin 8) (y 2 : Fin 3072))
  else X (ix2 (y 1 : Fin 8) ⟨(y 2).val, by have : (y 2).val < 3072 := (y 2).isLt; omega⟩)

theorem kept_read (v : Vec Ideal S1x8x3072 .f32) (z : Fin 1) (a : Fin 8) (k : Fin 3072) :
    k0_pay4 v (ix3 z a k) = v (ix3 0 a k) ∧ k0_pay5 v (ix3 z a k) = v (ix3 0 a k) := by
  obtain rfl := Subsingleton.elim z 0
  constructor
  · unfold k0_pay4; pointwise
  · unfold k0_pay5; pointwise

theorem fresh_read (z : Fin 1) (a : Fin 8) (k : Fin 3072) : k0_pay6 X (ix3 z a k) = X (ix2 a ⟨k.val, by omega⟩) := by
  unfold k0_pay6
  pointwise

theorem history_emb (n : Fin 3) (x : S1x8x3072.Idx) :
    (Rect.unit (s := S3x8x3072) ![n.val, 0, 0] S1x8x3072.size (inbCs n)).emb x = ix3 n (x 1 : Fin 8) (x 2 : Fin 3072) := by
  refine funext fun (a : Fin 3) => Fin.ext ?_
  have h0 : (x 0).val < 1 := (x 0).isLt
  match a with
  | 0 => show n.val + 1 * (x 0).val = n.val; omega
  | 1 => show 0 + 1 * (x 1).val = (x 1).val; omega
  | 2 => show 0 + 1 * (x 2).val = (x 2).val; omega

theorem history_canon (n : Fin 3) (a : Fin 8) (k : Fin 3072) :
    View.canon (Val := Elt Ideal) (historyPieces X C) (ix3 n a k) = historyAt X C (ix3 n a k) := by
  refine View.canon_apply_of_pieces (Val := Elt Ideal) (historyAt X C) _ (fun p hp x => ?_) _ ?_
  · rcases List.mem_cons.1 hp with rfl | hp
    · exact (congrArg (k0_pay6 X) (eq_ix3 (n0 := 1) (n1 := 8) (n2 := 3072) x)).trans
        ((fresh_read X _ _ _).trans (congrArg (historyAt X C) (history_emb 2 x)).symm)
    rcases List.mem_cons.1 hp with rfl | hp
    · exact (congrArg (k0_pay5 (C 2)) (eq_ix3 (n0 := 1) (n1 := 8) (n2 := 3072) x)).trans
        ((kept_read _ _ _ _).2.trans (congrArg (historyAt X C) (history_emb 1 x)).symm)
    obtain rfl := List.mem_singleton.1 hp
    exact (congrArg (k0_pay4 (C 1)) (eq_ix3 (n0 := 1) (n1 := 8) (n2 := 3072) x)).trans
        ((kept_read _ _ _ _).1.trans (congrArg (historyAt X C) (history_emb 0 x)).symm)
  · have hm : ∀ n : Fin 3, (ix3 n a k : S3x8x3072.Idx) ∈ (Rect.unit (s := S3x8x3072) ![n.val, 0, 0] S1x8x3072.size (inbCs n)).set := fun n =>
      Rect.mem_set_unit.2 fun (b : Fin 3) => by
        match b with
        | 0 => show n.val ≤ n.val ∧ n.val < n.val + 1; omega
        | 1 => show 0 ≤ a.val ∧ a.val < 0 + 8; omega
        | 2 => show 0 ≤ k.val ∧ k.val < 0 + 3072; omega
    unfold historyPieces
    match n with
    | 0 => exact ⟨_, List.mem_cons_of_mem _ (List.mem_cons_of_mem _ (List.mem_singleton_self _)), hm 0⟩
    | 1 => exact ⟨_, List.mem_cons_of_mem _ (List.mem_cons_self ..), hm 1⟩
    | 2 => exact ⟨_, List.mem_cons_self .., hm 2⟩

end Blocks

variable (m : (ℓ : Loc nD τ sig) → Buf (Elt Ideal) ℓ) (c : Dev nD) (t : Fin cfg0.N)

/-- The token that a row of the grid point's block is. -/
def tok (a : Fin 8) : Fin 128 := ⟨8 * t.val + a.val, by have := lt16 t; omega⟩

abbrev xTok (b : Fin 128) : Fin 4096 → EReal := fun l => m ((c : Thread nD τ).loc main_arg7) (ix2 b l)
abbrev csTok (b : Fin 128) : Fin 3 → Fin 3072 → EReal := fun n l => m ((c : Thread nD τ).loc main_arg8) (ix3 b n l)
abbrev gTok (b : Fin 128) : Fin 128 → EReal := fun l => m ((c : Thread nD τ).loc main_arg9) (ix2 b l)
abbrev cwAll : Fin 4 → Fin 3072 → EReal := fun n l => m ((c : Thread nD τ).loc main_arg10) (ix2 n l)
abbrev gnwAll : Fin 128 → EReal := fun l => m ((c : Thread nD τ).loc main_arg11) (ix2 0 l)
abbrev sTok (b : Fin 128) (h : Fin 8) : Fin 128 → Fin 128 → EReal := fun i j => m ((c : Thread nD τ).loc main_arg12) (ix4 b h i j)

/-- The arguments that the activation reads are real numbers. -/
structure Finite : Prop where
  x : ∀ i, Real' (m ((c : Thread nD τ).loc main_arg7) i)
  cs : ∀ i, Real' (m ((c : Thread nD τ).loc main_arg8) i)
  cw : ∀ i, Real' (m ((c : Thread nD τ).loc main_arg10) i)

variable {m c}

theorem act_at (hf : Finite m c) (a : Fin 8) (k : Fin 3072) :
    rawAct m c t (ix2 a k) = Spec.act (xTok m c (tok t a)) (csTok m c (tok t a)) (cwAll m c) k :=
  act_read _ _ _ a _ _ _ (fun k => x_read m c t a k) (fun n k => cs_read m c t n 0 a k) (fun n k => cw_read m c t n k)
    (fun _ => hf.x _) (fun _ _ => hf.cs _) (fun _ _ => hf.cw _) k

theorem state_at (hf : Finite m c) (a h : Fin 8) (i j : Fin 128) :
    View.canon (Val := Elt Ideal) (statePieces (rawAct m c t) (rawG m c t) (rawS m c t)) (ix4 a h i j)
      = Spec.newState (xTok m c (tok t a)) (csTok m c (tok t a)) (gTok m c (tok t a)) (cwAll m c) (sTok m c (tok t a) h) h i j := by
  rw [states_canon]
  exact state_read _ _ _ a h _ _ _ _ _ (fun k => act_at t hf a k) (fun i j => s_read m c t a h 0 0 i j) (fun k => g_read m c t a k) 0 0 i j

theorem out_at (hf : Finite m c) (a h : Fin 8) (j : Fin 128) :
    View.canon (Val := Elt Ideal) (outPieces (rawX m c t) (rawAct m c t) (rawG m c t) (rawW m c t) (rawS m c t))
        (ix2 a ⟨128 * h.val + j.val, by omega⟩)
      = Spec.tokOut (xTok m c (tok t a)) (csTok m c (tok t a)) (gTok m c (tok t a)) (cwAll m c) (gnwAll m c) (sTok m c (tok t a) h) h j := by
  rw [out_canon]
  exact out_read _ _ _ _ _ a h _ _ _ _ _ _ (fun k => act_at t hf a k) (fun i j => s_read m c t a h 0 0 i j) (fun k => g_read m c t a k)
    (fun k => x_read m c t a k) (fun k => w_read m c t 0 k) (fun _ => hf.x _) 0 j

theorem history_at (n : Fin 3) (a : Fin 8) (k : Fin 3072) :
    View.canon (Val := Elt Ideal) (historyPieces (rawX m c t) (rawCs m c t)) (ix3 n a k)
      = if h : n.val < 2 then csTok m c (tok t a) ⟨n.val + 1, by omega⟩ k else xTok m c (tok t a) ⟨k.val, by omega⟩ := by
  rw [history_canon]
  show (if h : n.val < 2 then rawCs m c t ⟨n.val + 1, _⟩ (ix3 0 a k) else rawX m c t (ix2 a ⟨k.val, _⟩)) = _
  split
  · exact cs_read m c t _ 0 a k
  · exact x_read m c t a _

end Cert.GridTok

end

end
-- ==== Proof.RefTok.lean ====
/- The reference program's token results, read at an index. -/
module

public import proofs.«01_k».proof.Proof.Spec
public import proofs.«01_k».proof.Proof.Gen.ReferenceIdeal.Read

@[expose] public section

set_option maxHeartbeats 1000000

noncomputable section

namespace Cert.RefTok

open Cert.ReferenceIdeal Cert.ReferenceIdeal.Gen Cert.ReferenceIdeal.Read Idealize.ShloMosaic Idealize.ShloMosaic.TcCoe Idealize.SL.Sem Idealize.ShloMosaic.StableHlo Cert.Scalars
open scoped BigOperators

variable (x7 : (⟨S128x4096, .f32⟩ : BufTy).Contents (Elt Ideal)) (x8 : (⟨S128x3x3072, .f32⟩ : BufTy).Contents (Elt Ideal))
  (x9 : (⟨S128x128, .f32⟩ : BufTy).Contents (Elt Ideal)) (x10 : (⟨S4x3072, .f32⟩ : BufTy).Contents (Elt Ideal))
  (x11 : (⟨S1x128, .f32⟩ : BufTy).Contents (Elt Ideal)) (x12 : (⟨S128x8x128x128, .f32⟩ : BufTy).Contents (Elt Ideal))

theorem conv_read (b : Fin 128) (c : Fin 3072) :
    val_main_v124 (F := Ideal) x7 x8 x10 (ix2 b c) = Spec.conv (fun l => x7 (ix2 b l)) (fun j l => x8 (ix3 b j l)) (fun j l => x10 (ix2 j l)) c := by
  pointwise [val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_cst_11]
  unfold Spec.conv
  abel

theorem act_read (b : Fin 128) (c : Fin 3072) :
    val_main_v126 (F := Ideal) x7 x8 x10 (ix2 b c) = Spec.act (fun l => x7 (ix2 b l)) (fun j l => x8 (ix3 b j l)) (fun j l => x10 (ix2 j l)) c := by
  pointwise [val_main_v126, val_main_call1_v5, val_main_call1_v4, val_main_call1_v3, val_main_call1_v2, val_main_call1_v1, val_main_call1_v0, val_main_call1_cst, val_main_call1_cst_0]
  rw [conv_read]
  rfl

theorem qkv_read (b : Fin 128) (z : Fin 3) (h : Fin 8) (e : Fin 128) :
    val_main_v127 (F := Ideal) x7 x8 x10 (ix4 b z h e) = Spec.act (fun l => x7 (ix2 b l)) (fun j l => x8 (ix3 b j l)) (fun j l => x10 (ix2 j l)) ⟨1024 * z.val + 128 * h.val + e.val, by omega⟩ := by
  rw [← act_read]
  pointwise [val_main_v127]
  exact congrArg (fun k : Fin 3072 => val_main_v126 (F := Ideal) x7 x8 x10 (ix2 b k)) (Fin.ext (by simp; omega))

theorem q_read (b : Fin 128) (h : Fin 8) (e : Fin 128) :
    val_main_v139 (F := Ideal) x7 x8 x10 (ix3 b h e) = Spec.qn (fun l => x7 (ix2 b l)) (fun j l => x8 (ix3 b j l)) (fun j l => x10 (ix2 j l)) h e := by
  pointwise [val_main_v139, val_main_v138, val_main_v137, val_main_v136, val_main_v135, val_main_v134, val_main_v133, val_main_v132, val_main_v131, val_main_v130, val_main_v129, val_main_v128, val_main_cst_12, val_main_cst_13, val_main_cst_14]
  simp only [qkv_read]
  unfold Spec.qn Spec.invNorm
  rw [← mul_assoc]
  have e1 : ∀ x : Fin 128, (⟨1024 * (0 : Fin 3).val + 128 * h.val + x.val, by have := h.isLt; have := x.isLt; simp; omega⟩ : Fin 3072) = ⟨128 * h.val + x.val, by omega⟩ := fun x => Fin.ext (by simp)
  simp only [e1]

theorem k_read (b : Fin 128) (h : Fin 8) (e : Fin 128) :
    val_main_v149 (F := Ideal) x7 x8 x10 (ix3 b h e) = Spec.kn (fun l => x7 (ix2 b l)) (fun j l => x8 (ix3 b j l)) (fun j l => x10 (ix2 j l)) h e := by
  pointwise [val_main_v149, val_main_v148, val_main_v147, val_main_v146, val_main_v145, val_main_v144, val_main_v143, val_main_v142, val_main_v141, val_main_v140, val_main_cst_15, val_main_cst_16]
  simp only [qkv_read]
  unfold Spec.kn Spec.invNorm
  rfl

theorem v_read (b : Fin 128) (h : Fin 8) (e : Fin 128) :
    val_main_v151 (F := Ideal) x7 x8 x10 (ix3 b h e) = Spec.act (fun l => x7 (ix2 b l)) (fun j l => x8 (ix3 b j l)) (fun j l => x10 (ix2 j l)) ⟨2048 + 128 * h.val + e.val, by omega⟩ := by
  pointwise [val_main_v151, val_main_v150]
  rw [qkv_read]
  rfl

theorem delta_read (b : Fin 128) (h : Fin 8) (e : Fin 128) :
    val_main_v162 (F := Ideal) x7 x8 x9 x10 x12 (ix3 b h e) = Spec.delta (fun l => x7 (ix2 b l)) (fun j l => x8 (ix3 b j l)) (fun l => x9 (ix2 b l)) (fun j l => x10 (ix2 j l)) (fun i j => x12 (ix4 b h i j)) h e := by
  pointwise [val_main_v162, val_main_v161, val_main_v160, val_main_v159, val_main_v158, val_main_v157, val_main_v156, val_main_v155, val_main_v154, val_main_v153, val_main_v152]
  simp only [v_read, k_read]
  unfold Spec.delta Spec.decayed
  simp only [mul_comm (Spec.kn _ _ _ _ _)]

theorem state_read (b : Fin 128) (h : Fin 8) (i j : Fin 128) :
    val_main_v168 (F := Ideal) x7 x8 x9 x10 x12 (ix4 b h i j) = Spec.newState (fun l => x7 (ix2 b l)) (fun j l => x8 (ix3 b j l)) (fun l => x9 (ix2 b l)) (fun j l => x10 (ix2 j l)) (fun i j => x12 (ix4 b h i j)) h i j := by
  pointwise [val_main_v168, val_main_v167, val_main_v166, val_main_v165, val_main_v164, val_main_v163, val_main_v157, val_main_v156, val_main_v155, val_main_v154, val_main_v152]
  simp only [delta_read, k_read]
  rfl

theorem readout_read (b : Fin 128) (h : Fin 8) (j : Fin 128) :
    val_main_v169 (F := Ideal) x7 x8 x9 x10 x12 (ix3 b h j) = Spec.readout (fun l => x7 (ix2 b l)) (fun j l => x8 (ix3 b j l)) (fun l => x9 (ix2 b l)) (fun j l => x10 (ix2 j l)) (fun i j => x12 (ix4 b h i j)) h j := by
  pointwise [val_main_v169]
  simp only [state_read, q_read]
  unfold Spec.readout
  simp only [mul_comm (Spec.qn _ _ _ _ _)]

theorem out_read (b : Fin 128) (h : Fin 8) (j : Fin 128) :
    val_main_v186 (F := Ideal) x7 x8 x9 x10 x11 x12 (ix2 b ⟨128 * h.val + j.val, by omega⟩)
      = Spec.tokOut (fun l => x7 (ix2 b l)) (fun j l => x8 (ix3 b j l)) (fun l => x9 (ix2 b l)) (fun j l => x10 (ix2 j l)) (fun l => x11 (ix2 0 l)) (fun i j => x12 (ix4 b h i j)) h j := by
  pointwise [val_main_v186, val_main_v185, val_main_v184, val_main_v183, val_main_v182, val_main_v181, val_main_v180, val_main_v179, val_main_v178, val_main_v177, val_main_v176, val_main_v175, val_main_v174, val_main_v173, val_main_v172, val_main_v171, val_main_v170, val_main_call2_v5, val_main_call2_v4, val_main_call2_v3, val_main_call2_v2, val_main_call2_v1, val_main_call2_v0, val_main_call2_cst, val_main_call2_cst_0, val_main_v89, val_main_cst_17, val_main_cst_18, val_main_cst_19]
  simp only [readout_read]
  unfold Spec.tokOut silu
  have e1 : (⟨3072 + (h.val * 128 + j.val), by omega⟩ : Fin 4096) = ⟨3072 + 128 * h.val + j.val, by omega⟩ := Fin.ext (by simp; omega)
  rw [e1]

theorem newConv_read (j : Fin 3) (b : Fin 128) (c : Fin 3072) :
    val_main_v187 (F := Ideal) x7 x8 (ix3 j b c) = if h : j.val < 2 then x8 (ix3 b ⟨j.val + 1, by omega⟩ c) else x7 (ix2 b ⟨c.val, by omega⟩) := by
  fin_cases j
  all_goals pointwise [val_main_v187, val_main_v125, val_main_v91, val_main_v90, val_main_v88]
  all_goals rfl

end Cert.RefTok

end
-- ==== Proof.Arrays.lean ====
module

public import proofs.«01_k».proof.Proof.GridMix
public import proofs.«01_k».proof.Proof.GridTok
public import proofs.«01_k».proof.Proof.RefTok

/-! The four output arrays after the run are the reference's four results. -/

@[expose] public section

noncomputable section

namespace Cert.Arrays
open Cert.KernelIdeal Cert.KernelIdeal.Gen Idealize.ShloMosaic Idealize.ShloMosaic.TcCoe Idealize.SL.Sem Idealize.ShloMosaic.Tactic
open Idealize.ShloMosaic.Pipeline (Dat)
open Cert.Found Cert.Loads Cert.Scalars
open scoped BigOperators

variable {m : (ℓ : Loc nD τ sig) → Buf (Elt Ideal) ℓ} {c : Dev nD}

/-- The mixed rows. -/
theorem mixed_rows (hu : ∀ i, Real' (m ((c : Thread nD τ).loc main_arg1) i)) :
    (dats m 0 c).arrAt 13 cfg0.N = Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t hf y => ?_
  have e := congrFun (Found.flushed13 m c t) y
  refine Eq.trans (show _ = (dats m 0 c).flushed 13 t y from rfl) (e.trans ?_)
  have key : ∀ (q : Fin 512) (l : Fin 2048), View.canon (Val := Elt Ideal) (Blend.lastPieces (rawMix m c t) (rawOa m c t) (rawWo m c t 0) (rawR m c t) (rawNw m c t)) (ix2 q l)
      = Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (RefMix.rowOf (GridMix.seqOf t) (GridMix.posOf t q)) l) := fun q l => by
    have hl : (⟨512 * (⟨l.val / 512, by omega⟩ : Fin 4).val + (⟨l.val % 512, by omega⟩ : Fin 512).val, by simp only []; omega⟩ : Fin 2048) = l :=
      Fin.ext (by simp only []; omega)
    have h := GridMix.last_at m c t ⟨l.val / 512, by omega⟩ q ⟨l.val % 512, by omega⟩
    rw [hl] at h
    exact h.trans (RefMix.out_read _ _ _ _ _ _ _ hu _ _ _).symm
  have emb : ∀ (q : Fin 512) (l : Fin 2048), ((cfg0.win 13).blk t).view.emb (ix2 q l) = ix2 (RefMix.rowOf (GridMix.seqOf t) (GridMix.posOf t q)) l := fun q l => by
    have hi := congrFun (idx t).2.2.2.2.2.2.2.2.2.2.2.2.2.1
    refine funext fun (ax : Fin 2) => Fin.ext ?_
    match ax with
    | 0 =>
      show win0_13.index t 0 * 512 + 1 * q.val = (RefMix.rowOf (GridMix.seqOf t) (GridMix.posOf t q)).val
      rw [hi 0, GridMix.row_eq]; show t.val * 512 + 1 * q.val = 512 * t.val + q.val; omega
    | 1 => show win0_13.index t 1 * 2048 + 1 * l.val = l.val; rw [hi 1]; show 0 * 2048 + _ = _; omega
  exact (congrArg (View.canon (Val := Elt Ideal) (Blend.lastPieces (rawMix m c t) (rawOa m c t) (rawWo m c t 0) (rawR m c t) (rawNw m c t))) (eq_ix2 (n0 := 512) (n1 := 2048) y)).trans
    ((key (y 0 : Fin 512) (y 1 : Fin 2048)).trans (congrArg (Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) ((congrArg _ (eq_ix2 (n0 := 512) (n1 := 2048) y)).trans (emb (y 0 : Fin 512) (y 1 : Fin 2048)))).symm)

/-- The tokens' outputs. -/
theorem token_outputs (hf' : GridTok.Finite m c) :
    (dats m 0 c).arrAt 14 cfg0.N = Cert.ReferenceIdeal.Read.val_main_v186 (F := Ideal) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 14 _ (by decide +kernel) fun t hf y => ?_
  have e := congrFun (Found.flushed14 m c t) y
  refine Eq.trans (show _ = (dats m 0 c).flushed 14 t y from rfl) (e.trans ?_)
  have key : ∀ (a : Fin 8) (l : Fin 1024), View.canon (Val := Elt Ideal) (Tile.outPieces (rawX m c t) (rawAct m c t) (rawG m c t) (rawW m c t) (rawS m c t)) (ix2 a l)
      = Cert.ReferenceIdeal.Read.val_main_v186 (F := Ideal) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (ix2 (GridTok.tok t a) l) := fun a l => by
    have hl : (⟨128 * (⟨l.val / 128, by omega⟩ : Fin 8).val + (⟨l.val % 128, by omega⟩ : Fin 128).val, by simp only []; omega⟩ : Fin 1024) = l :=
      Fin.ext (by simp only []; omega)
    have h := GridTok.out_at t hf' a ⟨l.val / 128, by omega⟩ ⟨l.val % 128, by omega⟩
    have h' := RefTok.out_read (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (GridTok.tok t a) ⟨l.val / 128, by omega⟩ ⟨l.val % 128, by omega⟩
    rw [hl] at h h'
    exact h.trans h'.symm
  have emb : ∀ (a : Fin 8) (l : Fin 1024), ((cfg0.win 14).blk t).view.emb (ix2 a l) = ix2 (GridTok.tok t a) l := fun a l => by
    have hi := congrFun (idx t).2.2.2.2.2.2.2.2.2.2.2.2.2.2.1
    refine funext fun (ax : Fin 2) => Fin.ext ?_
    match ax with
    | 0 => show win0_14.index t 0 * 8 + 1 * a.val = 8 * t.val + a.val; rw [hi 0]; show t.val * 8 + _ = _; omega
    | 1 => show win0_14.index t 1 * 1024 + 1 * l.val = l.val; rw [hi 1]; show 0 * 1024 + _ = _; omega
  exact (congrArg (View.canon (Val := Elt Ideal) (Tile.outPieces (rawX m c t) (rawAct m c t) (rawG m c t) (rawW m c t) (rawS m c t))) (eq_ix2 (n0 := 8) (n1 := 1024) y)).trans
    ((key (y 0 : Fin 8) (y 1 : Fin 1024)).trans (congrArg (Cert.ReferenceIdeal.Read.val_main_v186 (F := Ideal) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) ((congrArg _ (eq_ix2 (n0 := 8) (n1 := 1024) y)).trans (emb (y 0 : Fin 8) (y 1 : Fin 1024)))).symm)

/-- The tokens' states. -/
theorem token_states (hf' : GridTok.Finite m c) :
    (dats m 0 c).arrAt 15 cfg0.N = Cert.ReferenceIdeal.Read.val_main_v168 (F := Ideal) (m ((c : Thread nD τ).loc main_arg7)) (m ((c : Thread nD τ).loc main_arg8)) (m ((c : Thread nD τ).loc main_arg9)) (m ((c : Thread nD τ).loc main_arg10)) (m ((c : Thread nD τ).loc main_arg12)) := by
  refine (dats m 0 c).arrAt_eq_of_covers 15 _ (by decide +kernel) fun t hf y => ?_
  have e := congrFun (Found.flushed15 m c t) y
  refine Eq.trans (show _ = (dats m 0 c).flushed 15 t y from rfl) (e.trans ?_)
  have key : ∀ (a : Fin 8) (h : Fin 8) (i : Fin 128) (j : Fin 128), View.canon (Val := Elt Ideal) (Tile.statePieces (rawAct m c t) (rawG m c t) (rawS m c t)) (ix4 a h i j)
      = Cert.ReferenceIdeal.Read.val_main_v168 (F := Ideal) (m ((c : Thread nD τ).loc main_arg7)) (m ((c : Thread nD τ).loc main_arg8)) (m ((c : Thread nD τ).loc main_arg9)) (m ((c : Thread nD τ).loc main_arg10)) (m ((c : Thread nD τ).loc main_arg12)) (ix4 (GridTok.tok t a) h i j) := fun a h i j => by
    exact (GridTok.state_at t hf' a h i j).trans (RefTok.state_read _ _ _ _ _ _ _ _ _).symm
  have emb : ∀ (a : Fin 8) (h : Fin 8) (i : Fin 128) (j : Fin 128), ((cfg0.win 15).blk t).view.emb (ix4 a h i j) = ix4 (GridTok.tok t a) h i j := fun a h i j => by
    have hi := congrFun (idx t).2.2.2.2.2.2.2.2.2.2.2.2.2.2.2.1
    refine funext fun (ax : Fin 4) => Fin.ext ?_
    match ax with
    | 0 => show win0_15.index t 0 * 8 + 1 * a.val = 8 * t.val + a.val; rw [hi 0]; show t.val * 8 + _ = _; omega
    | 1 => show win0_15.index t 1 * 8 + 1 * h.val = h.val; rw [hi 1]; show 0 * 8 + _ = _; omega
    | 2 => show win0_15.index t 2 * 128 + 1 * i.val = i.val; rw [hi 2]; show 0 * 128 + _ = _; omega
    | 3 => show win0_15.index t 3 * 128 + 1 * j.val = j.val; rw [hi 3]; show 0 * 128 + _ = _; omega
  exact (congrArg (View.canon (Val := Elt Ideal) (Tile.statePieces (rawAct m c t) (rawG m c t) (rawS m c t))) (eq_ix4 (n0 := 8) (n1 := 8) (n2 := 128) (n3 := 128) y)).trans
    ((key (y 0 : Fin 8) (y 1 : Fin 8) (y 2 : Fin 128) (y 3 : Fin 128)).trans (congrArg (Cert.ReferenceIdeal.Read.val_main_v168 (F := Ideal) (m ((c : Thread nD τ).loc main_arg7)) (m ((c : Thread nD τ).loc main_arg8)) (m ((c : Thread nD τ).loc main_arg9)) (m ((c : Thread nD τ).loc main_arg10)) (m ((c : Thread nD τ).loc main_arg12))) ((congrArg _ (eq_ix4 (n0 := 8) (n1 := 8) (n2 := 128) (n3 := 128) y)).trans (emb (y 0 : Fin 8) (y 1 : Fin 8) (y 2 : Fin 128) (y 3 : Fin 128)))).symm)

/-- The kept rows of the convolution. -/
theorem token_history  :
    (dats m 0 c).arrAt 16 cfg0.N = Cert.ReferenceIdeal.Read.val_main_v187 (F := Ideal) (m ((c : Thread nD τ).loc main_arg7)) (m ((c : Thread nD τ).loc main_arg8)) := by
  refine (dats m 0 c).arrAt_eq_of_covers 16 _ (by decide +kernel) fun t hf y => ?_
  have e := congrFun (Found.flushed16 m c t) y
  refine Eq.trans (show _ = (dats m 0 c).flushed 16 t y from rfl) (e.trans ?_)
  have key : ∀ (n : Fin 3) (a : Fin 8) (k : Fin 3072), View.canon (Val := Elt Ideal) (historyPieces (rawX m c t) (rawCs m c t)) (ix3 n a k)
      = Cert.ReferenceIdeal.Read.val_main_v187 (F := Ideal) (m ((c : Thread nD τ).loc main_arg7)) (m ((c : Thread nD τ).loc main_arg8)) (ix3 n (GridTok.tok t a) k) := fun n a k => by
    exact (GridTok.history_at t n a k).trans (RefTok.newConv_read _ _ _ _ _).symm
  have emb : ∀ (n : Fin 3) (a : Fin 8) (k : Fin 3072), ((cfg0.win 16).blk t).view.emb (ix3 n a k) = ix3 n (GridTok.tok t a) k := fun n a k => by
    have hi := congrFun (idx t).2.2.2.2.2.2.2.2.2.2.2.2.2.2.2.2
    refine funext fun (ax : Fin 3) => Fin.ext ?_
    match ax with
    | 0 => show win0_16.index t 0 * 3 + 1 * n.val = n.val; rw [hi 0]; show 0 * 3 + _ = _; omega
    | 1 => show win0_16.index t 1 * 8 + 1 * a.val = 8 * t.val + a.val; rw [hi 1]; show t.val * 8 + _ = _; omega
    | 2 => show win0_16.index t 2 * 3072 + 1 * k.val = k.val; rw [hi 2]; show 0 * 3072 + _ = _; omega
  exact (congrArg (View.canon (Val := Elt Ideal) (historyPieces (rawX m c t) (rawCs m c t))) (eq_ix3 (n0 := 3) (n1 := 8) (n2 := 3072) y)).trans
    ((key (y 0 : Fin 3) (y 1 : Fin 8) (y 2 : Fin 3072)).trans (congrArg (Cert.ReferenceIdeal.Read.val_main_v187 (F := Ideal) (m ((c : Thread nD τ).loc main_arg7)) (m ((c : Thread nD τ).loc main_arg8))) ((congrArg _ (eq_ix3 (n0 := 3) (n1 := 8) (n2 := 3072) y)).trans (emb (y 0 : Fin 3) (y 1 : Fin 8) (y 2 : Fin 3072)))).symm)

end Cert.Arrays

end

end
-- ==== Proof.Finite.lean ====
/- What the precondition says, read back from its program: every element of the four arrays it names is a real number. -/
module

public import proofs.«01_k».proof.Proof.Scalars
public import proofs.«01_k».proof.Proof.GridTok
public import proofs.«01_k».proof.Proof.Gen.Pre_finite_inputs
public import Idealize.ShloMosaic.Lib.ReduceAll

@[expose] public section

noncomputable section

namespace Cert.Finite
open Cert.Pre_finite_inputs Cert.Scalars Idealize.ShloMosaic

/-- A conjunction of two one-bit words is set only when both are. -/
theorem both_set : ∀ a b : BitVec 1, IntOp.andi a b = 1#1 → a = 1#1 ∧ b = 1#1 := by decide

/-- The pattern the precondition compares with is +∞. -/
theorem top_pattern : Ideal.ofBits .f32 0x7F800000#32 = ⊤ := by
  simp [Ideal.ofBits, Ideal.ieee]

/-- A magnitude that compares below +∞ is a real number's. -/
theorem real_of_below {x : EReal} (h : Ideal.cmp .olt (max x (-x)) (Ideal.ofBits .f32 0x7F800000#32) = 1#1) : Real' x := by
  rw [top_pattern] at h
  induction x with
  | bot => simp [Ideal.cmp] at h
  | top => simp [Ideal.cmp] at h
  | coe r => exact ⟨r, rfl⟩

/-- The precondition at any arrays: the four it names are finite everywhere. -/
theorem reals {a0 : FVec Ideal S8192x1024 .bf16} {a1 a2 a3 a4 a5 a6 a7 a8 a9 a10 a11 a12}
    (h : fn (F := Ideal) a0 a1 a2 a3 a4 a5 a6 a7 a8 a9 a10 a11 a12 = fun _ => 1#1) :
    (∀ i, Real' (a1 i)) ∧ (∀ i, Real' (a7 i)) ∧ (∀ i, Real' (a8 i)) ∧ ∀ i, Real' (a10 i) := by
  have e := congrFun h (Shape.Idx.first Facts.h_S_)
  obtain ⟨e, h10⟩ := both_set _ _ e
  obtain ⟨e, h8⟩ := both_set _ _ e
  obtain ⟨h1, h7⟩ := both_set _ _ e
  haveI : Subsingleton S_.Idx := ⟨fun a b => funext fun (x : Fin 0) => x.elim0⟩
  exact ⟨fun i => real_of_below (Host.reduce_andi_all _ _ _ _ _ h1 i), fun i => real_of_below (Host.reduce_andi_all _ _ _ _ _ h7 i),
    fun i => real_of_below (Host.reduce_andi_all _ _ _ _ _ h8 i), fun i => real_of_below (Host.reduce_andi_all _ _ _ _ _ h10 i)⟩

end Cert.Finite

end
-- ==== Proof.MlpSpec.lean ====
module

public import Idealize.ShloMosaic.Lib.Pointwise
public import Idealize.ShloMosaic.Lib.IdealHost

/-! The channel mixer of one row: two norms around a squared rectified hidden layer, as functions of the row and of the weights. -/

@[expose] public section

set_option maxHeartbeats 1000000

noncomputable section

namespace Cert.MlpSpec
open Idealize.ShloMosaic
open scoped BigOperators

/-- A row scaled to unit mean square, and weighted. -/
def rms (x w : Fin 2048 → EReal) (n : Fin 2048) : EReal :=
  x n * Ideal.rsqrt (Ideal.div (∑ k : Fin 2048, x k * x k) (Ideal.ofBits .f32 0x45000000#32) + Ideal.ofBits .f32 0x358637BD#32) * w n

/-- The hidden layer at one of its columns: rectified and squared. -/
def hid (h : Fin 2048 → EReal) (u : Fin 2048 → EReal) : EReal := max (∑ k : Fin 2048, h k * u k) 0 * max (∑ k : Fin 2048, h k * u k) 0

/-- What `J` columns of the hidden layer give to the result's column. -/
def part {J : ℕ} (h : Fin 2048 → EReal) (wu : Fin 2048 → Fin J → EReal) (wd : Fin J → Fin 2048 → EReal) (n : Fin 2048) : EReal :=
  ∑ f : Fin J, hid h (fun k => wu k f) * wd f n

/-- The mixer's row. -/
def row (x w1 : Fin 2048 → EReal) (wu : Fin 2048 → Fin 8192 → EReal) (wd : Fin 8192 → Fin 2048 → EReal) (w2 : Fin 2048 → EReal) (n : Fin 2048) : EReal :=
  x n + rms (part (rms x w1) wu wd) w2 n

end Cert.MlpSpec

end
-- ==== Proof.MlpStores.lean ====
module

public import proofs.«01_k».proof.Proof.MlpSpec
public import proofs.«01_k».proof.Proof.Gen.MlpIdeal.Skeleton

/-! What each store of the MLP call writes, read at an index. -/

@[expose] public section

set_option maxHeartbeats 1000000

noncomputable section

namespace Cert.MlpStores
open Cert.MlpIdeal Cert.MlpIdeal.Gen Idealize.ShloMosaic Idealize.ShloMosaic.TcCoe
open scoped BigOperators

section Rows
variable (x : Vec Ideal S512x2048 .f32) (w : Vec Ideal S1x2048 .f32) (h : Vec Ideal S512x2048 .bf16) (wu wd : Vec Ideal S2048x2048 .bf16)
  (o : Vec Ideal S512x2048 .f32) (q : Fin 512) (n : Fin 2048)

theorem norm_read : k0_pay2 (F := Ideal) x w (ix2 q n) = MlpSpec.rms (fun k => x (ix2 q k)) (fun k => w (ix2 0 k)) n := by
  pointwise [k0_pay2, k0_pay1]
  rfl

theorem add_read : k0_pay7 (F := Ideal) h wu wd o (ix2 q n)
    = o (ix2 q n) + MlpSpec.part (fun k => h (ix2 q k)) (fun k f => wu (ix2 k f)) (fun f n => wd (ix2 f n)) n := by
  pointwise [k0_pay7]
  rfl

theorem first_read : k0_pay3 (F := Ideal) x w wu wd (ix2 q n)
    = MlpSpec.part (fun k => k0_pay2 (F := Ideal) x w (ix2 q k)) (fun k f => wu (ix2 k f)) (fun f n => wd (ix2 f n)) n := by
  simp only [norm_read]
  pointwise [k0_pay3, k0_pay1]
  rfl

theorem last_read : k0_pay9 (F := Ideal) h wu wd o x w (ix2 q n)
    = x (ix2 q n) + MlpSpec.rms (fun k => k0_pay7 (F := Ideal) h wu wd o (ix2 q k)) (fun k => w (ix2 0 k)) n := by
  simp only [add_read]
  pointwise [k0_pay9]
  rfl

end Rows

section ExtraRows
variable (x : Vec Ideal S128x2048 .f32) (w : Vec Ideal S1x2048 .f32) (h : Vec Ideal S128x2048 .bf16) (wu wd : Vec Ideal S2048x2048 .bf16)
  (o : Vec Ideal S128x2048 .f32) (q : Fin 128) (n : Fin 2048)

theorem norm_read_extra : k0_pay5 (F := Ideal) x w (ix2 q n) = MlpSpec.rms (fun k => x (ix2 q k)) (fun k => w (ix2 0 k)) n := by
  pointwise [k0_pay5, k0_pay4]
  rfl

theorem add_read_extra : k0_pay8 (F := Ideal) h wu wd o (ix2 q n)
    = o (ix2 q n) + MlpSpec.part (fun k => h (ix2 q k)) (fun k f => wu (ix2 k f)) (fun f n => wd (ix2 f n)) n := by
  pointwise [k0_pay8]
  rfl

theorem first_read_extra : k0_pay6 (F := Ideal) x w wu wd (ix2 q n)
    = MlpSpec.part (fun k => k0_pay5 (F := Ideal) x w (ix2 q k)) (fun k f => wu (ix2 k f)) (fun f n => wd (ix2 f n)) n := by
  simp only [norm_read_extra]
  pointwise [k0_pay6, k0_pay4]
  rfl

theorem last_read_extra : k0_pay10 (F := Ideal) h wu wd o x w (ix2 q n)
    = x (ix2 q n) + MlpSpec.rms (fun k => k0_pay8 (F := Ideal) h wu wd o (ix2 q k)) (fun k => w (ix2 0 k)) n := by
  simp only [add_read_extra]
  pointwise [k0_pay10]
  rfl

end ExtraRows

end Cert.MlpStores

end
-- ==== Proof.MlpParts.lean ====
/- The MLP call's grid: when each branch of its body is taken, the memrefs of a point, and the idle points of its two results. -/
module

public import proofs.«01_k».proof.Proof.Gen.MlpIdeal.Frame
public import proofs.«01_k».proof.Proof.Gen.MlpIdeal.Skeleton
public import Idealize.ShloMosaic.Lib.Pipeline.TableIdle

@[expose] public section

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Branch 0 of the body, as a condition on the grid's coordinates. -/
abbrev cond0_0 (i : grid0.Coords) : Prop := k0_cond1 i = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- Branch 1 of the body, as a condition on the grid's coordinates. -/
abbrev cond0_1 (i : grid0.Coords) : Prop := k0_cond2 i = 1#1
theorem hcond0_1 : ∀ t : Fin cfg0.N, cond0_1 (grid0.coords t) ↔ t.val < 4 :=
  (by decide +kernel : ∀ t : Fin grid0.N, cond0_1 (grid0.coords t) ↔ t.val < 4)

/-- Branch 2 of the body, as a condition on the grid's coordinates. -/
abbrev cond0_2 (i : grid0.Coords) : Prop := k0_cond3 i = 1#1
theorem hcond0_2 : ∀ t : Fin cfg0.N, cond0_2 (grid0.coords t) ↔ (1 ≤ t.val % 4 ∧ t.val % 4 ≤ 2) :=
  (by decide +kernel : ∀ t : Fin grid0.N, cond0_2 (grid0.coords t) ↔ (1 ≤ t.val % 4 ∧ t.val % 4 ≤ 2))

/-- Branch 3 of the body, as a condition on the grid's coordinates. -/
abbrev cond0_3 (i : grid0.Coords) : Prop := k0_cond5 i = 1#1
theorem hcond0_3 : ∀ t : Fin cfg0.N, cond0_3 (grid0.coords t) ↔ t.val % 4 = 3 :=
  (by decide +kernel : ∀ t : Fin grid0.N, cond0_3 (grid0.coords t) ↔ t.val % 4 = 3)

/-- Branch 4 of the body, as a condition on the grid's coordinates. -/
abbrev cond0_4 (i : grid0.Coords) : Prop := k0_cond4 i = 1#1
theorem hcond0_4 : ∀ t : Fin cfg0.N, cond0_4 (grid0.coords t) ↔ t.val < 4 :=
  (by decide +kernel : ∀ t : Fin grid0.N, cond0_4 (grid0.coords t) ↔ t.val < 4)

/-- Branch 5 of the body, as a condition on the grid's coordinates. -/
abbrev cond0_5 (i : grid0.Coords) : Prop := k0_cond6 i = 1#1
theorem hcond0_5 : ∀ t : Fin cfg0.N, cond0_5 (grid0.coords t) ↔ t.val < 4 :=
  (by decide +kernel : ∀ t : Fin grid0.N, cond0_5 (grid0.coords t) ↔ t.val < 4)

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x2048 .f32 := win0_7.stage (cfg0.slots t 7)
abbrev hs0_7 (t : Fin cfg0.N) : (ms0_7 t).IsWhole := hstage0_7 ((cfg0.slots t 7).cast nbuf0_7)
/-- The normed rows of a tile, kept between the points of a row of the grid, and those of the extra rows. -/
abbrev scM0_0 : Memref sig .tc .vmem S512x2048 .bf16 := Memref.whole cc0_scratch0
abbrev scM0_1 : Memref sig .tc .vmem S128x2048 .bf16 := Memref.whole cc0_scratch1

/-- The region's invariant with the two scratch buffers as memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The rows' result is stored into at every point. -/
theorem live6 : ∀ t : Fin cfg0.N, cfg0.idle 6 (grid0.coords t) = false := by decide +kernel
/-- The extra rows' result is stored into in the first row of the grid, and at no other point. -/
theorem live7 : ∀ t : Fin cfg0.N, cfg0.idle 7 (grid0.coords t) = !decide (t.val < 4) := by decide +kernel
/-- It is written back at the last point. -/
theorem flush7 : ∀ t : Fin cfg0.N, (cfg0.win 7).flush t = decide (t.val = 63) := by decide +kernel
theorem flush6 : ∀ t : Fin cfg0.N, (cfg0.win 6).flush t = decide (t.val % 4 = 3) := by decide +kernel

/-- Whether a result's buffer still holds nothing of the body's since the last write-back, before point `n`. -/
def freshTab6 : ℕ → Bool := fun n => decide (n % 4 = 0)
theorem fresh6 (t : Fin cfg0.N) : cfg0.fresh 6 t.val = freshTab6 t.val :=
  Pipeline.Cfg.fresh_tab cfg0 6 freshTab6 rfl (by decide +kernel) t.val (Nat.le_of_lt t.isLt)
def freshTab7 : ℕ → Bool := fun n => decide (n = 0 ∨ n = 64)
theorem fresh7 (t : Fin cfg0.N) : cfg0.fresh 7 t.val = freshTab7 t.val :=
  Pipeline.Cfg.fresh_tab cfg0 7 freshTab7 rfl (by decide +kernel) t.val (Nat.le_of_lt t.isLt)

end Cert.MlpIdeal.Gen

end
-- ==== Proof.MlpSteps.lean ====
/- What the MLP call's body does to its buffers at one point, case by case: each case is a triple whose contents before and after are named. -/
module

public import proofs.«01_k».proof.Proof.MlpParts
public import Idealize.ShloMosaic.Lib.VecWindow

@[expose] public section

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body keeps between points: the two results' buffers and the two normed blocks. -/
structure Kept (F : FTy → Type) where
  rows : Vec F S512x2048 .f32
  extra : Vec F S128x2048 .f32
  h : Vec F S512x2048 .bf16
  he : Vec F S128x2048 .bf16

/-- The body, run at a point on whole buffers, takes what is kept from `p` to `q` and leaves its operands. -/
def Steps (c : Dev nD) (i : grid0.Coords) (x0 : Vec F S512x2048 .f32) (x1 : Vec F S1x2048 .f32) (x2 : Vec F S2048x2048 .bf16)
    (x3 : Vec F S2048x2048 .bf16) (x4 : Vec F S1x2048 .f32) (x5 : Vec F S128x2048 .f32) (p q : Kept F) : Prop :=
  ∀ (arg2 : Memref sig .tc .vmem S512x2048 .f32) (harg2 : arg2.IsWhole)
    (arg3 : Memref sig .tc .vmem S1x2048 .f32) (harg3 : arg3.IsWhole)
    (arg4 : Memref sig .tc .vmem S2048x2048 .bf16) (harg4 : arg4.IsWhole)
    (arg5 : Memref sig .tc .vmem S2048x2048 .bf16) (harg5 : arg5.IsWhole)
    (arg6 : Memref sig .tc .vmem S1x2048 .f32) (harg6 : arg6.IsWhole)
    (arg7 : Memref sig .tc .vmem S128x2048 .f32) (harg7 : arg7.IsWhole)
    (arg8 : Memref sig .tc .vmem S512x2048 .f32) (harg8 : arg8.IsWhole)
    (arg9 : Memref sig .tc .vmem S128x2048 .f32) (harg9 : arg9.IsWhole)
    (arg10 : Memref sig .tc .vmem S512x2048 .bf16) (harg10 : arg10.IsWhole)
    (arg11 : Memref sig .tc .vmem S128x2048 .bf16) (harg11 : arg11.IsWhole) (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg8 fullShare p.rows ∗ owns (c : Thread nD τ) arg9 fullShare p.extra ∗ owns (c : Thread nD τ) arg10 fullShare p.h ∗ owns (c : Thread nD τ) arg11 fullShare p.he
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare q.rows ∗ owns (c : Thread nD τ) arg9 fullShare q.extra ∗ owns (c : Thread nD τ) arg10 fullShare q.h ∗ owns (c : Thread nD τ) arg11 fullShare q.he) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11) K

/-- A load of a whole buffer reads what the buffer holds. -/
theorem load_whole {s : Shape} {e : EltTy} (M : Memref sig .tc .vmem s e) (hM : M.IsWhole) (x : Vec F s e) {off : Fin s.rank → ℕ}
    (inb : ∀ a, off a + s.size a ≤ s.size a) :
    M.view.readAt (Elt F) (Rect.unit (s := s) off s.size inb).toLoadRect (hM.unread x) = x := by
  rw [View.readAt_full, hM.read_unread]

/-- What is kept after a point: at the first column tile the normed blocks and the first part of the sum, then a further part added, and at
    the last column tile the residual and the second norm. The extra rows move in the first row of the grid only. -/
def next (i : grid0.Coords) (x0 : Vec F S512x2048 .f32) (x1 : Vec F S1x2048 .f32) (x2 : Vec F S2048x2048 .bf16)
    (x3 : Vec F S2048x2048 .bf16) (x4 : Vec F S1x2048 .f32) (x5 : Vec F S128x2048 .f32) (p : Kept F) : Kept F where
  rows := if cond0_0 i then k0_pay3 x0 x1 x2 x3 else if cond0_3 i then k0_pay9 p.h x2 x3 p.rows x0 x4 else k0_pay7 p.h x2 x3 p.rows
  extra := if cond0_1 i then
      if cond0_0 i then k0_pay6 x5 x1 x2 x3 else if cond0_3 i then k0_pay10 p.he x2 x3 p.extra x5 x4 else k0_pay8 p.he x2 x3 p.extra
    else p.extra
  h := if cond0_0 i then k0_pay2 x0 x1 else p.h
  he := if cond0_1 i then if cond0_0 i then k0_pay5 x5 x1 else p.he else p.he

set_option maxHeartbeats 8000000 in
/-- The body's triple: exactly one of the three column cases holds, and the extra rows' branches agree. -/
theorem steps (c : Dev nD) (i : grid0.Coords)
    (hk : cond0_0 i ∧ ¬cond0_2 i ∧ ¬cond0_3 i ∨ ¬cond0_0 i ∧ cond0_2 i ∧ ¬cond0_3 i ∨ ¬cond0_0 i ∧ ¬cond0_2 i ∧ cond0_3 i)
    (he : cond0_1 i ∧ cond0_4 i ∧ cond0_5 i ∨ ¬cond0_1 i ∧ ¬cond0_4 i ∧ ¬cond0_5 i)
    (x0 : Vec F S512x2048 .f32) (x1 : Vec F S1x2048 .f32) (x2 : Vec F S2048x2048 .bf16)
    (x3 : Vec F S2048x2048 .bf16) (x4 : Vec F S1x2048 .f32) (x5 : Vec F S128x2048 .f32) (p : Kept F) :
    Steps c i x0 x1 x2 x3 x4 x5 p (next i x0 x1 x2 x3 x4 x5 p) := by
  intro arg2 harg2 arg3 harg3 arg4 harg4 arg5 harg5 arg6 harg6 arg7 harg7 arg8 harg8 arg9 harg9 arg10 harg10 arg11 harg11 E K
  simp only [cc0_mlp_eq_skeleton]; unfold cc0_mlp_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  rcases hk with ⟨hc0, hc2, hc3⟩ | ⟨hc0, hc2, hc3⟩ | ⟨hc0, hc2, hc3⟩ <;> rcases he with ⟨hc1, hc4, hc5⟩ | ⟨hc1, hc4, hc5⟩
  all_goals
    sl_exec (disch := first | sl_exact hc0 | sl_exact hc1 | sl_exact hc2 | sl_exact hc3 | sl_exact hc4 | sl_exact hc5)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; first | rw [View.read_writes_full] | rw [harg8.read_unread]
      repeat rw [load_whole]
      simp only [next, cond0_0, cond0_1, cond0_3, hc0, hc1, hc3, if_true, if_false]
    isplitl [H7]
    · iexists _; isplitr; swap; · iexact H7
      ipureintro; first | rw [View.read_writes_full] | rw [harg9.read_unread]
      repeat rw [load_whole]
      simp only [next, cond0_0, cond0_1, cond0_3, hc0, hc1, hc3, if_true, if_false]
    isplitl [H8]
    · iexists _; isplitr; swap; · iexact H8
      ipureintro; first | rw [View.read_writes_full] | rw [harg10.read_unread]
      repeat rw [load_whole]
      simp only [next, cond0_0, cond0_1, cond0_3, hc0, hc1, hc3, if_true, if_false]
    iexists _; isplitr; swap; · iexact H9
    ipureintro; first | rw [View.read_writes_full] | rw [harg11.read_unread]
    repeat rw [load_whole]
    simp only [next, cond0_0, cond0_1, cond0_3, hc0, hc1, hc3, if_true, if_false]

end Cert.MlpIdeal.Gen

end
-- ==== Proof.MlpRun.lean ====
/- The MLP call's run: what is kept before each point, the pipeline's proof data, the body's obligation and the launch. -/
module

public import proofs.«01_k».proof.Proof.MlpSteps

@[expose] public section

set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is kept before point `n` (before the first point nothing is: any value stands there). -/
def upto (c : Dev nD) : ℕ → Kept F
  | 0 => ⟨(ms0_6 ⟨0, by decide⟩).view.read (Elt F) (ms0_6 ⟨0, by decide⟩).view.junk, (ms0_7 ⟨0, by decide⟩).view.read (Elt F) (ms0_7 ⟨0, by decide⟩).view.junk,
      scM0_0.view.read (Elt F) scM0_0.view.junk, scM0_1.view.read (Elt F) scM0_1.view.junk⟩
  | n + 1 => if hn : n < cfg0.N then
      next (grid0.coords ⟨n, hn⟩) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (upto c n)
    else upto c n

theorem upto_succ (c : Dev nD) (t : Fin cfg0.N) :
    upto m c (t.val + 1) = next (grid0.coords t) (iblk m c 0 t) (iblk m c 1 t) (iblk m c 2 t) (iblk m c 3 t) (iblk m c 4 t) (iblk m c 5 t) (upto m c t.val) := by
  rw [upto, dif_pos t.isLt]

/-- A point's step reads of what is kept only what its case does not store first: at the first column tile the rows, and at the first
    point of all everything, may be replaced. -/
theorem next_rows (t : Fin cfg0.N) (h : t.val % 4 = 0) (x0 : Vec F S512x2048 .f32) (x1 : Vec F S1x2048 .f32) (x2 : Vec F S2048x2048 .bf16)
    (x3 : Vec F S2048x2048 .bf16) (x4 : Vec F S1x2048 .f32) (x5 : Vec F S128x2048 .f32) (p : Kept F) (d : Vec F S512x2048 .f32) :
    next (grid0.coords t) x0 x1 x2 x3 x4 x5 { p with rows := d } = next (grid0.coords t) x0 x1 x2 x3 x4 x5 p := by
  have h0 := (hcond0_0 t).mpr h
  simp only [next, if_pos h0]
theorem next_first (t : Fin cfg0.N) (h : t.val = 0) (x0 : Vec F S512x2048 .f32) (x1 : Vec F S1x2048 .f32) (x2 : Vec F S2048x2048 .bf16)
    (x3 : Vec F S2048x2048 .bf16) (x4 : Vec F S1x2048 .f32) (x5 : Vec F S128x2048 .f32) (p q : Kept F) :
    next (grid0.coords t) x0 x1 x2 x3 x4 x5 q = next (grid0.coords t) x0 x1 x2 x3 x4 x5 p := by
  have h0 := (hcond0_0 t).mpr (by omega)
  have h1 := (hcond0_1 t).mpr (by omega)
  simp only [next, if_pos h0, if_pos h1]

/-- The region's invariant before position `n`: at first the two blocks at anything, then at what is kept. -/
def PhiK (c : Dev nD) (n : ℕ) : sProp 𝕄 :=
  if n = 0 then Pipeline.ΦA spec0 c
  else iprop(iprop(owns (c : Thread nD τ) scM0_0 fullShare (upto m c n).h ∗ owns (c : Thread nD τ) scM0_1 fullShare (upto m c n).he) ∗ (∃ r, prngReg c r))

/-- The proof data: operands at their blocks, the two results at what is kept after the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (upto m c (t.val + 1)).rows
    | ⟨7, _⟩ => (upto m c (t.val + 1)).extra
  Φ t := PhiK m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (upto m c (t.val + 1)).rows := by dsimp only [dats]
theorem after0_7 (c : Dev nD) (t : Fin cfg0.N) : (dats m 0 c).after 7 t = (upto m c (t.val + 1)).extra := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Before a point the rows' buffer is as the point before left it, or, at the first column tile, at anything. -/
theorem before0_6 (c : Dev nD) (t : Fin cfg0.N) (d) :
    (dats m 0 c).before 6 t d = if t.val % 4 = 0 then d else (upto m c t.val).rows := by
  rw [Dat.before_out_traj _ 6 rfl (fun _ _ => rfl) (fun t _ h _ => by rw [live6 t] at h; exact absurd h Bool.false_ne_true) t.val t rfl d, fresh6]
  unfold freshTab6
  by_cases h : t.val % 4 = 0
  · rw [if_pos h, if_pos (decide_eq_true h)]
  · rw [if_neg h, if_neg (by rw [decide_eq_true_eq]; exact h), after0_6]
    exact congrArg (fun n => (upto m c n).rows) (by show t.val - 1 + 1 = t.val; omega)

/-- Past the first row of the grid the extra rows' result stays. -/
theorem upto_extra (c : Dev nD) (t : Fin cfg0.N) (h : ¬t.val < 4) : (upto m c (t.val + 1)).extra = (upto m c t.val).extra := by
  rw [upto_succ]
  simp only [next, if_neg (mt (hcond0_1 t).mp h)]

/-- Before a point the extra rows' buffer is as the point before left it, or, at the first point, at anything. -/
theorem before0_7 (c : Dev nD) (t : Fin cfg0.N) (d) :
    (dats m 0 c).before 7 t d = if t.val = 0 then d else (upto m c t.val).extra := by
  have hN : t.val < 64 := lt_of_lt_of_eq t.isLt (show cfg0.N = 64 from N_0)
  rw [Dat.before_out_traj _ 7 rfl (fun _ _ => rfl) (fun t hz h _ => by
    rw [live7 t] at h
    have h4 : ¬t.val < 4 := by simpa using h
    rw [after0_7, after0_7, upto_extra m c t h4]
    exact congrArg (fun n => (upto m c n).extra) (by show t.val = t.val - 1 + 1; omega)) t.val t rfl d, fresh7]
  unfold freshTab7
  by_cases h : t.val = 0
  · rw [if_pos h, if_pos (decide_eq_true (Or.inl h))]
  · rw [if_neg h, if_neg (by rw [decide_eq_true_eq]; omega), after0_7]
    exact congrArg (fun n => (upto m c n).extra) (by show t.val - 1 + 1 = t.val; omega)

/-- A buffer the body leaves as the proof data says is handed back as the obligation asks. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The extra rows' buffer, idle or not, is handed back at what is kept. -/
theorem leaves7 (c : Dev nD) (t : Fin cfg0.N) :
    (owns (c : Thread nD τ) (ms0_7 t) fullShare (upto m c (t.val + 1)).extra : sProp 𝕄) ⊢ (dats m 0 c).leavesExact 7 t := by
  by_cases h4 : t.val < 4
  · rw [leaves_live m c 7 t (by rw [live7 t]; simpa using h4), after0_7]
  · have hb (d) : (dats m 0 c).before 7 t d = (upto m c (t.val + 1)).extra := by
      rw [before0_7, if_neg (by omega), upto_extra m c t h4]
    unfold Dat.leavesExact
    rw [show cfg0.idle 7 (cfg0.grid.coords t) = true from (live7 t).trans (by simpa using h4)]
    by_cases hf : t.val = 63
    · rw [show (cfg0.win 7).flush t = true from (flush7 t).trans (by simpa using hf)]
      rw [after0_7]
    · rw [show (cfg0.win 7).flush t = false from (flush7 t).trans (by simpa using hf)]
      simp only [hb]
      iintro H
      iexists (upto m c (t.val + 1)).extra
      iexact H

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The invariant before a point gives the two blocks at some contents, which agree with what is kept except at the first point. -/
theorem Phi_open (c : Dev nD) (t : Fin cfg0.N) :
    (dats m 0 c).Φ t.castSucc ⊢ iprop(∃ a b, ⌜t.val ≠ 0 → a = (upto m c t.val).h ∧ b = (upto m c t.val).he⌝
      ∗ owns (c : Thread nD τ) scM0_0 fullShare a ∗ owns (c : Thread nD τ) scM0_1 fullShare b ∗ (∃ r, prngReg c r)) := by
  rw [show (dats m 0 c).Φ t.castSucc = PhiK m c t.val from rfl]
  unfold PhiK
  by_cases h : t.val = 0
  · rw [if_pos h, PhiA0_eq]
    iintro ⟨⟨⟨%a, Ha⟩, ⟨%b, Hb⟩⟩, Hg⟩
    iexists a, b
    isplitr; · ipureintro; exact fun hz => absurd h hz
    isplitl [Ha]; · iexact Ha
    isplitl [Hb]; · iexact Hb
    iexact Hg
  · rw [if_neg h]
    iintro ⟨⟨Ha, Hb⟩, Hg⟩
    iexists _, _
    isplitr; swap
    · isplitl [Ha]; · iexact Ha
      isplitl [Hb]; · iexact Hb
      iexact Hg
    ipureintro; exact fun _ => ⟨rfl, rfl⟩

/-- What the body finds steps to what is kept after the point. -/
theorem next_found (c : Dev nD) (t : Fin cfg0.N) (d6 : Vec F S512x2048 .f32) (d7 : Vec F S128x2048 .f32) (a : Vec F S512x2048 .bf16) (b : Vec F S128x2048 .bf16)
    (h : t.val ≠ 0 → a = (upto m c t.val).h ∧ b = (upto m c t.val).he) :
    next (grid0.coords t) (iblk m c 0 t) (iblk m c 1 t) (iblk m c 2 t) (iblk m c 3 t) (iblk m c 4 t) (iblk m c 5 t)
      ⟨if t.val % 4 = 0 then d6 else (upto m c t.val).rows, if t.val = 0 then d7 else (upto m c t.val).extra, a, b⟩ = upto m c (t.val + 1) := by
  rw [upto_succ]
  by_cases hz : t.val = 0
  · exact next_first t hz ..
  · obtain ⟨rfl, rfl⟩ := h hz
    rw [if_neg hz]
    by_cases h4 : t.val % 4 = 0
    · rw [if_pos h4]; exact next_rows t h4 _ _ _ _ _ _ (upto m c t.val) d6
    · rw [if_neg h4]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiK m c (t.val + 1) from rfl]
  unfold PhiK; rw [if_neg (Nat.succ_ne_zero _)]
  rw [leaves_live m c 0 t (rfl), after0_0]
  rw [leaves_live m c 1 t (rfl), after0_1]
  rw [leaves_live m c 2 t (rfl), after0_2]
  rw [leaves_live m c 3 t (rfl), after0_3]
  rw [leaves_live m c 4 t (rfl), after0_4]
  rw [leaves_live m c 5 t (rfl), after0_5]
  rw [leaves_live m c 6 t (live6 t), after0_6]
  have hk : cond0_0 (grid0.coords t) ∧ ¬cond0_2 (grid0.coords t) ∧ ¬cond0_3 (grid0.coords t) ∨ ¬cond0_0 (grid0.coords t) ∧ cond0_2 (grid0.coords t) ∧ ¬cond0_3 (grid0.coords t) ∨ ¬cond0_0 (grid0.coords t) ∧ ¬cond0_2 (grid0.coords t) ∧ cond0_3 (grid0.coords t) := by
    rw [hcond0_0 t, hcond0_2 t, hcond0_3 t]; omega
  have he : cond0_1 (grid0.coords t) ∧ cond0_4 (grid0.coords t) ∧ cond0_5 (grid0.coords t) ∨ ¬cond0_1 (grid0.coords t) ∧ ¬cond0_4 (grid0.coords t) ∧ ¬cond0_5 (grid0.coords t) := by
    rw [hcond0_1 t, hcond0_4 t, hcond0_5 t]; omega
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HP := Phi_open m c t $$ HP
  icases HP with ⟨%a, %b, %hab, Ha, Hb, Hg⟩
  have hnx := next_found m c t d6 d7 a b hab
  iapply (steps c (grid0.coords t) hk he (iblk m c 0 t) (iblk m c 1 t) (iblk m c 2 t) (iblk m c 3 t) (iblk m c 4 t) (iblk m c 5 t)
    ⟨if t.val % 4 = 0 then d6 else (upto m c t.val).rows, if t.val = 0 then d7 else (upto m c t.val).extra, a, b⟩ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) Set.univ _)
  rw [hnx]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Ha]; · iexact Ha
  isplitl [Hb]; · iexact Hb
  iintro ⟨H0, H1, H2, H3, H4, H5, H6, H7, Ha, Hb⟩
  isplitl [Ha Hb Hg]
  · isplitl [Ha Hb]
    · isplitl [Ha]; · iexact Ha
      iexact Hb
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves7 m c t); iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiK m c 0 from rfl]
  unfold PhiK; rw [if_pos rfl]

theorem hout (c : Dev nD) : (dats m 0 c).Φ (Fin.last cfg0.N) ⊢ Pipeline.ΦA spec0 c := by
  rw [show (dats m 0 c).Φ (Fin.last cfg0.N) = PhiK m c cfg0.N from rfl, PhiA0_eq]
  unfold PhiK; rw [if_neg (by have : cfg0.N = 64 := N_0; omega)]
  iintro ⟨⟨Ha, Hb⟩, Hg⟩
  isplitl [Ha Hb]
  · isplitl [Ha]
    · iexists _; iexact Ha
    iexists _; iexact Hb
  iexact Hg

set_option backward.isDefEq.respectTransparency.types false in
/-- Every execution ends, with every array of the call at what the proof data says and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.MlpIdeal.Gen

end
-- ==== Proof.MlpGrid.lean ====
module

public import proofs.«01_k».proof.Proof.MlpStores
public import proofs.«01_k».proof.Proof.MlpRun
public import Idealize.ShloMosaic.Lib.Pipeline.ValueKit.Point

/-! What the MLP call keeps after each grid point, as sums over the column tiles passed so far. -/

@[expose] public section

set_option maxHeartbeats 1000000

noncomputable section

namespace Cert.MlpGrid
open Cert.MlpIdeal Cert.MlpIdeal.Gen Idealize.ShloMosaic Idealize.ShloMosaic.TcCoe Idealize.SL.Sem Idealize.ShloMosaic.Tactic
open Cert.MlpStores Cert.MlpSpec
open scoped BigOperators

variable (m : (ℓ : Loc nD τ sig) → Buf (Elt Ideal) ℓ) (c : Dev nD)

theorem idx : ∀ t : Fin cfg0.N, win0_0.index t = ![t.val / 4, 0] ∧ win0_1.index t = ![0, 0] ∧ win0_2.index t = ![0, t.val % 4] ∧
    win0_3.index t = ![t.val % 4, 0] ∧ win0_4.index t = ![0, 0] ∧ win0_5.index t = ![0, 0] ∧ win0_6.index t = ![t.val / 4, 0] ∧
    win0_7.index t = ![0, 0] := by decide +kernel

theorem lt64 (t : Fin cfg0.N) : t.val < 64 := t.2

/-- The grid point of row tile `i` and column tile `j`. -/
def pt (i : Fin 16) (j : Fin 4) : Fin cfg0.N := ⟨4 * i.val + j.val, by show _ < 64; omega⟩
theorem pt_val (i : Fin 16) (j : Fin 4) : (pt i j).val = 4 * i.val + j.val := rfl
theorem pt_coords (t : Fin cfg0.N) : t = pt ⟨t.val / 4, by have := lt64 t; omega⟩ ⟨t.val % 4, by omega⟩ :=
  Fin.ext (by rw [pt_val]; show t.val = 4 * (t.val / 4) + t.val % 4; omega)

/-- The program's arguments, by row and column. -/
abbrev w1 (k : Fin 2048) : EReal := m ((c : Thread nD τ).loc main_arg1) (ix2 0 k)
abbrev w2 (k : Fin 2048) : EReal := m ((c : Thread nD τ).loc main_arg4) (ix2 0 k)
abbrev up (k : Fin 2048) (f : Fin 8192) : EReal := m ((c : Thread nD τ).loc main_arg2) (ix2 k f)
abbrev down (f : Fin 8192) (n : Fin 2048) : EReal := m ((c : Thread nD τ).loc main_arg3) (ix2 f n)
abbrev xrow (r : Fin 8192) (k : Fin 2048) : EReal := m ((c : Thread nD τ).loc main_arg0) (ix2 r k)
abbrev erow (r : Fin 128) (k : Fin 2048) : EReal := m ((c : Thread nD τ).loc main_arg5) (ix2 r k)

/-- A row of a row tile, and a column of a column tile of the hidden layer. -/
abbrev rowAt (i : Fin 16) (q : Fin 512) : Fin 8192 := ⟨512 * i.val + q.val, by omega⟩
abbrev colAt (j : Fin 4) (f : Fin 2048) : Fin 8192 := ⟨j.val * 2048 + f.val, by omega⟩

section Loads
variable (i : Fin 16) (j : Fin 4)

theorem x_load (q : Fin 512) (k : Fin 2048) : iblk m c 0 (pt i j) (ix2 q k) = xrow m c (rowAt i q) k := by
  have e := idx (pt i j)
  have h : (pt i j).val / 4 = i.val := by rw [pt_val]; omega
  blk_ext [iblk, V_main_arg0, e, h, Rect.idx_unit_val]
theorem w1_load (k : Fin 2048) : iblk m c 1 (pt i j) (ix2 0 k) = w1 m c k := by
  have e := idx (pt i j)
  blk_ext [iblk, V_main_arg1, e, Rect.idx_unit_val]
theorem up_load (k f : Fin 2048) : iblk m c 2 (pt i j) (ix2 k f) = up m c k (colAt j f) := by
  have e := idx (pt i j)
  have h : (pt i j).val % 4 = j.val := by rw [pt_val]; omega
  blk_ext [iblk, V_main_arg2, e, h, Rect.idx_unit_val]
theorem down_load (f n : Fin 2048) : iblk m c 3 (pt i j) (ix2 f n) = down m c (colAt j f) n := by
  have e := idx (pt i j)
  have h : (pt i j).val % 4 = j.val := by rw [pt_val]; omega
  blk_ext [iblk, V_main_arg3, e, h, Rect.idx_unit_val]
theorem w2_load (k : Fin 2048) : iblk m c 4 (pt i j) (ix2 0 k) = w2 m c k := by
  have e := idx (pt i j)
  blk_ext [iblk, V_main_arg4, e, Rect.idx_unit_val]
theorem e_load (q : Fin 128) (k : Fin 2048) : iblk m c 5 (pt i j) (ix2 q k) = erow m c q k := by
  have e := idx (pt i j)
  blk_ext [iblk, V_main_arg5, e, Rect.idx_unit_val]

end Loads

/-- What is kept after the point of row tile `i` and column tile `j`. -/
abbrev kept (i : Fin 16) (j : Fin 4) : Kept Ideal := upto m c ((pt i j).val + 1)

/-- What column tile `j` of the hidden layer gives to a row's result. -/
abbrev tile (h : Fin 2048 → EReal) (j : Fin 4) (n : Fin 2048) : EReal :=
  part h (fun k f => up m c k (colAt j f)) (fun f n => down m c (colAt j f) n) n

/-- The four tiles' parts make up the whole product. -/
theorem tiles (h : Fin 2048 → EReal) (n : Fin 2048) :
    tile m c h 0 n + tile m c h 1 n + tile m c h 2 n + tile m c h 3 n = part h (up m c) (down m c) n := by
  rw [part, Fin.sum_univ_tiles 4 2048 (by norm_num), Fin.sum_univ_four]; rfl

/-- Tiles of the weights, read through a point's loads. -/
theorem tile_load (i : Fin 16) (j : Fin 4) (h : Fin 2048 → EReal) (n : Fin 2048) :
    part h (fun k f => iblk m c 2 (pt i j) (ix2 k f)) (fun f n => iblk m c 3 (pt i j) (ix2 f n)) n = tile m c h j n := by
  refine congrArg₂ (fun a b => part h a b n) (funext fun k => funext fun f => up_load m c i j k f) (funext fun f => funext fun n => down_load m c i j f n)

section Rows
variable (i : Fin 16)

theorem at_first : cond0_0 (grid0.coords (pt i 0)) := (hcond0_0 _).mpr (by rw [pt_val]; show (4 * i.val + 0) % 4 = 0; omega)
theorem not_first (j : Fin 4) (hj : j ≠ 0) : ¬cond0_0 (grid0.coords (pt i j)) :=
  mt (hcond0_0 _).mp (by rw [pt_val]; have := Fin.val_ne_of_ne hj; have : (0 : Fin 4).val = 0 := rfl; omega)
theorem at_last : cond0_3 (grid0.coords (pt i 3)) := (hcond0_3 _).mpr (by rw [pt_val]; show (4 * i.val + 3) % 4 = 3; omega)
theorem not_last (j : Fin 4) (hj : j ≠ 3) : ¬cond0_3 (grid0.coords (pt i j)) :=
  mt (hcond0_3 _).mp (by rw [pt_val]; have := Fin.val_ne_of_ne hj; have : (3 : Fin 4).val = 3 := rfl; omega)
theorem at_top (j : Fin 4) : cond0_1 (grid0.coords (pt 0 j)) := (hcond0_1 _).mpr (by rw [pt_val]; show 4 * 0 + j.val < 4; omega)

/-- A point starts from what the column tile before left. -/
theorem before (j j' : Fin 4) (h : j.val = j'.val + 1) : upto m c (pt i j).val = kept m c i j' :=
  congrArg (upto m c) (by rw [pt_val, pt_val]; omega)

/-- The first norm of the row tile's rows. -/
abbrev normed (q : Fin 512) : Fin 2048 → EReal := rms (xrow m c (rowAt i q)) (w1 m c)

theorem norm_first (q : Fin 512) (n : Fin 2048) : k0_pay2 (iblk m c 0 (pt i 0)) (iblk m c 1 (pt i 0)) (ix2 q n) = normed m c i q n :=
  (norm_read _ _ q n).trans
    (congrArg₂ (fun a b => rms a b n) (funext fun k => x_load m c i 0 q k) (funext fun k => w1_load m c i 0 k))

theorem h_first (q : Fin 512) (n : Fin 2048) : (kept m c i 0).h (ix2 q n) = normed m c i q n := by
  rw [kept, upto_succ]; simp only [next, if_pos (at_first i)]; exact norm_first m c i q n
theorem h_next (j j' : Fin 4) (h : j.val = j'.val + 1) : (kept m c i j).h = (kept m c i j').h := by
  have hj : j ≠ 0 := fun e => by subst e; exact absurd h (by show ¬(0 = _); omega)
  rw [kept, upto_succ, before m c i j j' h]; simp only [next, if_neg (not_first i j hj)]
theorem h_at (j : Fin 4) (q : Fin 512) (n : Fin 2048) : (kept m c i j).h (ix2 q n) = normed m c i q n := by
  match j with
  | 0 => exact h_first m c i q n
  | 1 => rw [h_next m c i 1 0 rfl]; exact h_first m c i q n
  | 2 => rw [h_next m c i 2 1 rfl, h_next m c i 1 0 rfl]; exact h_first m c i q n
  | 3 => rw [h_next m c i 3 2 rfl, h_next m c i 2 1 rfl, h_next m c i 1 0 rfl]; exact h_first m c i q n

theorem rows_first (q : Fin 512) (n : Fin 2048) : (kept m c i 0).rows (ix2 q n) = tile m c (normed m c i q) 0 n := by
  rw [kept, upto_succ]; simp only [next, if_pos (at_first i)]
  exact (first_read _ _ _ _ q n).trans ((congrArg (fun h => part h _ _ n) (funext fun k => norm_first m c i q k)).trans (tile_load m c i 0 _ n))

/-- One more column tile's part. -/
theorem added (j j' : Fin 4) (q : Fin 512) (n : Fin 2048) :
    k0_pay7 (kept m c i j').h (iblk m c 2 (pt i j)) (iblk m c 3 (pt i j)) (kept m c i j').rows (ix2 q n)
      = (kept m c i j').rows (ix2 q n) + tile m c (normed m c i q) j n :=
  (add_read _ _ _ _ q n).trans (congrArg ((kept m c i j').rows (ix2 q n) + ·)
    ((congrArg (fun h => part h _ _ n) (funext fun k => h_at m c i j' q k)).trans (tile_load m c i j _ n)))

theorem rows_next (j j' : Fin 4) (h : j.val = j'.val + 1) (hl : j ≠ 3) (q : Fin 512) (n : Fin 2048) :
    (kept m c i j).rows (ix2 q n) = (kept m c i j').rows (ix2 q n) + tile m c (normed m c i q) j n := by
  have hj : j ≠ 0 := fun e => by subst e; exact absurd h (by show ¬(0 = _); omega)
  refine Eq.trans ?_ (added m c i j j' q n)
  conv_lhs => rw [kept, upto_succ, before m c i j j' h]
  simp only [next, if_neg (not_first i j hj), if_neg (not_last i j hl)]

/-- After the last column tile the row tile's rows are the mixer's. -/
theorem rows_last (q : Fin 512) (n : Fin 2048) :
    (kept m c i 3).rows (ix2 q n) = row (xrow m c (rowAt i q)) (w1 m c) (up m c) (down m c) (w2 m c) n := by
  have e : ∀ k, k0_pay7 (kept m c i 2).h (iblk m c 2 (pt i 3)) (iblk m c 3 (pt i 3)) (kept m c i 2).rows (ix2 q k)
      = part (normed m c i q) (up m c) (down m c) k := fun k => by
    rw [added, rows_next m c i 2 1 rfl (by decide), rows_next m c i 1 0 rfl (by decide), rows_first, tiles]
  rw [kept, upto_succ, before m c i 3 2 rfl]
  simp only [next, if_neg (not_first i 3 (by decide)), if_pos (at_last i)]
  refine (last_read _ _ _ _ _ _ q n).trans ?_
  exact congrArg₂ (· + ·) (x_load m c i 3 q n)
    (congrArg₂ (fun a b => rms a b n) (funext e) (funext fun k => w2_load m c i 3 k))

end Rows

section Extra

/-- The first norm of the extra rows. -/
abbrev normedE (q : Fin 128) : Fin 2048 → EReal := rms (erow m c q) (w1 m c)

theorem normE_first (q : Fin 128) (n : Fin 2048) : k0_pay5 (iblk m c 5 (pt 0 0)) (iblk m c 1 (pt 0 0)) (ix2 q n) = normedE m c q n :=
  (norm_read_extra _ _ q n).trans
    (congrArg₂ (fun a b => rms a b n) (funext fun k => e_load m c 0 0 q k) (funext fun k => w1_load m c 0 0 k))

theorem he_first (q : Fin 128) (n : Fin 2048) : (kept m c 0 0).he (ix2 q n) = normedE m c q n := by
  rw [kept, upto_succ]; simp only [next, if_pos (at_first 0), if_pos (at_top 0)]; exact normE_first m c q n
theorem he_next (j j' : Fin 4) (h : j.val = j'.val + 1) : (kept m c 0 j).he = (kept m c 0 j').he := by
  have hj : j ≠ 0 := fun e => by subst e; exact absurd h (by show ¬(0 = _); omega)
  rw [kept, upto_succ, before m c 0 j j' h]; simp only [next, if_neg (not_first 0 j hj), if_pos (at_top j)]
theorem he_at (j : Fin 4) (q : Fin 128) (n : Fin 2048) : (kept m c 0 j).he (ix2 q n) = normedE m c q n := by
  match j with
  | 0 => exact he_first m c q n
  | 1 => rw [he_next m c 1 0 rfl]; exact he_first m c q n
  | 2 => rw [he_next m c 2 1 rfl, he_next m c 1 0 rfl]; exact he_first m c q n
  | 3 => rw [he_next m c 3 2 rfl, he_next m c 2 1 rfl, he_next m c 1 0 rfl]; exact he_first m c q n

theorem extra_first (q : Fin 128) (n : Fin 2048) : (kept m c 0 0).extra (ix2 q n) = tile m c (normedE m c q) 0 n := by
  rw [kept, upto_succ]; simp only [next, if_pos (at_first 0), if_pos (at_top 0)]
  exact (first_read_extra _ _ _ _ q n).trans ((congrArg (fun h => part h _ _ n) (funext fun k => normE_first m c q k)).trans (tile_load m c 0 0 _ n))

theorem addedE (j j' : Fin 4) (q : Fin 128) (n : Fin 2048) :
    k0_pay8 (kept m c 0 j').he (iblk m c 2 (pt 0 j)) (iblk m c 3 (pt 0 j)) (kept m c 0 j').extra (ix2 q n)
      = (kept m c 0 j').extra (ix2 q n) + tile m c (normedE m c q) j n :=
  (add_read_extra _ _ _ _ q n).trans (congrArg ((kept m c 0 j').extra (ix2 q n) + ·)
    ((congrArg (fun h => part h _ _ n) (funext fun k => he_at m c j' q k)).trans (tile_load m c 0 j _ n)))

theorem extra_next (j j' : Fin 4) (h : j.val = j'.val + 1) (hl : j ≠ 3) (q : Fin 128) (n : Fin 2048) :
    (kept m c 0 j).extra (ix2 q n) = (kept m c 0 j').extra (ix2 q n) + tile m c (normedE m c q) j n := by
  have hj : j ≠ 0 := fun e => by subst e; exact absurd h (by show ¬(0 = _); omega)
  refine Eq.trans ?_ (addedE m c j j' q n)
  conv_lhs => rw [kept, upto_succ, before m c 0 j j' h]
  simp only [next, if_neg (not_first 0 j hj), if_neg (not_last 0 j hl), if_pos (at_top j)]

theorem extra_last (q : Fin 128) (n : Fin 2048) :
    (kept m c 0 3).extra (ix2 q n) = row (erow m c q) (w1 m c) (up m c) (down m c) (w2 m c) n := by
  have e : ∀ k, k0_pay8 (kept m c 0 2).he (iblk m c 2 (pt 0 3)) (iblk m c 3 (pt 0 3)) (kept m c 0 2).extra (ix2 q k)
      = part (normedE m c q) (up m c) (down m c) k := fun k => by
    rw [addedE, extra_next m c 2 1 rfl (by decide), extra_next m c 1 0 rfl (by decide), extra_first, tiles]
  rw [kept, upto_succ, before m c 0 3 2 rfl]
  simp only [next, if_neg (not_first 0 3 (by decide)), if_pos (at_last 0), if_pos (at_top 3)]
  refine (last_read_extra _ _ _ _ _ _ q n).trans ?_
  exact congrArg₂ (· + ·) (e_load m c 0 3 q n)
    (congrArg₂ (fun a b => rms a b n) (funext e) (funext fun k => w2_load m c 0 3 k))

/-- The extra rows stay as the first row of the grid left them. -/
theorem extra_kept (n : ℕ) : ∀ hn : 4 + n ≤ 64, (upto m c (4 + n)).extra = (kept m c 0 3).extra := by
  induction n with
  | zero => exact fun _ => rfl
  | succ n ih =>
    intro hn
    exact (upto_extra m c ⟨4 + n, by show _ < 64; omega⟩ (by show ¬(4 + n < 4); omega)).trans (ih (by omega))

end Extra

end Cert.MlpGrid

end
-- ==== Proof.MlpRefRows.lean ====
module

public import proofs.«01_k».proof.Proof.MlpSpec
public import proofs.«01_k».proof.Proof.Gen.MlpRefIdeal.Read

/-! The reference's two results, read at an index. -/

@[expose] public section

set_option maxHeartbeats 1000000

noncomputable section

namespace Cert.MlpRefRows
open Cert.MlpRefIdeal Cert.MlpRefIdeal.Gen Cert.MlpRefIdeal.Read Idealize.ShloMosaic Idealize.ShloMosaic.TcCoe Idealize.ShloMosaic.StableHlo
open scoped BigOperators

variable (x0 : (⟨S8192x2048, .f32⟩ : BufTy).Contents (Elt Ideal)) (x1 : (⟨S1x2048, .f32⟩ : BufTy).Contents (Elt Ideal))
  (x2 : (⟨S2048x8192, .bf16⟩ : BufTy).Contents (Elt Ideal)) (x3 : (⟨S8192x2048, .bf16⟩ : BufTy).Contents (Elt Ideal))
  (x4 : (⟨S1x2048, .f32⟩ : BufTy).Contents (Elt Ideal)) (x5 : (⟨S128x2048, .f32⟩ : BufTy).Contents (Elt Ideal))

theorem norm_read (r : Fin 8192) (n : Fin 2048) :
    val_main_v13 (F := Ideal) x0 x1 (ix2 r n) = MlpSpec.rms (fun k => x0 (ix2 r k)) (fun k => x1 (ix2 0 k)) n := by
  pointwise [val_main_v13, val_main_v12, val_main_v11, val_main_v10, val_main_v9, val_main_v8, val_main_v7, val_main_v6, val_main_v5, val_main_v4, val_main_v3, val_main_v2, val_main_cst, val_main_cst_0, val_main_cst_1]
  rfl

theorem mixed_read (r : Fin 8192) (n : Fin 2048) :
    val_main_v17 (F := Ideal) x0 x1 x2 x3 (ix2 r n)
      = MlpSpec.part (MlpSpec.rms (fun k => x0 (ix2 r k)) (fun k => x1 (ix2 0 k))) (fun k f => x2 (ix2 k f)) (fun f n => x3 (ix2 f n)) n := by
  pointwise [val_main_v17, val_main_v16, val_main_v15, val_main_v14, val_main_v0, val_main_v1, val_main_call0_v0, val_main_call0_cst]
  simp only [norm_read]
  rfl

theorem out_read (r : Fin 8192) (n : Fin 2048) :
    val_main_v30 (F := Ideal) x0 x1 x2 x3 x4 (ix2 r n)
      = MlpSpec.row (fun k => x0 (ix2 r k)) (fun k => x1 (ix2 0 k)) (fun k f => x2 (ix2 k f)) (fun f n => x3 (ix2 f n)) (fun k => x4 (ix2 0 k)) n := by
  pointwise [val_main_v30, val_main_v29, val_main_v28, val_main_v27, val_main_v26, val_main_v25, val_main_v24, val_main_v23, val_main_v22, val_main_v21, val_main_v20, val_main_v19, val_main_v18, val_main_cst_2, val_main_cst_3, val_main_cst_4]
  simp only [mixed_read]
  rfl

theorem norm_read_extra (r : Fin 128) (n : Fin 2048) :
    val_main_v42 (F := Ideal) x1 x5 (ix2 r n) = MlpSpec.rms (fun k => x5 (ix2 r k)) (fun k => x1 (ix2 0 k)) n := by
  pointwise [val_main_v42, val_main_v41, val_main_v40, val_main_v39, val_main_v38, val_main_v37, val_main_v36, val_main_v35, val_main_v34, val_main_v33, val_main_v32, val_main_v31, val_main_cst_5, val_main_cst_6, val_main_cst_7]
  rfl

theorem mixed_read_extra (r : Fin 128) (n : Fin 2048) :
    val_main_v46 (F := Ideal) x1 x2 x3 x5 (ix2 r n)
      = MlpSpec.part (MlpSpec.rms (fun k => x5 (ix2 r k)) (fun k => x1 (ix2 0 k))) (fun k f => x2 (ix2 k f)) (fun f n => x3 (ix2 f n)) n := by
  pointwise [val_main_v46, val_main_v45, val_main_v44, val_main_v43, val_main_v0, val_main_v1, val_main_call1_v0, val_main_call1_cst]
  simp only [norm_read_extra]
  rfl

theorem out_read_extra (r : Fin 128) (n : Fin 2048) :
    val_main_v59 (F := Ideal) x1 x2 x3 x4 x5 (ix2 r n)
      = MlpSpec.row (fun k => x5 (ix2 r k)) (fun k => x1 (ix2 0 k)) (fun k f => x2 (ix2 k f)) (fun f n => x3 (ix2 f n)) (fun k => x4 (ix2 0 k)) n := by
  pointwise [val_main_v59, val_main_v58, val_main_v57, val_main_v56, val_main_v55, val_main_v54, val_main_v53, val_main_v52, val_main_v51, val_main_v50, val_main_v49, val_main_v48, val_main_v47, val_main_cst_8, val_main_cst_9, val_main_cst_10]
  simp only [mixed_read_extra]
  rfl

end Cert.MlpRefRows

end
-- ==== Proof.MlpArrays.lean ====
module

public import proofs.«01_k».proof.Proof.MlpGrid
public import proofs.«01_k».proof.Proof.MlpRefRows

/-! The MLP call's two output arrays after the run are the channel mixer of its rows and of the extra rows. -/

@[expose] public section

noncomputable section

namespace Cert.MlpArrays
open Cert.MlpIdeal Cert.MlpIdeal.Gen Idealize.ShloMosaic Idealize.ShloMosaic.TcCoe Idealize.SL.Sem Idealize.ShloMosaic.Tactic
open Idealize.ShloMosaic.Pipeline (Dat)
open Cert.MlpGrid

variable (m : (ℓ : Loc nD τ sig) → Buf (Elt Ideal) ℓ) (c : Dev nD)

/-- The mixed rows, as the reference gives them. -/
abbrev refRows : Vec Ideal S8192x2048 .f32 := Cert.MlpRefIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4))
/-- The mixed extra rows, as the reference gives them. -/
abbrev refExtra : Vec Ideal S128x2048 .f32 := Cert.MlpRefIdeal.Read.val_main_v59 (F := Ideal) (m ((c : Thread nD τ).loc main_arg1)) (m ((c : Thread nD τ).loc main_arg2)) (m ((c : Thread nD τ).loc main_arg3)) (m ((c : Thread nD τ).loc main_arg4)) (m ((c : Thread nD τ).loc main_arg5))

theorem rows_array : (dats m 0 c).arrAt 6 cfg0.N = refRows m c := by
  refine (dats m 0 c).arrAt_eq_of_covers 6 _ (by decide +kernel) fun t hf y => ?_
  have ht : t.val % 4 = 3 := of_decide_eq_true ((flush6 t).symm.trans hf)
  obtain ⟨i, rfl⟩ : ∃ i : Fin 16, t = pt i 3 := ⟨⟨t.val / 4, by have := lt64 t; omega⟩, Fin.ext (by rw [pt_val]; show t.val = 4 * (t.val / 4) + 3; omega)⟩
  have e : (dats m 0 c).flushed 6 (pt i 3) = (kept m c i 3).rows := after0_6 m c (pt i 3)
  refine Eq.trans (show _ = (dats m 0 c).flushed 6 (pt i 3) y from rfl) ((congrFun e y).trans ?_)
  have key : ∀ (q : Fin 512) (n : Fin 2048), (kept m c i 3).rows (ix2 q n) = refRows m c (ix2 (rowAt i q) n) := fun q n =>
    (rows_last m c i q n).trans (MlpRefRows.out_read _ _ _ _ _ (rowAt i q) n).symm
  have emb : ∀ (q : Fin 512) (n : Fin 2048), ((cfg0.win 6).blk (pt i 3)).view.emb (ix2 q n) = ix2 (rowAt i q) n := fun q n => by
    have hi := congrFun (idx (pt i 3)).2.2.2.2.2.2.1
    have h : (pt i 3).val / 4 = i.val := by rw [pt_val]; show (4 * i.val + 3) / 4 = i.val; omega
    refine funext fun (ax : Fin 2) => Fin.ext ?_
    match ax with
    | 0 => show win0_6.index (pt i 3) 0 * 512 + 1 * q.val = 512 * i.val + q.val; rw [hi 0]; show (pt i 3).val / 4 * 512 + _ = _; rw [h]; omega
    | 1 => show win0_6.index (pt i 3) 1 * 2048 + 1 * n.val = n.val; rw [hi 1]; show 0 * 2048 + _ = _; omega
  exact (congrArg (kept m c i 3).rows (eq_ix2 (n0 := 512) (n1 := 2048) y)).trans
    ((key (y 0 : Fin 512) (y 1 : Fin 2048)).trans (congrArg (refRows m c)
      ((emb (y 0 : Fin 512) (y 1 : Fin 2048)).symm.trans (congrArg ((cfg0.win 6).blk (pt i 3)).view.emb (eq_ix2 (n0 := 512) (n1 := 2048) y).symm))))

theorem extra_array : (dats m 0 c).arrAt 7 cfg0.N = refExtra m c := by
  refine (dats m 0 c).arrAt_eq_of_covers 7 _ (by decide +kernel) fun t hf y => ?_
  have ht : t.val = 63 := of_decide_eq_true ((flush7 t).symm.trans hf)
  have e : (dats m 0 c).flushed 7 t = (kept m c 0 3).extra :=
    (after0_7 m c t).trans ((congrArg (fun n => (upto m c n).extra) (by omega : t.val + 1 = 4 + 60)).trans (extra_kept m c 60 (by omega)))
  refine Eq.trans (show _ = (dats m 0 c).flushed 7 t y from rfl) ((congrFun e y).trans ?_)
  have key : ∀ (q : Fin 128) (n : Fin 2048), (kept m c 0 3).extra (ix2 q n) = refExtra m c (ix2 q n) := fun q n =>
    (extra_last m c q n).trans (MlpRefRows.out_read_extra _ _ _ _ _ q n).symm
  have emb : ∀ (q : Fin 128) (n : Fin 2048), ((cfg0.win 7).blk t).view.emb (ix2 q n) = ix2 q n := fun q n => by
    have hi := congrFun (idx t).2.2.2.2.2.2.2
    refine funext fun (ax : Fin 2) => Fin.ext ?_
    match ax with
    | 0 => show win0_7.index t 0 * 128 + 1 * q.val = q.val; rw [hi 0]; show 0 * 128 + _ = _; omega
    | 1 => show win0_7.index t 1 * 2048 + 1 * n.val = n.val; rw [hi 1]; show 0 * 2048 + _ = _; omega
  exact (congrArg (kept m c 0 3).extra (eq_ix2 (n0 := 128) (n1 := 2048) y)).trans
    ((key (y 0 : Fin 128) (y 1 : Fin 2048)).trans (congrArg (refExtra m c)
      ((emb (y 0 : Fin 128) (y 1 : Fin 2048)).symm.trans (congrArg ((cfg0.win 7).blk t).view.emb (eq_ix2 (n0 := 128) (n1 := 2048) y).symm))))

end Cert.MlpArrays

end
-- ==== Proof.MlpFrames.lean ====
module

public import proofs.«01_k».proof.Proof.MlpRun
public import proofs.«01_k».proof.Proof.Gen.Mlp.Frame

/-! The MLP call's runs: what its arrays hold at the end, at any reading of the floats, and the frames at bits and at the ideal. -/

@[expose] public section

noncomputable section

namespace Cert.MlpIdeal.Gen
open Idealize.ShloMosaic Idealize.ShloMosaic.TcCoe Idealize.SL.Sem

section
variable {F : FTy → Type} [FloatOps F]
variable (m : (ℓ : Loc nD τ sig) → Buf (Elt F) ℓ) (ρ : Dev nD → PrngReg)

/-- The run ends with the two results' arrays named, the arguments as they were, and the counters at zero. -/
theorem runs : θ_run defs (onTc (τ := τ) (main (F := F))) ⟨m, fun _ => 0, ρ⟩ (fun r => (∀ c : Dev nD,
      r.2.mem ((c.tc : Thread nD τ).loc main_v0_0) = (dats m 0 c).arrAt 6 cfg0.N
      ∧ r.2.mem ((c.tc : Thread nD τ).loc main_v0_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 6, (h.1 c).1 7,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).1 5).trans (((dats m 0 c).arrAt_in 5 rfl _).trans ((A_eq m c 5).trans (V_main_arg5 m c)))⟩, h.2⟩) (run_main_quiescent m ρ)

/-- The arguments' part of the run. -/
theorem keeps : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2.2, h.2⟩) (runs m ρ)

end

end Cert.MlpIdeal.Gen

namespace Cert.MlpBits
open Idealize.ShloMosaic Idealize.ShloMosaic.TcCoe Idealize.SL.Sem

variable {F : FTy → Type} [FloatOps F]

/-- The program before the idealization is the same text, so its signature, its main function and its labels' bodies are the same terms. -/
theorem sig_eq : Cert.Mlp.sig = Cert.MlpIdeal.sig := rfl
theorem main_eq : Cert.Mlp.main (F := F) = Cert.MlpIdeal.main (F := F) := rfl
theorem labels_eq : Cert.Mlp.Λ₀ = Cert.MlpIdeal.Λ₀ := rfl
theorem cfgs_eq : Cert.Mlp.pcfgs (F := F) = Cert.MlpIdeal.pcfgs (F := F) := rfl
theorem body_eq : @Cert.Mlp.cc0_mlp F _ Cert.Mlp.Gen.facts = @Cert.MlpIdeal.cc0_mlp F _ Cert.MlpIdeal.Gen.facts := rfl
theorem bodies_eq : Cert.Mlp.defs₀ (F := F) = Cert.MlpIdeal.defs₀ (F := F) :=
  congrArg Defs.onTc (funext fun (l : Fin 1) => match l with
    | 0 => rfl)
theorem defs_eq : Cert.Mlp.defs (F := F) = Cert.MlpIdeal.defs (F := F) := congrArg (Pipeline.defs (Cert.MlpIdeal.pcfgs (F := F))) bodies_eq

/-- The same run, of the program before the idealization. -/
theorem keeps (m : (ℓ : Loc Cert.Mlp.nD Cert.Mlp.τ Cert.Mlp.sig) → Buf (Elt F) ℓ) (ρ : Dev Cert.Mlp.nD → PrngReg) :
    θ_run (Cert.Mlp.defs (F := F)) (onTc (τ := Cert.Mlp.τ) (Cert.Mlp.main (F := F))) ⟨m, fun _ => 0, ρ⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0) :=
  Eq.mpr (congrArg (fun D => θ_run D (onTc (τ := Cert.MlpIdeal.τ) (Cert.MlpIdeal.main (F := F))) ⟨m, fun _ => 0, ρ⟩ _) defs_eq)
    (Cert.MlpIdeal.Gen.keeps m ρ)

end Cert.MlpBits

end
-- ==== Proof.InStores.lean ====
module

public import proofs.«01_k».proof.Proof.MlpSpec
public import proofs.«01_k».proof.Proof.Gen.InPIdeal.Skeleton

/-! What each store of the projection call writes, read at an index. -/

@[expose] public section

set_option maxHeartbeats 1000000

noncomputable section

namespace Cert.InSpec
open Idealize.ShloMosaic
open scoped BigOperators

/-- A row against a column of a weight. -/
def dense (h u : Fin 2048 → EReal) : EReal := ∑ k : Fin 2048, h k * u k

/-- The logarithm of one plus an exponential, in the form that does not overflow. -/
def soft (v : EReal) : EReal := max v 0 + Ideal.log (1 + Ideal.exp (-(max v (-v))))

/-- A head's decay, from its projection `a`, its rate's logarithm and its shift. -/
def decay (a rate shift : EReal) : EReal := -Ideal.exp rate * soft (a + shift)

/-- A head's mixing weight. -/
def share (b : EReal) : EReal := Ideal.div 1 (1 + Ideal.exp (-b))

end Cert.InSpec

namespace Cert.InStores
open Cert.InPIdeal Cert.InPIdeal.Gen Idealize.ShloMosaic Idealize.ShloMosaic.TcCoe
open scoped BigOperators

variable (x : Vec Ideal S1024x2048 .f32) (w : Vec Ideal S1x2048 .f32) (h : Vec Ideal S1024x2048 .bf16) (wa : Vec Ideal S2048x1024 .bf16)
  (wc : Vec Ideal S2048x128 .bf16) (al dt : Vec Ideal S1x128 .f32) (q : Fin 1024)

theorem norm_read (n : Fin 2048) : k0_pay2 (F := Ideal) x w (ix2 q n) = MlpSpec.rms (fun k => x (ix2 q k)) (fun k => w (ix2 0 k)) n := by
  pointwise [k0_pay2, k0_pay1]
  rfl

theorem first_read (n : Fin 1024) : k0_pay3 (F := Ideal) x w wa (ix2 q n)
    = InSpec.dense (fun k => k0_pay2 (F := Ideal) x w (ix2 q k)) (fun k => wa (ix2 k n)) := by
  simp only [norm_read]
  pointwise [k0_pay3, k0_pay1]
  rfl

theorem further_read (n : Fin 1024) : k0_pay4 (F := Ideal) h wa (ix2 q n) = InSpec.dense (fun k => h (ix2 q k)) (fun k => wa (ix2 k n)) := by
  pointwise [k0_pay4]
  rfl

theorem tail_read (n : Fin 1024) : k0_pay5 (F := Ideal) wa h (ix2 q n) = InSpec.dense (fun k => h (ix2 q k)) (fun k => wa (ix2 k n)) := by
  pointwise [k0_pay5]
  rfl

/-- The lanes below the heads' count. -/
theorem low_lane : ∀ n : Fin 128, IntOp.cmpi CmpIPredicate.slt (BitVec.ofNat 32 n.val) 8#32 = if n.val < 8 then 1#1 else 0#1 := by decide +kernel

theorem gates_read (n : Fin 128) : k0_pay6 (F := Ideal) wc h al dt (ix2 q n)
    = if n.val < 8 then InSpec.decay (InSpec.dense (fun k => h (ix2 q k)) (fun k => wc (ix2 k n))) (al (ix2 0 n)) (dt (ix2 0 n))
      else InSpec.share (InSpec.dense (fun k => h (ix2 q k)) (fun k => wc (ix2 k n))) := by
  pointwise [k0_pay6]
  rw [low_lane n]
  simp only [zero_sub]
  by_cases hn : n.val < 8
  · rw [if_pos hn, if_pos hn]
    rfl
  · rw [if_neg hn, if_neg hn]
    rfl

end Cert.InStores

end
-- ==== Proof.InParts.lean ====
/- The projection call's grid: when each branch of its body is taken, the memrefs of a point, and the idle points of its three results. -/
module

public import proofs.«01_k».proof.Proof.Gen.InPIdeal.Frame
public import proofs.«01_k».proof.Proof.Gen.InPIdeal.Skeleton
public import Idealize.ShloMosaic.Lib.Pipeline.TableIdle

@[expose] public section

set_option maxRecDepth 16384

noncomputable section

namespace Cert.InPIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Branch 0 of the body: the first column tile, where the rows are normed. -/
abbrev cond0_0 (i : grid0.Coords) : Prop := k0_cond1 i = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- Branch 1 of the body: the further column tiles of the wide projection. -/
abbrev cond0_1 (i : grid0.Coords) : Prop := k0_cond2 i = 1#1
theorem hcond0_1 : ∀ t : Fin cfg0.N, cond0_1 (grid0.coords t) ↔ (1 ≤ t.val % 5 ∧ t.val % 5 ≤ 3) :=
  (by decide +kernel : ∀ t : Fin grid0.N, cond0_1 (grid0.coords t) ↔ (1 ≤ t.val % 5 ∧ t.val % 5 ≤ 3))

/-- Branch 2 of the body: the last step of a row of the grid, with the two narrow projections. -/
abbrev cond0_2 (i : grid0.Coords) : Prop := k0_cond3 i = 1#1
theorem hcond0_2 : ∀ t : Fin cfg0.N, cond0_2 (grid0.coords t) ↔ t.val % 5 = 4 :=
  (by decide +kernel : ∀ t : Fin grid0.N, cond0_2 (grid0.coords t) ↔ t.val % 5 = 4)

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x128 .f32 := win0_9.stage (cfg0.slots t 9)
abbrev hs0_9 (t : Fin cfg0.N) : (ms0_9 t).IsWhole := hstage0_9 ((cfg0.slots t 9).cast nbuf0_9)
/-- The normed rows of a tile, kept between the points of a row of the grid. -/
abbrev scM0_0 : Memref sig .tc .vmem S1024x2048 .bf16 := Memref.whole cc0_scratch0

/-- The region's invariant with the scratch buffer as a memref. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- The wide projection is stored into at every point but the last of a row of the grid. -/
theorem live7 : ∀ t : Fin cfg0.N, cfg0.idle 7 (grid0.coords t) = decide (t.val % 5 = 4) := by decide +kernel
/-- The narrow ones at the last only. -/
theorem live8 : ∀ t : Fin cfg0.N, cfg0.idle 8 (grid0.coords t) = !decide (t.val % 5 = 4) := by decide +kernel
theorem live9 : ∀ t : Fin cfg0.N, cfg0.idle 9 (grid0.coords t) = !decide (t.val % 5 = 4) := by decide +kernel
theorem flush7 : ∀ t : Fin cfg0.N, (cfg0.win 7).flush t = !decide (t.val % 5 = 3) := by decide +kernel
theorem flush8 : ∀ t : Fin cfg0.N, (cfg0.win 8).flush t = decide (t.val % 5 = 4) := by decide +kernel
theorem flush9 : ∀ t : Fin cfg0.N, (cfg0.win 9).flush t = decide (t.val % 5 = 4) := by decide +kernel

/-- Whether a result's buffer holds nothing of the body's since the last write-back, before point `n`. -/
def freshTab7 : ℕ → Bool := fun n => !decide (n % 5 = 4)
theorem fresh7 (t : Fin cfg0.N) : cfg0.fresh 7 t.val = freshTab7 t.val :=
  Pipeline.Cfg.fresh_tab cfg0 7 freshTab7 rfl (by decide +kernel) t.val (Nat.le_of_lt t.isLt)
def freshTab8 : ℕ → Bool := fun n => true
theorem fresh8 (t : Fin cfg0.N) : cfg0.fresh 8 t.val = true :=
  Pipeline.Cfg.fresh_tab cfg0 8 freshTab8 rfl (by decide +kernel) t.val (Nat.le_of_lt t.isLt)
theorem fresh9 (t : Fin cfg0.N) : cfg0.fresh 9 t.val = true :=
  Pipeline.Cfg.fresh_tab cfg0 9 freshTab8 rfl (by decide +kernel) t.val (Nat.le_of_lt t.isLt)

end Cert.InPIdeal.Gen

end
-- ==== Proof.InSteps.lean ====
/- What the projection call's body does to its buffers at one point, as a triple whose contents before and after are named. -/
module

public import proofs.«01_k».proof.Proof.InParts
public import Idealize.ShloMosaic.Lib.VecWindow

@[expose] public section

set_option maxRecDepth 16384

noncomputable section

namespace Cert.InPIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the body keeps between points: the three results' buffers and the normed rows. -/
structure Kept (F : FTy → Type) where
  proj : Vec F S1024x1024 .f32
  tail : Vec F S1024x1024 .f32
  gates : Vec F S1024x128 .f32
  h : Vec F S1024x2048 .bf16

/-- The body, run at a point on whole buffers, takes what is kept from `p` to `q` and leaves its operands. -/
def Steps (c : Dev nD) (i : grid0.Coords) (x0 : Vec F S1024x2048 .f32) (x1 : Vec F S1x2048 .f32) (x2 : Vec F S2048x1024 .bf16) (x3 : Vec F S2048x1024 .bf16) (x4 : Vec F S2048x128 .bf16) (x5 : Vec F S1x128 .f32) (x6 : Vec F S1x128 .f32) (p q : Kept F) : Prop :=
  ∀ (arg2 : Memref sig .tc .vmem S1024x2048 .f32) (harg2 : arg2.IsWhole)
    (arg3 : Memref sig .tc .vmem S1x2048 .f32) (harg3 : arg3.IsWhole)
    (arg4 : Memref sig .tc .vmem S2048x1024 .bf16) (harg4 : arg4.IsWhole)
    (arg5 : Memref sig .tc .vmem S2048x1024 .bf16) (harg5 : arg5.IsWhole)
    (arg6 : Memref sig .tc .vmem S2048x128 .bf16) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1024x1024 .f32) (harg9 : arg9.IsWhole)
    (arg10 : Memref sig .tc .vmem S1024x1024 .f32) (harg10 : arg10.IsWhole)
    (arg11 : Memref sig .tc .vmem S1024x128 .f32) (harg11 : arg11.IsWhole)
    (arg12 : Memref sig .tc .vmem S1024x2048 .bf16) (harg12 : arg12.IsWhole) (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare p.proj ∗ owns (c : Thread nD τ) arg10 fullShare p.tail ∗ owns (c : Thread nD τ) arg11 fullShare p.gates ∗ owns (c : Thread nD τ) arg12 fullShare p.h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare q.proj ∗ owns (c : Thread nD τ) arg10 fullShare q.tail ∗ owns (c : Thread nD τ) arg11 fullShare q.gates ∗ owns (c : Thread nD τ) arg12 fullShare q.h) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12) K

/-- A load of a whole buffer reads what the buffer holds. -/
theorem load_whole {s : Shape} {e : EltTy} (M : Memref sig .tc .vmem s e) (hM : M.IsWhole) (x : Vec F s e) {off : Fin s.rank → ℕ}
    (inb : ∀ a, off a + s.size a ≤ s.size a) :
    M.view.readAt (Elt F) (Rect.unit (s := s) off s.size inb).toLoadRect (hM.unread x) = x := by
  rw [View.readAt_full, hM.read_unread]

/-- What is kept after a point: at the first column tile the normed rows and their first product, then a further product, and at the last
    step the two narrow products. -/
def next (i : grid0.Coords) (x0 : Vec F S1024x2048 .f32) (x1 : Vec F S1x2048 .f32) (x2 : Vec F S2048x1024 .bf16) (x3 : Vec F S2048x1024 .bf16) (x4 : Vec F S2048x128 .bf16) (x5 : Vec F S1x128 .f32) (x6 : Vec F S1x128 .f32) (p : Kept F) : Kept F where
  proj := if cond0_0 i then k0_pay3 x0 x1 x2 else if cond0_1 i then k0_pay4 p.h x2 else p.proj
  tail := if cond0_2 i then k0_pay5 x3 p.h else p.tail
  gates := if cond0_2 i then k0_pay6 x4 p.h x5 x6 else p.gates
  h := if cond0_0 i then k0_pay2 x0 x1 else p.h

set_option maxHeartbeats 8000000 in
/-- The body's triple: exactly one of the three cases holds. -/
theorem steps (c : Dev nD) (i : grid0.Coords)
    (hk : cond0_0 i ∧ ¬cond0_1 i ∧ ¬cond0_2 i ∨ ¬cond0_0 i ∧ cond0_1 i ∧ ¬cond0_2 i ∨ ¬cond0_0 i ∧ ¬cond0_1 i ∧ cond0_2 i)
    (x0 : Vec F S1024x2048 .f32) (x1 : Vec F S1x2048 .f32) (x2 : Vec F S2048x1024 .bf16) (x3 : Vec F S2048x1024 .bf16) (x4 : Vec F S2048x128 .bf16) (x5 : Vec F S1x128 .f32) (x6 : Vec F S1x128 .f32) (p : Kept F) :
    Steps c i x0 x1 x2 x3 x4 x5 x6 p (next i x0 x1 x2 x3 x4 x5 x6 p) := by
  intro arg2 harg2 arg3 harg3 arg4 harg4 arg5 harg5 arg6 harg6 arg7 harg7 arg8 harg8 arg9 harg9 arg10 harg10 arg11 harg11 arg12 harg12 E K
  simp only [cc0_in_proj_eq_skeleton]; unfold cc0_in_proj_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  rcases hk with ⟨hc0, hc1, hc2⟩ | ⟨hc0, hc1, hc2⟩ | ⟨hc0, hc1, hc2⟩
  all_goals
    sl_exec (disch := first | sl_exact hc0 | sl_exact hc1 | sl_exact hc2)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; exact harg8.read_unread _
    isplitl [H7]
    · iexists _; isplitr; swap; · iexact H7
      ipureintro; first | rw [View.read_writes_full] | rw [harg9.read_unread]
      repeat rw [load_whole]
      simp only [next, cond0_0, cond0_1, cond0_2, hc0, hc1, hc2, if_true, if_false]
    isplitl [H8]
    · iexists _; isplitr; swap; · iexact H8
      ipureintro; first | rw [View.read_writes_full] | rw [harg10.read_unread]
      repeat rw [load_whole]
      simp only [next, cond0_0, cond0_1, cond0_2, hc0, hc1, hc2, if_true, if_false]
    isplitl [H9]
    · iexists _; isplitr; swap; · iexact H9
      ipureintro; first | rw [View.read_writes_full] | rw [harg11.read_unread]
      repeat rw [load_whole]
      simp only [next, cond0_0, cond0_1, cond0_2, hc0, hc1, hc2, if_true, if_false]
    iexists _; isplitr; swap; · iexact H10
    ipureintro; first | rw [View.read_writes_full] | rw [harg12.read_unread]
    repeat rw [load_whole]
    simp only [next, cond0_0, cond0_1, cond0_2, hc0, hc1, hc2, if_true, if_false]

end Cert.InPIdeal.Gen

end
-- ==== Proof.InRun.lean ====
/- The projection call's run: what is kept before each point, the pipeline's proof data, the body's obligation and the launch. -/
module

public import proofs.«01_k».proof.Proof.InSteps

@[expose] public section

set_option maxRecDepth 16384

noncomputable section

namespace Cert.InPIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is kept before point `n` (before the first point nothing is: any value stands there). -/
def upto (c : Dev nD) : ℕ → Kept F
  | 0 => ⟨(ms0_7 ⟨0, by decide⟩).view.read (Elt F) (ms0_7 ⟨0, by decide⟩).view.junk, (ms0_8 ⟨0, by decide⟩).view.read (Elt F) (ms0_8 ⟨0, by decide⟩).view.junk,
      (ms0_9 ⟨0, by decide⟩).view.read (Elt F) (ms0_9 ⟨0, by decide⟩).view.junk, scM0_0.view.read (Elt F) scM0_0.view.junk⟩
  | n + 1 => if hn : n < cfg0.N then
      next (grid0.coords ⟨n, hn⟩) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (upto c n)
    else upto c n

theorem upto_succ (c : Dev nD) (t : Fin cfg0.N) :
    upto m c (t.val + 1) = next (grid0.coords t) (iblk m c 0 t) (iblk m c 1 t) (iblk m c 2 t) (iblk m c 3 t) (iblk m c 4 t) (iblk m c 5 t) (iblk m c 6 t) (upto m c t.val) := by
  rw [upto, dif_pos t.isLt]

/-- The region's invariant before position `n`: at first the normed rows' buffer at anything, then at what is kept. -/
def PhiK (c : Dev nD) (n : ℕ) : sProp 𝕄 :=
  if n = 0 then Pipeline.ΦA spec0 c
  else iprop(owns (c : Thread nD τ) scM0_0 fullShare (upto m c n).h ∗ (∃ r, prngReg c r))

/-- The proof data: operands at their blocks, the three results at what is kept after the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (upto m c (t.val + 1)).proj
    | ⟨8, _⟩ => (upto m c (t.val + 1)).tail
    | ⟨9, _⟩ => (upto m c (t.val + 1)).gates
  Φ t := PhiK m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (upto m c (t.val + 1)).proj := by dsimp only [dats]
theorem after0_8 (c : Dev nD) (t : Fin cfg0.N) : (dats m 0 c).after 8 t = (upto m c (t.val + 1)).tail := by dsimp only [dats]
theorem after0_9 (c : Dev nD) (t : Fin cfg0.N) : (dats m 0 c).after 9 t = (upto m c (t.val + 1)).gates := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- At the last step of a row of the grid the wide projection's buffer stays. -/
theorem upto_proj (c : Dev nD) (t : Fin cfg0.N) (h : t.val % 5 = 4) : (upto m c (t.val + 1)).proj = (upto m c t.val).proj := by
  rw [upto_succ]
  simp only [next, if_neg (mt (hcond0_0 t).mp (by omega : ¬t.val % 5 = 0)), if_neg (mt (hcond0_1 t).mp (by omega : ¬(1 ≤ t.val % 5 ∧ t.val % 5 ≤ 3)))]

/-- Before a point the wide projection's buffer holds anything, or, at the last step of a row of the grid, what the point before left. -/
theorem before0_7 (c : Dev nD) (t : Fin cfg0.N) (d) :
    (dats m 0 c).before 7 t d = if t.val % 5 = 4 then (upto m c t.val).proj else d := by
  rw [Dat.before_out_traj _ 7 rfl (fun _ _ => rfl) (fun t hz h _ => by
    rw [live7 t] at h
    have h4 : t.val % 5 = 4 := by simpa using h
    rw [after0_7, after0_7, upto_proj m c t h4]
    exact congrArg (fun n => (upto m c n).proj) (by show t.val = t.val - 1 + 1; omega)) t.val t rfl d, fresh7]
  unfold freshTab7
  by_cases h : t.val % 5 = 4
  · rw [if_pos h, if_neg (by simpa using h), after0_7]
    exact congrArg (fun n => (upto m c n).proj) (by show t.val - 1 + 1 = t.val; omega)
  · rw [if_neg h, if_pos (by simpa using h)]

/-- The narrow results' buffers hold anything before every point. -/
theorem before0_8 (c : Dev nD) (t : Fin cfg0.N) (d) : (dats m 0 c).before 8 t d = d := by
  rw [Dat.before_out_traj _ 8 rfl (fun _ _ => rfl) (fun t hz _ h => by rw [fresh8 t] at h; exact absurd h.symm Bool.false_ne_true) t.val t rfl d, fresh8, if_pos rfl]
theorem before0_9 (c : Dev nD) (t : Fin cfg0.N) (d) : (dats m 0 c).before 9 t d = d := by
  rw [Dat.before_out_traj _ 9 rfl (fun _ _ => rfl) (fun t hz _ h => by rw [fresh9 t] at h; exact absurd h.symm Bool.false_ne_true) t.val t rfl d, fresh9, if_pos rfl]

/-- A buffer the body leaves as the proof data says is handed back as the obligation asks. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The wide projection's buffer, idle or not, is handed back at what is kept. -/
theorem leaves7 (c : Dev nD) (t : Fin cfg0.N) :
    (owns (c : Thread nD τ) (ms0_7 t) fullShare (upto m c (t.val + 1)).proj : sProp 𝕄) ⊢ (dats m 0 c).leavesExact 7 t := by
  by_cases h4 : t.val % 5 = 4
  · unfold Dat.leavesExact
    rw [show cfg0.idle 7 (cfg0.grid.coords t) = true from (live7 t).trans (by simpa using h4),
      show (cfg0.win 7).flush t = true from (flush7 t).trans (by simp; omega), after0_7]
  · rw [leaves_live m c 7 t (by rw [live7 t]; simpa using h4), after0_7]

/-- A narrow result's buffer is handed back at what is kept at the last step, and at anything before it. -/
theorem leaves8 (c : Dev nD) (t : Fin cfg0.N) (x : Vec F S1024x1024 .f32) (h : t.val % 5 = 4 → x = (upto m c (t.val + 1)).tail) :
    (owns (c : Thread nD τ) (ms0_8 t) fullShare x : sProp 𝕄) ⊢ (dats m 0 c).leavesExact 8 t := by
  by_cases h4 : t.val % 5 = 4
  · rw [leaves_live m c 8 t (by rw [live8 t]; simpa using h4), after0_8, h h4]
  · unfold Dat.leavesExact
    rw [show cfg0.idle 8 (cfg0.grid.coords t) = true from (live8 t).trans (by simpa using h4),
      show (cfg0.win 8).flush t = false from (flush8 t).trans (by simpa using h4)]
    simp only [before0_8]
    iintro H
    iexists x
    iexact H
theorem leaves9 (c : Dev nD) (t : Fin cfg0.N) (x : Vec F S1024x128 .f32) (h : t.val % 5 = 4 → x = (upto m c (t.val + 1)).gates) :
    (owns (c : Thread nD τ) (ms0_9 t) fullShare x : sProp 𝕄) ⊢ (dats m 0 c).leavesExact 9 t := by
  by_cases h4 : t.val % 5 = 4
  · rw [leaves_live m c 9 t (by rw [live9 t]; simpa using h4), after0_9, h h4]
  · unfold Dat.leavesExact
    rw [show cfg0.idle 9 (cfg0.grid.coords t) = true from (live9 t).trans (by simpa using h4),
      show (cfg0.win 9).flush t = false from (flush9 t).trans (by simpa using h4)]
    simp only [before0_9]
    iintro H
    iexists x
    iexact H

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- The invariant before a point gives the normed rows' buffer at some contents, which agree with what is kept except at the first point. -/
theorem Phi_open (c : Dev nD) (t : Fin cfg0.N) :
    (dats m 0 c).Φ t.castSucc ⊢ iprop(∃ a, ⌜t.val ≠ 0 → a = (upto m c t.val).h⌝ ∗ owns (c : Thread nD τ) scM0_0 fullShare a ∗ (∃ r, prngReg c r)) := by
  rw [show (dats m 0 c).Φ t.castSucc = PhiK m c t.val from rfl]
  unfold PhiK
  by_cases h : t.val = 0
  · rw [if_pos h, PhiA0_eq]
    iintro ⟨⟨%a, Ha⟩, Hg⟩
    iexists a
    isplitr; · ipureintro; exact fun hz => absurd h hz
    isplitl [Ha]; · iexact Ha
    iexact Hg
  · rw [if_neg h]
    iintro ⟨Ha, Hg⟩
    iexists _
    isplitr; swap
    · isplitl [Ha]; · iexact Ha
      iexact Hg
    ipureintro; exact fun _ => rfl

/-- What the body finds steps to what is kept after the point, up to the narrow results before the last step. -/
theorem next_found (c : Dev nD) (t : Fin cfg0.N) (d7 d8 : Vec F S1024x1024 .f32) (d9 : Vec F S1024x128 .f32) (a : Vec F S1024x2048 .bf16)
    (h : t.val ≠ 0 → a = (upto m c t.val).h) (q : Kept F)
    (hq : next (grid0.coords t) (iblk m c 0 t) (iblk m c 1 t) (iblk m c 2 t) (iblk m c 3 t) (iblk m c 4 t) (iblk m c 5 t) (iblk m c 6 t) ⟨if t.val % 5 = 4 then (upto m c t.val).proj else d7, d8, d9, a⟩ = q) :
    q.proj = (upto m c (t.val + 1)).proj ∧ q.h = (upto m c (t.val + 1)).h
      ∧ (t.val % 5 = 4 → q.tail = (upto m c (t.val + 1)).tail) ∧ (t.val % 5 = 4 → q.gates = (upto m c (t.val + 1)).gates) := by
  subst hq
  rw [upto_succ]
  by_cases h0 : t.val % 5 = 0
  · have c0 := (hcond0_0 t).mpr h0
    simp only [next, if_pos c0, true_and]
    exact ⟨fun h4 => by omega, fun h4 => by omega⟩
  · obtain rfl := h (by omega)
    have c0 := mt (hcond0_0 t).mp h0
    by_cases h4 : t.val % 5 = 4
    · have c2 := (hcond0_2 t).mpr h4
      simp only [next, if_neg c0, if_pos c2, if_pos h4, true_and, implies_true, and_self]
    · have c1 := (hcond0_1 t).mpr (by omega)
      simp only [next, if_neg c0, if_pos c1, true_and]
      exact ⟨fun h => absurd h h4, fun h => absurd h h4⟩

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiK m c (t.val + 1) from rfl]
  unfold PhiK; rw [if_neg (Nat.succ_ne_zero _)]
  rw [leaves_live m c 0 t (rfl), after0_0]
  rw [leaves_live m c 1 t (rfl), after0_1]
  rw [leaves_live m c 2 t (rfl), after0_2]
  rw [leaves_live m c 3 t (rfl), after0_3]
  rw [leaves_live m c 4 t (rfl), after0_4]
  rw [leaves_live m c 5 t (rfl), after0_5]
  rw [leaves_live m c 6 t (rfl), after0_6]
  have hk : cond0_0 (grid0.coords t) ∧ ¬cond0_1 (grid0.coords t) ∧ ¬cond0_2 (grid0.coords t) ∨ ¬cond0_0 (grid0.coords t) ∧ cond0_1 (grid0.coords t) ∧ ¬cond0_2 (grid0.coords t) ∨ ¬cond0_0 (grid0.coords t) ∧ ¬cond0_1 (grid0.coords t) ∧ cond0_2 (grid0.coords t) := by
    rw [hcond0_0 t, hcond0_1 t, hcond0_2 t]; omega
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HP := Phi_open m c t $$ HP
  icases HP with ⟨%a, %hab, Ha, Hg⟩
  obtain ⟨q, hq⟩ : ∃ q, next (grid0.coords t) (iblk m c 0 t) (iblk m c 1 t) (iblk m c 2 t) (iblk m c 3 t) (iblk m c 4 t) (iblk m c 5 t) (iblk m c 6 t) ⟨if t.val % 5 = 4 then (upto m c t.val).proj else d7, d8, d9, a⟩ = q := ⟨_, rfl⟩
  obtain ⟨hp, hh, h8, h9⟩ := next_found m c t d7 d8 d9 a hab q hq
  iapply (steps c (grid0.coords t) hk (iblk m c 0 t) (iblk m c 1 t) (iblk m c 2 t) (iblk m c 3 t) (iblk m c 4 t) (iblk m c 5 t) (iblk m c 6 t)
    ⟨if t.val % 5 = 4 then (upto m c t.val).proj else d7, d8, d9, a⟩ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) Set.univ _)
  rw [hq]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Ha]; · iexact Ha
  iintro ⟨H0, H1, H2, H3, H4, H5, H6, H7, H8, H9, Ha⟩
  rw [hp, hh]
  isplitl [Ha Hg]
  · isplitl [Ha]; · iexact Ha
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7 m c t); iexact H7
  isplitl [H8]; · iapply (leaves8 m c t _ h8); iexact H8
  iapply (leaves9 m c t _ h9); iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiK m c 0 from rfl]
  unfold PhiK; rw [if_pos rfl]

theorem hout (c : Dev nD) : (dats m 0 c).Φ (Fin.last cfg0.N) ⊢ Pipeline.ΦA spec0 c := by
  rw [show (dats m 0 c).Φ (Fin.last cfg0.N) = PhiK m c cfg0.N from rfl, PhiA0_eq]
  unfold PhiK; rw [if_neg (by have : cfg0.N = 40 := N_0; omega)]
  iintro ⟨Ha, Hg⟩
  isplitl [Ha]
  · iexists _; iexact Ha
  iexact Hg

set_option backward.isDefEq.respectTransparency.types false in
set_option maxHeartbeats 800000 in
/-- Every execution ends, with every array of the call at what the proof data says, every other buffer as the host operations after the
    call leave it, and the counters at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.InPIdeal.Gen

end
-- ==== Proof.InGrid.lean ====
module

public import proofs.«01_k».proof.Proof.InStores
public import proofs.«01_k».proof.Proof.InRun
public import Idealize.ShloMosaic.Lib.Pipeline.ValueKit.Point

/-! What the projection call keeps after each grid point, in terms of the program's arguments. -/

@[expose] public section

set_option maxHeartbeats 1000000

noncomputable section

namespace Cert.InGrid
open Cert.InPIdeal Cert.InPIdeal.Gen Idealize.ShloMosaic Idealize.ShloMosaic.TcCoe Idealize.SL.Sem Idealize.ShloMosaic.Tactic Idealize.ShloMosaic.StableHlo
open Cert.InStores Cert.InSpec
open scoped BigOperators

variable (m : (ℓ : Loc nD τ sig) → Buf (Elt Ideal) ℓ) (c : Dev nD)

theorem idx : ∀ t : Fin cfg0.N, win0_0.index t = ![t.val / 5, 0] ∧ win0_1.index t = ![0, 0] ∧ win0_2.index t = ![0, min (t.val % 5) 3] ∧
    win0_3.index t = ![0, 0] ∧ win0_4.index t = ![0, 0] ∧ win0_5.index t = ![0, 0] ∧ win0_6.index t = ![0, 0] ∧
    win0_7.index t = ![t.val / 5, min (t.val % 5) 3] ∧ win0_8.index t = ![t.val / 5, 0] ∧ win0_9.index t = ![t.val / 5, 0] := by decide +kernel

theorem lt40 (t : Fin cfg0.N) : t.val < 40 := t.2

/-- The grid point of row tile `i` and step `j`. -/
def pt (i : Fin 8) (j : Fin 5) : Fin cfg0.N := ⟨5 * i.val + j.val, by show _ < 40; omega⟩
theorem pt_val (i : Fin 8) (j : Fin 5) : (pt i j).val = 5 * i.val + j.val := rfl
theorem pt_coords (t : Fin cfg0.N) : ∃ (i : Fin 8) (j : Fin 5), t = pt i j ∧ t.val % 5 = j.val :=
  ⟨⟨t.val / 5, by have := lt40 t; omega⟩, ⟨t.val % 5, by omega⟩, Fin.ext (by rw [pt_val]; show t.val = 5 * (t.val / 5) + t.val % 5; omega), rfl⟩
theorem pt_row (i : Fin 8) (j : Fin 5) : (pt i j).val / 5 = i.val := by rw [pt_val]; omega
theorem pt_step (i : Fin 8) (j : Fin 5) : (pt i j).val % 5 = j.val := by rw [pt_val]; omega

/-- The program's arguments, by row and column. -/
abbrev nw (k : Fin 2048) : EReal := m ((c : Thread nD τ).loc main_arg1) (ix2 0 k)
abbrev wide (k : Fin 2048) (n : Fin 4096) : EReal := m ((c : Thread nD τ).loc main_arg2) (ix2 k n)
abbrev narrow (k : Fin 2048) (n : Fin 1024) : EReal := m ((c : Thread nD τ).loc main_arg3) (ix2 k n)
abbrev lanes (k : Fin 2048) (n : Fin 128) : EReal := m ((c : Thread nD τ).loc main_arg4) (ix2 k n)
abbrev xrow (r : Fin 8192) (k : Fin 2048) : EReal := m ((c : Thread nD τ).loc main_arg0) (ix2 r k)
abbrev rate (n : Fin 8) : EReal := m ((c : Thread nD τ).loc main_arg5) (ix1 n)
abbrev shift (n : Fin 8) : EReal := m ((c : Thread nD τ).loc main_arg6) (ix1 n)

/-- A row of a row tile, and a column of the column tile a step is at: the last step stays at the last tile. -/
abbrev rowAt (i : Fin 8) (q : Fin 1024) : Fin 8192 := ⟨1024 * i.val + q.val, by omega⟩
abbrev colAt (j : Fin 5) (n : Fin 1024) : Fin 4096 := ⟨min j.val 3 * 1024 + n.val, by omega⟩

/-- A vector of the heads as one row of lanes, filled up behind. -/
abbrev fill (v : Vec Ideal S8 .f32) : Vec Ideal S1x128 .f32 :=
  pad S1x128 ![0, 0] ![0, 120] ![0, 0] (shapeCast S1x8 v shapeCasts_S8_S1x8) (sitofp (F := Ideal) .f32 (constantI S_ 32 0#32)) pads_S1x8_S1x128_000_01200 h_S_

/-- The two vectors of the heads reach the call filled up. -/
theorem rate_lanes : V m c main_v1 = fill (m ((c : Thread nD τ).loc main_arg5)) := by
  show StableHlo.after _ _ _ = _
  simp only [hostOps0, hostOps0_1, hostOps0_2, hostOps0_3, List.flatten_cons, List.flatten_nil, List.append_nil, List.cons_append, List.nil_append,
    TRef.binary, TRef.unary, TRef.toBuf, TRef.ofBuf, cast_eq]
  after_results_simp <;> rfl
theorem shift_lanes : V m c main_v3 = fill (m ((c : Thread nD τ).loc main_arg6)) := by
  show StableHlo.after _ _ _ = _
  simp only [hostOps0, hostOps0_1, hostOps0_2, hostOps0_3, List.flatten_cons, List.flatten_nil, List.append_nil, List.cons_append, List.nil_append,
    TRef.binary, TRef.unary, TRef.toBuf, TRef.ofBuf, cast_eq]
  after_results_simp <;> rfl

/-- A filled-up vector, read at a head's lane. -/
theorem lane_read (v : Vec Ideal S8 .f32) (n : Fin 8) : fill v (ix2 (0 : Fin 1) (⟨n.val, by omega⟩ : Fin 128)) = v (ix1 n) := by
  pointwise [fill]

section Loads
variable (i : Fin 8) (j : Fin 5)

theorem x_load (q : Fin 1024) (k : Fin 2048) : iblk m c 0 (pt i j) (ix2 q k) = xrow m c (rowAt i q) k := by
  have e := idx (pt i j)
  have h := pt_row i j
  blk_ext [iblk, V_main_arg0, e, h, Rect.idx_unit_val]
theorem nw_load (k : Fin 2048) : iblk m c 1 (pt i j) (ix2 0 k) = nw m c k := by
  have e := idx (pt i j)
  blk_ext [iblk, V_main_arg1, e, Rect.idx_unit_val]
theorem wide_load (k : Fin 2048) (n : Fin 1024) : iblk m c 2 (pt i j) (ix2 k n) = wide m c k (colAt j n) := by
  have e := idx (pt i j)
  have h := pt_step i j
  blk_ext [iblk, V_main_arg2, e, h, Rect.idx_unit_val]
theorem narrow_load (k : Fin 2048) (n : Fin 1024) : iblk m c 3 (pt i j) (ix2 k n) = narrow m c k n := by
  have e := idx (pt i j)
  blk_ext [iblk, V_main_arg3, e, Rect.idx_unit_val]
theorem lanes_load (k : Fin 2048) (n : Fin 128) : iblk m c 4 (pt i j) (ix2 k n) = lanes m c k n := by
  have e := idx (pt i j)
  blk_ext [iblk, V_main_arg4, e, Rect.idx_unit_val]
theorem rate_block (n : Fin 128) : iblk m c 5 (pt i j) (ix2 0 n) = V m c main_v1 (ix2 0 n) := by
  have e := idx (pt i j)
  blk_ext [iblk, e, Rect.idx_unit_val]
theorem shift_block (n : Fin 128) : iblk m c 6 (pt i j) (ix2 0 n) = V m c main_v3 (ix2 0 n) := by
  have e := idx (pt i j)
  blk_ext [iblk, e, Rect.idx_unit_val]
theorem rate_load (n : Fin 8) : iblk m c 5 (pt i j) (ix2 0 ⟨n.val, by omega⟩) = rate m c n := by
  rw [rate_block, rate_lanes]; exact lane_read _ n
theorem shift_load (n : Fin 8) : iblk m c 6 (pt i j) (ix2 0 ⟨n.val, by omega⟩) = shift m c n := by
  rw [shift_block, shift_lanes]; exact lane_read _ n

end Loads

/-- What is kept after the point of row tile `i` and step `j`. -/
abbrev kept (i : Fin 8) (j : Fin 5) : Kept Ideal := upto m c ((pt i j).val + 1)

variable (i : Fin 8)

theorem at_first : cond0_0 (grid0.coords (pt i 0)) := (hcond0_0 _).mpr (pt_step i 0)
theorem not_first (j : Fin 5) (hj : 1 ≤ j.val) : ¬cond0_0 (grid0.coords (pt i j)) := mt (hcond0_0 _).mp (by rw [pt_step]; omega)
theorem at_further (j : Fin 5) (hj : 1 ≤ j.val) (hl : j.val ≤ 3) : cond0_1 (grid0.coords (pt i j)) := (hcond0_1 _).mpr (by rw [pt_step]; exact ⟨hj, hl⟩)
theorem not_further : ¬cond0_1 (grid0.coords (pt i 4)) := mt (hcond0_1 _).mp (by rw [pt_step]; show ¬(1 ≤ 4 ∧ 4 ≤ 3); omega)
theorem at_last : cond0_2 (grid0.coords (pt i 4)) := (hcond0_2 _).mpr (pt_step i 4)

/-- A point starts from what the step before left. -/
theorem before (j j' : Fin 5) (h : j.val = j'.val + 1) : upto m c (pt i j).val = kept m c i j' :=
  congrArg (upto m c) (by rw [pt_val, pt_val]; omega)

/-- The norm of the row tile's rows. -/
abbrev normed (q : Fin 1024) : Fin 2048 → EReal := MlpSpec.rms (xrow m c (rowAt i q)) (nw m c)

theorem norm_first (q : Fin 1024) (n : Fin 2048) : k0_pay2 (iblk m c 0 (pt i 0)) (iblk m c 1 (pt i 0)) (ix2 q n) = normed m c i q n :=
  (norm_read _ _ q n).trans
    (congrArg₂ (fun a b => MlpSpec.rms a b n) (funext fun k => x_load m c i 0 q k) (funext fun k => nw_load m c i 0 k))

theorem h_first (q : Fin 1024) (n : Fin 2048) : (kept m c i 0).h (ix2 q n) = normed m c i q n := by
  rw [kept, upto_succ]; simp only [next, if_pos (at_first i)]; exact norm_first m c i q n

/-- The normed rows stay through a row of the grid. -/
theorem h_at (q : Fin 1024) (n : Fin 2048) (s : ℕ) : ∀ hs : s < 5, (kept m c i ⟨s, hs⟩).h (ix2 q n) = normed m c i q n := by
  induction s with
  | zero => exact fun _ => h_first m c i q n
  | succ s ih =>
    intro hs
    rw [kept, upto_succ, before m c i ⟨s + 1, hs⟩ ⟨s, by omega⟩ rfl]
    simp only [next, if_neg (not_first i ⟨s + 1, hs⟩ (Nat.succ_pos s))]
    exact ih _

/-- A product of the normed rows with a column of a weight. -/
theorem dense_at (j : Fin 5) (q : Fin 1024) (u v : Fin 2048 → EReal) (e : ∀ k, u k = v k) :
    dense (fun k => (kept m c i j).h (ix2 q k)) u = dense (normed m c i q) v :=
  congrArg₂ dense (funext fun k => h_at m c i q k j.val j.isLt) (funext e)

/-- After every step the wide result's buffer holds the column tile the step is at. -/
theorem proj_at (j : Fin 5) (q : Fin 1024) (n : Fin 1024) :
    (kept m c i j).proj (ix2 q n) = dense (normed m c i q) (fun k => wide m c k (colAt j n)) := by
  have further : ∀ (j j' : Fin 5) (h : j.val = j'.val + 1) (hl : j.val ≤ 3),
      (kept m c i j).proj (ix2 q n) = dense (normed m c i q) (fun k => wide m c k (colAt j n)) := fun j j' h hl => by
    rw [kept, upto_succ, before m c i j j' h]
    simp only [next, if_neg (not_first i j (by omega)), if_pos (at_further i j (by omega) hl)]
    exact (further_read _ _ q n).trans (dense_at m c i j' q _ _ fun k => wide_load m c i j k n)
  match j with
  | 0 =>
    rw [kept, upto_succ]; simp only [next, if_pos (at_first i)]
    exact (first_read _ _ _ q n).trans (congrArg₂ dense (funext fun k => norm_first m c i q k) (funext fun k => wide_load m c i 0 k n))
  | 1 => exact further 1 0 rfl (by decide)
  | 2 => exact further 2 1 rfl (by decide)
  | 3 => exact further 3 2 rfl (by decide)
  | 4 =>
    refine (congrFun (upto_proj m c (pt i 4) (pt_step i 4)) (ix2 q n)).trans ?_
    rw [before m c i 4 3 rfl]
    exact further 3 2 rfl (by decide)

theorem tail_last (q : Fin 1024) (n : Fin 1024) : (kept m c i 4).tail (ix2 q n) = dense (normed m c i q) (fun k => narrow m c k n) := by
  rw [kept, upto_succ, before m c i 4 3 rfl]; simp only [next, if_pos (at_last i)]
  exact (tail_read _ _ q n).trans (dense_at m c i 3 q _ _ fun k => narrow_load m c i 4 k n)

theorem gates_last (q : Fin 1024) (n : Fin 128) : (kept m c i 4).gates (ix2 q n)
    = if n.val < 8 then decay (dense (normed m c i q) (fun k => lanes m c k n)) (iblk m c 5 (pt i 4) (ix2 0 n)) (iblk m c 6 (pt i 4) (ix2 0 n))
      else share (dense (normed m c i q) (fun k => lanes m c k n)) := by
  rw [kept, upto_succ, before m c i 4 3 rfl]; simp only [next, if_pos (at_last i)]
  refine (gates_read _ _ _ _ q n).trans ?_
  rw [dense_at m c i 3 q _ _ fun k => lanes_load m c i 4 k n]

end Cert.InGrid

end
-- ==== Proof.InRefRows.lean ====
module

public import proofs.«01_k».proof.Proof.InStores
public import proofs.«01_k».proof.Proof.Gen.InRefIdeal.Read

/-! The reference's results, read at an index. -/

@[expose] public section

set_option maxHeartbeats 1000000

noncomputable section

namespace Cert.InRefRows
open Cert.InRefIdeal Cert.InRefIdeal.Gen Cert.InRefIdeal.Read Idealize.ShloMosaic Idealize.ShloMosaic.TcCoe Idealize.ShloMosaic.StableHlo
open scoped BigOperators

variable (x0 : (⟨S8192x2048, .f32⟩ : BufTy).Contents (Elt Ideal)) (x1 : (⟨S1x2048, .f32⟩ : BufTy).Contents (Elt Ideal))
  (x2 : (⟨S2048x4096, .bf16⟩ : BufTy).Contents (Elt Ideal)) (x3 : (⟨S2048x1024, .bf16⟩ : BufTy).Contents (Elt Ideal))
  (x4 : (⟨S2048x128, .bf16⟩ : BufTy).Contents (Elt Ideal)) (x5 x6 : (⟨S8, .f32⟩ : BufTy).Contents (Elt Ideal))

/-- The reference's normed row. -/
abbrev hrow (r : Fin 8192) : Fin 2048 → EReal := MlpSpec.rms (fun k => x0 (ix2 r k)) (fun k => x1 (ix2 0 k))

theorem norm_read (r : Fin 8192) (n : Fin 2048) : val_main_v11 (F := Ideal) x0 x1 (ix2 r n) = hrow x0 x1 r n := by
  pointwise [val_main_v11, val_main_v10, val_main_v9, val_main_v8, val_main_v7, val_main_v6, val_main_v5, val_main_v4, val_main_v3, val_main_v2, val_main_v1, val_main_v0, val_main_cst, val_main_cst_0, val_main_cst_1]
  rfl

theorem proj_read (r : Fin 8192) (n : Fin 4096) :
    val_main_v13 (F := Ideal) x0 x1 x2 (ix2 r n) = InSpec.dense (hrow x0 x1 r) (fun k => x2 (ix2 k n)) := by
  pointwise [val_main_v13, val_main_v12]
  simp only [norm_read]
  rfl

theorem tail_read (r : Fin 8192) (n : Fin 1024) :
    val_main_v15 (F := Ideal) x0 x1 x3 (ix2 r n) = InSpec.dense (hrow x0 x1 r) (fun k => x3 (ix2 k n)) := by
  pointwise [val_main_v15, val_main_v14]
  simp only [norm_read]
  rfl

theorem lanes_read (r : Fin 8192) (n : Fin 128) :
    val_main_v17 (F := Ideal) x0 x1 x4 (ix2 r n) = InSpec.dense (hrow x0 x1 r) (fun k => x4 (ix2 k n)) := by
  pointwise [val_main_v17, val_main_v16]
  simp only [norm_read]
  rfl

theorem share_read (r : Fin 8192) (n : Fin 8) :
    val_main_v25 (F := Ideal) x0 x1 x4 (ix2 r n) = InSpec.share (InSpec.dense (hrow x0 x1 r) (fun k => x4 (ix2 k ⟨8 + n.val, by omega⟩))) := by
  pointwise [val_main_v25, val_main_v24, val_main_v23, val_main_v22, val_main_v21, val_main_v20, val_main_v19, val_main_cst_2, val_main_cst_3]
  simp only [lanes_read]
  rfl

theorem decay_read (r : Fin 8192) (n : Fin 8) :
    val_main_v34 (F := Ideal) x0 x1 x4 x5 x6 (ix2 r n) = InSpec.decay (InSpec.dense (hrow x0 x1 r) (fun k => x4 (ix2 k ⟨n.val, by omega⟩))) (x5 (ix1 n)) (x6 (ix1 n)) := by
  pointwise [val_main_v34, val_main_v33, val_main_v32, val_main_v31, val_main_v30, val_main_v29, val_main_v28, val_main_v27, val_main_v26, val_main_v18, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_cst]
  simp only [lanes_read]
  rw [if_neg (fun h => h rfl)]
  rfl

/-- The heads' decays stand in the first lanes, their mixing weights in the next. -/
theorem gates_read (r : Fin 8192) (n : Fin 16) :
    val_main_v39 (F := Ideal) x0 x1 x4 x5 x6 (ix2 r n) = if h : n.val < 8 then val_main_v34 (F := Ideal) x0 x1 x4 x5 x6 (ix2 r ⟨n.val, h⟩)
      else val_main_v25 (F := Ideal) x0 x1 x4 (ix2 r ⟨n.val - 8, by omega⟩) := by
  unfold val_main_v39
  generalize val_main_v34 (F := Ideal) x0 x1 x4 x5 x6 = a
  generalize val_main_v25 (F := Ideal) x0 x1 x4 = b
  pointwise

end Cert.InRefRows

end
-- ==== Proof.InArrays.lean ====
module

public import proofs.«01_k».proof.Proof.InGrid
public import proofs.«01_k».proof.Proof.InRefRows

/-! The projection call's three output arrays after the run, and what the host cuts from them, are the reference's results. -/

@[expose] public section

set_option maxRecDepth 16384

noncomputable section

namespace Cert.InArrays
open Cert.InPIdeal Cert.InPIdeal.Gen Idealize.ShloMosaic Idealize.ShloMosaic.TcCoe Idealize.SL.Sem Idealize.ShloMosaic.Tactic
open Idealize.ShloMosaic.Pipeline (Dat)
open Cert.InGrid Cert.InSpec

variable (m : (ℓ : Loc nD τ sig) → Buf (Elt Ideal) ℓ) (c : Dev nD)

/-- The wide projection, the narrow one and the heads' gates, as the reference gives them. -/
abbrev refProj : Vec Ideal S8192x4096 .f32 := Cert.InRefIdeal.Read.val_main_v13 (F := Ideal) (m ((c : Thread nD τ).loc main_arg0)) (m ((c : Thread nD τ).loc main_arg1)) (m ((c : Thread nD τ).loc main_arg2))
abbrev refTail : Vec Ideal S8192x1024 .f32 := Cert.InRefIdeal.Read.val_main_v15 (F := Ideal) (m ((c : Thread nD τ).loc main_arg0)) (m ((c : Thread nD τ).loc main_arg1)) (m ((c : Thread nD τ).loc main_arg3))
abbrev refGates : Vec Ideal S8192x16 .f32 := Cert.InRefIdeal.Read.val_main_v39 (F := Ideal) (m ((c : Thread nD τ).loc main_arg0)) (m ((c : Thread nD τ).loc main_arg1)) (m ((c : Thread nD τ).loc main_arg4)) (m ((c : Thread nD τ).loc main_arg5)) (m ((c : Thread nD τ).loc main_arg6))

/-- The gates' array with all its lanes: decays below the heads' count, mixing weights from there on. -/
def allGates : Vec Ideal S8192x128 .f32 := fun y =>
  let d := dense (MlpSpec.rms (xrow m c (y 0)) (nw m c)) (fun k => lanes m c k (y 1))
  if (y 1).val < 8 then decay d (V m c main_v1 (ix2 (0 : Fin 1) (y 1 : Fin 128))) (V m c main_v3 (ix2 (0 : Fin 1) (y 1 : Fin 128))) else share d

/-- The wide projection's array. -/
theorem proj_array : (dats m 0 c).arrAt 7 cfg0.N = refProj m c := by
  refine (dats m 0 c).arrAt_eq_of_covers 7 _ (by decide +kernel) fun t hf y => ?_
  obtain ⟨i, j, rfl, hj⟩ := pt_coords t
  have e : (dats m 0 c).flushed 7 (pt i j) = (kept m c i j).proj := after0_7 m c (pt i j)
  refine Eq.trans (show _ = (dats m 0 c).flushed 7 (pt i j) y from rfl) ((congrFun e y).trans ?_)
  have key : ∀ (q : Fin 1024) (n : Fin 1024), (kept m c i j).proj (ix2 q n) = refProj m c (ix2 (rowAt i q) (colAt j n)) := fun q n =>
    (proj_at m c i j q n).trans (InRefRows.proj_read _ _ _ (rowAt i q) (colAt j n)).symm
  have emb : ∀ (q : Fin 1024) (n : Fin 1024), ((cfg0.win 7).blk (pt i j)).view.emb (ix2 q n) = ix2 (rowAt i q) (colAt j n) := fun q n => by
    have hi := congrFun (idx (pt i j)).2.2.2.2.2.2.2.1
    have hr := pt_row i j
    refine funext fun (ax : Fin 2) => Fin.ext ?_
    match ax with
    | 0 => show win0_7.index (pt i j) 0 * 1024 + 1 * q.val = 1024 * i.val + q.val; rw [hi 0]; show (pt i j).val / 5 * 1024 + _ = _; rw [hr]; omega
    | 1 => show win0_7.index (pt i j) 1 * 1024 + 1 * n.val = min j.val 3 * 1024 + n.val; rw [hi 1]; show min ((pt i j).val % 5) 3 * 1024 + _ = _; rw [hj]; omega
  exact (congrArg (kept m c i j).proj (eq_ix2 (n0 := 1024) (n1 := 1024) y)).trans
    ((key (y 0 : Fin 1024) (y 1 : Fin 1024)).trans (congrArg (refProj m c)
      ((emb (y 0 : Fin 1024) (y 1 : Fin 1024)).symm.trans (congrArg ((cfg0.win 7).blk (pt i j)).view.emb (eq_ix2 (n0 := 1024) (n1 := 1024) y).symm))))

/-- The narrow projection's array. -/
theorem tail_array : (dats m 0 c).arrAt 8 cfg0.N = refTail m c := by
  refine (dats m 0 c).arrAt_eq_of_covers 8 _ (by decide +kernel) fun t hf y => ?_
  obtain ⟨i, j, rfl, hj⟩ := pt_coords t
  have h4 : (pt i j).val % 5 = 4 := of_decide_eq_true ((flush8 (pt i j)).symm.trans hf)
  obtain rfl : j = 4 := Fin.ext (hj.symm.trans h4)
  have e : (dats m 0 c).flushed 8 (pt i 4) = (kept m c i 4).tail := after0_8 m c (pt i 4)
  refine Eq.trans (show _ = (dats m 0 c).flushed 8 (pt i 4) y from rfl) ((congrFun e y).trans ?_)
  have key : ∀ (q : Fin 1024) (n : Fin 1024), (kept m c i 4).tail (ix2 q n) = refTail m c (ix2 (rowAt i q) n) := fun q n =>
    (tail_last m c i q n).trans (InRefRows.tail_read _ _ _ (rowAt i q) n).symm
  have emb : ∀ (q : Fin 1024) (n : Fin 1024), ((cfg0.win 8).blk (pt i 4)).view.emb (ix2 q n) = ix2 (rowAt i q) n := fun q n => by
    have hi := congrFun (idx (pt i 4)).2.2.2.2.2.2.2.2.1
    have hr := pt_row i 4
    refine funext fun (ax : Fin 2) => Fin.ext ?_
    match ax with
    | 0 => show win0_8.index (pt i 4) 0 * 1024 + 1 * q.val = 1024 * i.val + q.val; rw [hi 0]; show (pt i 4).val / 5 * 1024 + _ = _; rw [hr]; omega
    | 1 => show win0_8.index (pt i 4) 1 * 1024 + 1 * n.val = n.val; rw [hi 1]; show 0 * 1024 + _ = _; omega
  exact (congrArg (kept m c i 4).tail (eq_ix2 (n0 := 1024) (n1 := 1024) y)).trans
    ((key (y 0 : Fin 1024) (y 1 : Fin 1024)).trans (congrArg (refTail m c)
      ((emb (y 0 : Fin 1024) (y 1 : Fin 1024)).symm.trans (congrArg ((cfg0.win 8).blk (pt i 4)).view.emb (eq_ix2 (n0 := 1024) (n1 := 1024) y).symm))))

/-- The gates' array. -/
theorem gates_array : (dats m 0 c).arrAt 9 cfg0.N = allGates m c := by
  refine (dats m 0 c).arrAt_eq_of_covers 9 _ (by decide +kernel) fun t hf y => ?_
  obtain ⟨i, j, rfl, hj⟩ := pt_coords t
  have h4 : (pt i j).val % 5 = 4 := of_decide_eq_true ((flush9 (pt i j)).symm.trans hf)
  obtain rfl : j = 4 := Fin.ext (hj.symm.trans h4)
  have e : (dats m 0 c).flushed 9 (pt i 4) = (kept m c i 4).gates := after0_9 m c (pt i 4)
  refine Eq.trans (show _ = (dats m 0 c).flushed 9 (pt i 4) y from rfl) ((congrFun e y).trans ?_)
  have key : ∀ (q : Fin 1024) (n : Fin 128), (kept m c i 4).gates (ix2 q n) = allGates m c (ix2 (rowAt i q) n) := fun q n =>
    (gates_last m c i q n).trans (by rw [rate_block, shift_block]; rfl)
  have emb : ∀ (q : Fin 1024) (n : Fin 128), ((cfg0.win 9).blk (pt i 4)).view.emb (ix2 q n) = ix2 (rowAt i q) n := fun q n => by
    have hi := congrFun (idx (pt i 4)).2.2.2.2.2.2.2.2.2
    have hr := pt_row i 4
    refine funext fun (ax : Fin 2) => Fin.ext ?_
    match ax with
    | 0 => show win0_9.index (pt i 4) 0 * 1024 + 1 * q.val = 1024 * i.val + q.val; rw [hi 0]; show (pt i 4).val / 5 * 1024 + _ = _; rw [hr]; omega
    | 1 => show win0_9.index (pt i 4) 1 * 128 + 1 * n.val = n.val; rw [hi 1]; show 0 * 128 + _ = _; omega
  exact (congrArg (kept m c i 4).gates (eq_ix2 (n0 := 1024) (n1 := 128) y)).trans
    ((key (y 0 : Fin 1024) (y 1 : Fin 128)).trans (congrArg (allGates m c)
      ((emb (y 0 : Fin 1024) (y 1 : Fin 128)).symm.trans (congrArg ((cfg0.win 9).blk (pt i 4)).view.emb (eq_ix2 (n0 := 1024) (n1 := 128) y).symm))))

/-- The lanes the host keeps of the gates' array are the reference's gates. -/
theorem gates_kept : extractStridedSlice S8192x16 ![0, 0] (allGates m c) slices_S8192x128_S8192x16_0_0 = refGates m c := by
  refine funext fun y => ?_
  obtain ⟨r, n, rfl⟩ : ∃ (r : Fin 8192) (n : Fin 16), y = ix2 r n := ⟨y 0, y 1, eq_ix2 (n0 := 8192) (n1 := 16) y⟩
  refine Eq.trans (b := allGates m c (ix2 r ⟨n.val, by omega⟩)) (extractStridedSlice_apply ![0, 0] (allGates m c) slices_S8192x128_S8192x16_0_0 (ix2 r n) (ix2 r ⟨n.val, by omega⟩)
    (fun (a : Fin 2) => match a with
      | 0 => by show r.val = 0 + r.val; omega
      | 1 => by show n.val = 0 + n.val; omega)) ?_
  refine Eq.trans ?_ (InRefRows.gates_read _ _ _ _ _ r n).symm
  by_cases h : n.val < 8
  · rw [dif_pos h, InRefRows.decay_read]
    refine (if_pos h).trans ?_
    rw [rate_lanes, shift_lanes]
    exact congrArg₂ (decay _) (lane_read _ ⟨n.val, h⟩) (lane_read _ ⟨n.val, h⟩)
  · rw [dif_neg h, InRefRows.share_read]
    refine (if_neg h).trans ?_
    refine congrArg (fun n => share (dense (MlpSpec.rms (xrow m c r) (nw m c)) (fun k => lanes m c k n))) (Fin.ext ?_)
    show n.val = 8 + (n.val - 8); omega

/-- What the host's lines after the call leave in the three buffers they fill. -/
theorem gates_result : Pipeline.afterTail₀ cfgs (dats m) 0 (V0 m) [hostOps1] c main_v5 = refGates m c := by
  refine Eq.trans (b := extractStridedSlice S8192x16 ![0, 0] ((dats m 0 c).arrAt 9 cfg0.N) slices_S8192x128_S8192x16_0_0) ?_ ?_
  · unfold Pipeline.afterTail₀
    simp only [hostOps1, List.flatten_cons, List.flatten_nil, List.append_nil]
    after_results_simp
    exact congrArg (fun x => extractStridedSlice S8192x16 ![0, 0] x slices_S8192x128_S8192x16_0_0)
      (Pipeline.withArrays_arr spec0 launch0.win.arr_inj c (V0 m c) (fun w => (dats m 0 c).arrAt w cfg0.N) 9)
  · rw [gates_array]; exact gates_kept m c

theorem conv_result : Pipeline.afterTail₀ cfgs (dats m) 0 (V0 m) [hostOps1] c main_v7
    = Cert.InRefIdeal.Read.val_main_v36 (F := Ideal) (m ((c : Thread nD τ).loc main_arg0)) (m ((c : Thread nD τ).loc main_arg1)) (m ((c : Thread nD τ).loc main_arg2)) := by
  refine Eq.trans (b := extractStridedSlice S4x3x3072 ![0, 2045, 0] (shapeCast S4x2048x4096 ((dats m 0 c).arrAt 7 cfg0.N) shapeCasts_S8192x4096_S4x2048x4096) slices_S4x2048x4096_S4x3x3072_0_2045_0) ?_ ?_
  · unfold Pipeline.afterTail₀
    simp only [hostOps1, List.flatten_cons, List.flatten_nil, List.append_nil]
    after_results_simp
    have e : Pipeline.withArrays (cfgs 0).spec c (V0 m c) (fun w => (dats m 0 c).arrAt w (cfgs 0).N) (Proc.tc.devRef main_v4_0) = (dats m 0 c).arrAt 7 cfg0.N :=
      Pipeline.withArrays_arr spec0 launch0.win.arr_inj c (V0 m c) (fun w => (dats m 0 c).arrAt w cfg0.N) 7
    rw [e]
    generalize (dats m 0 c).arrAt 7 cfg0.N = x
    rfl
  · rw [proj_array]; rfl

theorem pool_result : Pipeline.afterTail₀ cfgs (dats m) 0 (V0 m) [hostOps1] c main_v9
    = Cert.InRefIdeal.Read.val_main_v38 (F := Ideal) (m ((c : Thread nD τ).loc main_arg0)) (m ((c : Thread nD τ).loc main_arg1)) (m ((c : Thread nD τ).loc main_arg3)) := by
  refine Eq.trans (b := extractStridedSlice S4x15x1024 ![0, 2033, 0] (shapeCast S4x2048x1024 ((dats m 0 c).arrAt 8 cfg0.N) shapeCasts_S8192x1024_S4x2048x1024) slices_S4x2048x1024_S4x15x1024_0_2033_0) ?_ ?_
  · unfold Pipeline.afterTail₀
    simp only [hostOps1, List.flatten_cons, List.flatten_nil, List.append_nil]
    after_results_simp
    have e : Pipeline.withArrays (cfgs 0).spec c (V0 m c) (fun w => (dats m 0 c).arrAt w (cfgs 0).N) (Proc.tc.devRef main_v4_1) = (dats m 0 c).arrAt 8 cfg0.N :=
      Pipeline.withArrays_arr spec0 launch0.win.arr_inj c (V0 m c) (fun w => (dats m 0 c).arrAt w cfg0.N) 8
    rw [e]
    generalize (dats m 0 c).arrAt 8 cfg0.N = x
    rfl
  · rw [tail_array]; rfl

end Cert.InArrays

end
-- ==== Proof.InFrames.lean ====
module

public import proofs.«01_k».proof.Proof.InRun
public import proofs.«01_k».proof.Proof.Gen.InP.Frame

/-! The projection call's run: what its results hold at the end, that its arguments stay, and that the counters end at zero; the same of the
program before the idealization. -/

@[expose] public section

noncomputable section

namespace Cert.InPIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The run ends with the two projections' arrays and the host's three cuts named, and the arguments as they were. -/
theorem runs : θ_run defs (onTc (τ := τ) (main (F := F))) ⟨m, fun _ => 0, ρ⟩ (fun r => (∀ c : Dev nD,
      r.2.mem ((c.tc : Thread nD τ).loc main_v4_0) = (dats m 0 c).arrAt 7 cfg0.N
      ∧ r.2.mem ((c.tc : Thread nD τ).loc main_v4_1) = (dats m 0 c).arrAt 8 cfg0.N
      ∧ r.2.mem ((c.tc : Thread nD τ).loc main_v5) = Pipeline.afterTail₀ cfgs (dats m) 0 (V0 m) [hostOps1] c main_v5
      ∧ r.2.mem ((c.tc : Thread nD τ).loc main_v7) = Pipeline.afterTail₀ cfgs (dats m) 0 (V0 m) [hostOps1] c main_v7
      ∧ r.2.mem ((c.tc : Thread nD τ).loc main_v9) = Pipeline.afterTail₀ cfgs (dats m) 0 (V0 m) [hostOps1] c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 7, (h.1 c).1 8,
      (h.1 c).2 main_v5 (Pipeline.mem_restRefs_of main_v5 (by decide) (by decide)), (h.1 c).2 main_v7 (Pipeline.mem_restRefs_of main_v7 (by decide) (by decide)), (h.1 c).2 main_v9 (Pipeline.mem_restRefs_of main_v9 (by decide) (by decide)),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).2 main_arg5 (Pipeline.mem_restRefs_of main_arg5 (by decide) (by decide))).trans (W_main_arg5 m (dats m) c),
      ((h.1 c).2 main_arg6 (Pipeline.mem_restRefs_of main_arg6 (by decide) (by decide))).trans (W_main_arg6 m (dats m) c)⟩, h.2⟩) (run_main_quiescent m ρ)

/-- The arguments' part of the run. -/
theorem keeps : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2.2.2.2.2, h.2⟩) (runs m ρ)

end Cert.InPIdeal.Gen

namespace Cert.InBits
open Idealize.ShloMosaic Idealize.ShloMosaic.TcCoe Idealize.SL.Sem

variable {F : FTy → Type} [FloatOps F]

/-- The program before the idealization is the same text: the same body under its one label. -/
theorem bodies_eq : Cert.InP.defs₀ (F := F) = Cert.InPIdeal.defs₀ (F := F) :=
  congrArg Defs.onTc (funext fun (l : Fin 1) => match l with
    | 0 => rfl)
theorem defs_eq : Cert.InP.defs (F := F) = Cert.InPIdeal.defs (F := F) := congrArg (Pipeline.defs (Cert.InPIdeal.pcfgs (F := F))) bodies_eq

/-- So its run keeps the arguments and leaves the counters at zero as well. -/
theorem keeps (m : (ℓ : Loc Cert.InP.nD Cert.InP.τ Cert.InP.sig) → Buf (Elt F) ℓ) (ρ : Dev Cert.InP.nD → PrngReg) :
    θ_run (Cert.InP.defs (F := F)) (onTc (τ := Cert.InP.τ) (Cert.InP.main (F := F))) ⟨m, fun _ => 0, ρ⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1)
      ∧ r.2.mem ((c.tc : Thread Cert.InP.nD Cert.InP.τ).loc Cert.InP.main_arg2) = m ((c.tc : Thread Cert.InP.nD Cert.InP.τ).loc Cert.InP.main_arg2)
      ∧ r.2.mem ((c.tc : Thread Cert.InP.nD Cert.InP.τ).loc Cert.InP.main_arg3) = m ((c.tc : Thread Cert.InP.nD Cert.InP.τ).loc Cert.InP.main_arg3)
      ∧ r.2.mem ((c.tc : Thread Cert.InP.nD Cert.InP.τ).loc Cert.InP.main_arg4) = m ((c.tc : Thread Cert.InP.nD Cert.InP.τ).loc Cert.InP.main_arg4)
      ∧ r.2.mem ((c.tc : Thread Cert.InP.nD Cert.InP.τ).loc Cert.InP.main_arg5) = m ((c.tc : Thread Cert.InP.nD Cert.InP.τ).loc Cert.InP.main_arg5)
      ∧ r.2.mem ((c.tc : Thread Cert.InP.nD Cert.InP.τ).loc Cert.InP.main_arg6) = m ((c.tc : Thread Cert.InP.nD Cert.InP.τ).loc Cert.InP.main_arg6))
      ∧ r.2.sem = fun _ => 0) :=
  Eq.mpr (congrArg (fun D => θ_run D (onTc (τ := Cert.InPIdeal.τ) (Cert.InPIdeal.main (F := F))) ⟨m, fun _ => 0, ρ⟩ _) defs_eq)
    (Cert.InPIdeal.Gen.keeps m ρ)

end Cert.InBits

end
-- ==== Proof.DecFound.lean ====
module

public import proofs.«01_k».proof.Proof.Gen.MixSIdeal.Value

/-! The pooling and output mixing of the new rows, written once for a strip of 128 columns, a group of
    two strips, and a chunk of 512 output columns; what the body loads; and the blocks that it stores. -/

@[expose] public section

noncomputable section
namespace Cert.DecFound
open Cert.MixSIdeal Cert.MixSIdeal.Gen Idealize.ShloMosaic Idealize.ShloMosaic.TcCoe Idealize.SL.Sem Idealize.ShloMosaic.Tactic
open Idealize.ShloMosaic.Pipeline (Dat)

variable {F : FTy → Type} [FloatOps F]

theorem inbOut (n : Fin 4) : ∀ a, (![0, 512 * n.val] : Fin 2 → Nat) a + S128x512.size a ≤ S128x2048.size a
  | 0 => le_refl 128
  | 1 => show 512 * n.val + 512 ≤ 2048 by omega

theorem inbRow (r : Fin 15) : ∀ a, (![r.val, 0, 0] : Fin 3 → Nat) a + S1x128x1024.size a ≤ S15x128x1024.size a
  | 0 => show r.val + 1 ≤ 15 by omega
  | 1 => le_refl 128
  | 2 => le_refl 1024

theorem inbBack (s : Fin 8) (r : ℕ) :
    ∀ a, (![15 - (r + 1), 0, 128 * s.val] : Fin 3 → Nat) a + S1x128x128.size a ≤ S15x128x1024.size a
  | 0 => show 15 - (r + 1) + 1 ≤ 15 by omega
  | 1 => le_refl 128
  | 2 => show 128 * s.val + 128 ≤ 1024 by omega

theorem inbHalf (o : Fin 2) (n : Fin 4) :
    ∀ a, (![1024 * o.val, 512 * n.val] : Fin 2 → Nat) a + S1024x512.size a ≤ S2048x2048.size a
  | 0 => show 1024 * o.val + 1024 ≤ 2048 by omega
  | 1 => show 512 * n.val + 512 ≤ 2048 by omega

theorem inbNorm (n : Fin 4) : ∀ a, (![0, 512 * n.val] : Fin 2 → Nat) a + S1x512.size a ≤ S1x2048.size a
  | 0 => le_refl 1
  | 1 => show 512 * n.val + 512 ≤ 2048 by omega

theorem inbPool (g : Fin 4) : ∀ a, (![g.val, 0, 0] : Fin 3 → Nat) a + S1x256x256.size a ≤ S4x256x256.size a
  | 0 => show g.val + 1 ≤ 4 by omega
  | 1 => le_refl 256
  | 2 => le_refl 256

theorem inbScale (g : Fin 4) : ∀ a, (![0, 256 * g.val] : Fin 2 → Nat) a + S1x256.size a ≤ S1x1024.size a
  | 0 => le_refl 1
  | 1 => show 256 * g.val + 256 ≤ 1024 by omega

theorem inbNew (s : Fin 8) : ∀ a, (![0, 128 * s.val] : Fin 2 → Nat) a + S128x128.size a ≤ S128x1024.size a
  | 0 => le_refl 128
  | 1 => show 128 * s.val + 128 ≤ 1024 by omega

/-- The new row and the `n` kept before it, added up. -/
def runSum (u : Vec F S128x128 .f32) (E : ℕ → Vec F S1x128x128 .f32) : ℕ → FVec F S128x128 .f32
  | 0 => u
  | n + 1 => addf (runSum u E n) (shapeCast S128x128 (E n) shapeCasts_S1x128x128_S128x128)

/-- The number of rows in the window of length `n`, as a float. -/
def rowCount (n : ℕ) : FVec F S128x128 .f32 :=
  sitofp .f32 (minsi (addi (broadcast S128x128 16384#32 : IVec S128x128 32)
    (broadcast S128x128 1#32)) (broadcast S128x128 (BitVec.ofNat 32 n)))

/-- The pooled strip: the window's mean less the row itself. -/
def lessMean (n : ℕ) (u : Vec F S128x128 .f32) (E : ℕ → Vec F S1x128x128 .f32) : FVec F S128x128 .f32 :=
  subf (divf (runSum u E (n - 1)) (rowCount n)) u

/-- One group: two pooled strips times the group's matrix, scaled. -/
def pairMix (p q : FVec F S128x128 .f32) (wp : Vec F S1x256x256 .bf16) (ps : Vec F S1x256 .f32) : FVec F S128x256 .bf16 :=
  truncf .bf16 (mulf (matmul dot_S128x256_S256x256_S128x256_1_0_0_1_n_n none
    (truncf .bf16 (concatenate S128x256 1 [⟨S128x128, p⟩, ⟨S128x128, q⟩] concatenates_S128x128_S128x128_S128x256_d1) bitsLt_bf16_f32)
    (shapeCast S256x256 wp shapeCasts_S1x256x256_S256x256) (constant S128x256 .f32 0x00000000#32 : FVec F S128x256 .f32))
    (broadcastTo S128x256 ps broadcasts_S1x256_S128x256)) bitsLt_bf16_f32

/-- The four groups side by side. -/
def sideBySide (g : Fin 4 → FVec F S128x256 .bf16) : FVec F S128x1024 .bf16 :=
  concatenate S128x1024 1 [⟨S128x256, g 0⟩, ⟨S128x256, g 1⟩, ⟨S128x256, g 2⟩, ⟨S128x256, g 3⟩]
    concatenates_S128x256_S128x256_S128x256_S128x256_S128x1024_d1

/-- A chunk of a product with a half of the output matrix. -/
def halfMix (oa : FVec F S128x1024 .bf16) (wo : Vec F S1024x512 .bf16) : FVec F S128x512 .f32 :=
  matmul dot_S128x1024_S1024x512_S128x512_1_0_0_1_n_n none oa wo (constant S128x512 .f32 0x00000000#32 : FVec F S128x512 .f32)

/-- The recurrence's rows as the product takes them. -/
def narrowed (oa : Vec F S128x1024 .f32) : FVec F S128x1024 .bf16 := truncf .bf16 oa bitsLt_bf16_f32

/-- The mixed chunk: what was stored first, and the pooled half's product. -/
def bothHalves (ob : FVec F S128x1024 .bf16) (before : Vec F S128x512 .f32) (wo : Vec F S1024x512 .bf16) : FVec F S128x512 .f32 :=
  addf (shapeCast S128x512 before shapeCasts_S128x512_S128x512) (halfMix ob wo)

/-- The sum of squares along each row of a chunk. -/
def rowSquares (p : FVec F S128x512 .f32) : FVec F S128x1 .f32 :=
  shapeCast S128x1 (multiReduction .add [1] S128 (mulf p p) 0x00000000#32 reduces_S128x512_S128 (.inl rfl) rfl)
    shapeCasts_S128_S128x1

/-- One over the root of the mean square of each row. -/
def rowScale (p : Fin 4 → FVec F S128x512 .f32) : FVec F S128x1 .f32 :=
  rsqrt (addf (mulf (addf (addf (addf (addf (broadcast S128x1 (Scalar.ofBits .f32 0x00000000#32) : FVec F S128x1 .f32)
    (rowSquares (p 0))) (rowSquares (p 1))) (rowSquares (p 2))) (rowSquares (p 3)))
    (broadcast S128x1 (Scalar.ofBits .f32 0x3A000000#32)))
    (broadcast S128x1 (Scalar.ofBits .f32 0x358637BD#32)))

/-- The chunk stored last: the residual and the scaled mix. -/
def outChunk (x : Vec F S128x512 .f32) (p : FVec F S128x512 .f32) (inv : FVec F S128x1 .f32) (nw : Vec F S1x512 .f32) :
    FVec F S128x512 .f32 :=
  addf x (mulf (mulf p (broadcastTo S128x512 inv broadcasts_S128x1_S128x512)) (broadcastTo S128x512 nw broadcasts_S1x512_S128x512))

/-- The four products stored first. -/
def storedFirst (oa : Vec F S128x1024 .f32) (WA : Fin 4 → Vec F S1024x512 .bf16) :
    List (View.Piece (Elt F) S128x2048 .f32) :=
  [3, 2, 1, 0].map fun n : Fin 4 => ⟨Rect.unit ![0, 512 * n.val] S128x512.size (inbOut n), halfMix (narrowed oa) (WA n)⟩

/-- The four chunks stored last, over the products stored first. -/
def storedLast (p : Fin 4 → FVec F S128x512 .f32) (oa : Vec F S128x1024 .f32) (WA : Fin 4 → Vec F S1024x512 .bf16)
    (X : Fin 4 → Vec F S128x512 .f32) (NW : Fin 4 → Vec F S1x512 .f32) : List (View.Piece (Elt F) S128x2048 .f32) :=
  ([3, 2, 1, 0].map fun n : Fin 4 => ⟨Rect.unit ![0, 512 * n.val] S128x512.size (inbOut n),
    outChunk (X n) (p n) (rowScale p) (NW n)⟩) ++ storedFirst oa WA

/-- A kept row as it is stored again. -/
def again (v : Vec F S1x128x1024 .f32) : FVec F S1x128x1024 .f32 :=
  shapeCast S1x128x1024 (shapeCast S128x1024 v shapeCasts_S1x128x1024_S128x1024 : FVec F S128x1024 .f32) shapeCasts_S128x1024_S1x128x1024

/-- The new row as it is stored behind the kept ones. -/
def appended (v : Vec F S128x1024 .f32) : FVec F S1x128x1024 .f32 :=
  shapeCast S1x128x1024 v shapeCasts_S128x1024_S1x128x1024

/-- The kept rows after the call, the last stored first. -/
def keptPieces (u : Vec F S128x1024 .f32) (H : Fin 15 → Vec F S1x128x1024 .f32) : List (View.Piece (Elt F) S15x128x1024 .f32) :=
  ⟨Rect.unit (s := S15x128x1024) ![(14 : Fin 15).val, 0, 0] S1x128x1024.size (inbRow 14), appended u⟩ ::
  [13, 12, 11, 10, 9, 8, 7, 6, 5, 4, 3, 2, 1, 0].map fun r : Fin 14 =>
    ⟨Rect.unit (s := S15x128x1024) ![(⟨r.val, by omega⟩ : Fin 15).val, 0, 0] S1x128x1024.size (inbRow ⟨r.val, by omega⟩), again (H ⟨r.val + 1, by omega⟩)⟩

variable (m : (ℓ : Loc nD τ sig) → Buf (Elt F) ℓ)

/-- The recurrence's rows as the body loads them. -/
def rawOa (c : Dev nD) (t : Fin cfg0.N) : Vec F S128x1024 .f32 :=
  View.readAt (Elt F) (ms0_0 t).view (Rect.unit ![0, 0] S128x1024.size inb_S128x1024_S128x1024_0_0).toLoadRect
    ((hs0_0 t).unread (iblk m c 0 t))

/-- The new rows, all columns. -/
def rawNew (c : Dev nD) (t : Fin cfg0.N) : Vec F S128x1024 .f32 :=
  View.readAt (Elt F) (ms0_1 t).view (Rect.unit ![0, 0] S128x1024.size inb_S128x1024_S128x1024_0_0).toLoadRect
    ((hs0_1 t).unread (iblk m c 1 t))

/-- One strip of the new rows. -/
def rawU (c : Dev nD) (t : Fin cfg0.N) (s : Fin 8) : Vec F S128x128 .f32 :=
  View.readAt (Elt F) (ms0_1 t).view (Rect.unit (s := S128x1024) ![0, 128 * s.val] S128x128.size (inbNew s)).toLoadRect
    ((hs0_1 t).unread (iblk m c 1 t))

/-- One kept row, all columns. -/
def rawKept (c : Dev nD) (t : Fin cfg0.N) (r : Fin 15) : Vec F S1x128x1024 .f32 :=
  View.readAt (Elt F) (ms0_2 t).view (Rect.unit (s := S15x128x1024) ![r.val, 0, 0] S1x128x1024.size (inbRow r)).toLoadRect
    ((hs0_2 t).unread (iblk m c 2 t))

/-- One strip of the row kept `r + 1` tokens ago. -/
def rawBack (c : Dev nD) (t : Fin cfg0.N) (s : Fin 8) (r : ℕ) : Vec F S1x128x128 .f32 :=
  View.readAt (Elt F) (ms0_2 t).view (Rect.unit (s := S15x128x1024) ![15 - (r + 1), 0, 128 * s.val] S1x128x128.size (inbBack s r)).toLoadRect
    ((hs0_2 t).unread (iblk m c 2 t))

/-- One chunk of the residual rows. -/
def rawR (c : Dev nD) (t : Fin cfg0.N) (n : Fin 4) : Vec F S128x512 .f32 :=
  View.readAt (Elt F) (ms0_3 t).view (Rect.unit (s := S128x2048) ![0, 512 * n.val] S128x512.size (inbOut n)).toLoadRect
    ((hs0_3 t).unread (iblk m c 3 t))

/-- One group's pooling matrix. -/
def rawWp (c : Dev nD) (t : Fin cfg0.N) (g : Fin 4) : Vec F S1x256x256 .bf16 :=
  View.readAt (Elt F) (ms0_4 t).view (Rect.unit (s := S4x256x256) ![g.val, 0, 0] S1x256x256.size (inbPool g)).toLoadRect
    ((hs0_4 t).unread (iblk m c 4 t))

/-- One group's scales. -/
def rawPs (c : Dev nD) (t : Fin cfg0.N) (g : Fin 4) : Vec F S1x256 .f32 :=
  View.readAt (Elt F) (ms0_5 t).view (Rect.unit (s := S1x1024) ![0, 256 * g.val] S1x256.size (inbScale g)).toLoadRect
    ((hs0_5 t).unread (iblk m c 5 t))

/-- One chunk of a half of the output matrix. -/
def rawWo (c : Dev nD) (t : Fin cfg0.N) (o : Fin 2) (n : Fin 4) : Vec F S1024x512 .bf16 :=
  View.readAt (Elt F) (ms0_6 t).view (Rect.unit (s := S2048x2048) ![1024 * o.val, 512 * n.val] S1024x512.size (inbHalf o n)).toLoadRect
    ((hs0_6 t).unread (iblk m c 6 t))

/-- One chunk of the norm's weights. -/
def rawNw (c : Dev nD) (t : Fin cfg0.N) (n : Fin 4) : Vec F S1x512 .f32 :=
  View.readAt (Elt F) (ms0_7 t).view (Rect.unit (s := S1x2048) ![0, 512 * n.val] S1x512.size (inbNorm n)).toLoadRect
    ((hs0_7 t).unread (iblk m c 7 t))

/-- The pooled and mixed group `g`. -/
def rawGroup (c : Dev nD) (t : Fin cfg0.N) (g : Fin 4) : FVec F S128x256 .bf16 :=
  pairMix (lessMean (2 * 2 ^ g.val) (rawU m c t ⟨2 * g.val, by omega⟩) (rawBack m c t ⟨2 * g.val, by omega⟩))
    (lessMean (2 * 2 ^ g.val) (rawU m c t ⟨2 * g.val + 1, by omega⟩) (rawBack m c t ⟨2 * g.val + 1, by omega⟩))
    (rawWp m c t g) (rawPs m c t g)

/-- One chunk of the mix. -/
def rawMix (c : Dev nD) (t : Fin cfg0.N) (n : Fin 4) : FVec F S128x512 .f32 :=
  bothHalves (sideBySide (rawGroup m c t))
    ((ms0_8 t).view.readCov (storedFirst (rawOa m c t) (rawWo m c t 0))
      (Rect.unit (s := S128x2048) ![0, 512 * n.val] S128x512.size (inbOut n)).toLoadRect)
    (rawWo m c t 1 n)

set_option maxRecDepth 16384 in
/-- What the body leaves in the window of the mixed rows. -/
theorem flushed8 (c : Dev nD) (t : Fin cfg0.N) :
    (dats m 0 c).flushed 8 t = (cfg0.win 8).cut (grid0.coords t)
      (View.canon (storedLast (rawMix m c t) (rawOa m c t) (rawWo m c t 0) (rawR m c t) (rawNw m c t))) := by
  rw [Value.flushed8_A m c t]; unfold out0_A_8
  rw [View.read_writes_junk_eq_canon]; unfold kernelRun0_A; dsimp only; rfl

set_option maxRecDepth 16384 in
/-- What the body leaves in the window of the kept rows. -/
theorem flushed9 (c : Dev nD) (t : Fin cfg0.N) :
    (dats m 0 c).flushed 9 t = (cfg0.win 9).cut (grid0.coords t)
      (View.canon (keptPieces (rawNew m c t) (rawKept m c t))) := by
  rw [Value.flushed9_A m c t]; unfold out0_A_9
  rw [View.read_writes_junk_eq_canon]; unfold kernelRun0_A; dsimp only; rfl

end Cert.DecFound

end

end
-- ==== Proof.MixDecRef.lean ====
/- The reference program's mixed rows for the new tokens, read at an index. -/
module

public import proofs.«01_k».proof.Proof.Spec
public import proofs.«01_k».proof.Proof.Gen.MixRefIdeal.Read

@[expose] public section

set_option maxHeartbeats 1000000

noncomputable section

namespace Cert.MixDecRef

open Cert.MixRefIdeal Cert.MixRefIdeal.Gen Cert.MixRefIdeal.Read Idealize.ShloMosaic Idealize.ShloMosaic.TcCoe Idealize.SL.Sem Idealize.ShloMosaic.StableHlo Cert.Scalars
open scoped BigOperators

variable (x0 : (⟨S128x1024, .f32⟩ : BufTy).Contents (Elt Ideal)) (x1 : (⟨S128x1024, .f32⟩ : BufTy).Contents (Elt Ideal))
  (x2 : (⟨S128x15x1024, .f32⟩ : BufTy).Contents (Elt Ideal)) (x3 : (⟨S128x2048, .f32⟩ : BufTy).Contents (Elt Ideal))
  (x4 : (⟨S4x256x256, .bf16⟩ : BufTy).Contents (Elt Ideal)) (x5 : (⟨S1x1024, .f32⟩ : BufTy).Contents (Elt Ideal))
  (x6 : (⟨S2048x2048, .bf16⟩ : BufTy).Contents (Elt Ideal)) (x7 : (⟨S1x2048, .f32⟩ : BufTy).Contents (Elt Ideal))

/-- Column `c` of token `b`: the fifteen kept rows, then the new one. -/
def tokCol (u : (⟨S128x1024, .f32⟩ : BufTy).Contents (Elt Ideal)) (h : (⟨S128x15x1024, .f32⟩ : BufTy).Contents (Elt Ideal))
    (b : Fin 128) (c : Fin 1024) (q : ℕ) : EReal :=
  if hq : q < 15 then h (ix3 b ⟨q, hq⟩ c) else u (ix2 b c)

theorem up_read (b : Fin 128) (q : Fin 16) (c : Fin 1024) :
    val_main_v1 (F := Ideal) x1 x2 (ix3 b q c) = tokCol x1 x2 b c q.val := by
  pointwise [val_main_v1, val_main_v0]
  rfl

theorem cum_read (b : Fin 128) (q : Fin 16) (c : Fin 1024) :
    val_main_v3 (F := Ideal) x1 x2 (ix3 b q c) = ∑ r ∈ Finset.range (q.val + 1), tokCol x1 x2 b c r := by
  unfold val_main_v3 Host.reduceWindowAdd
  rw [Ideal.hostReduceWindowAdd_def]
  have hi : val_main_call0_call0_v0 (F := Ideal) (Shape.Idx.first h_S_) = (0 : EReal) := by
    rw [val_main_call0_call0_v0_apply, val_main_call0_call0_cst_apply]; exact Ideal.ofBits_zero_f32
  rw [cumsum_apply (A := 128) (n := 16) (m := 15) (C := 1024) rfl (val_main_v1 (F := Ideal) x1 x2) _ hi
    reduceWindows_S128x16x1024_S128x16x1024_w1s1p0_0_w16s1p15_0_w1s1p0_0 b q c]
  simp only [up_read]
  exact sum_fin_le_eq_range _ q

theorem c0_read (b : Fin 128) (q : Fin 17) (c : Fin 1024) :
    val_main_v4 (F := Ideal) x1 x2 (ix3 b q c) = ∑ r ∈ Finset.range q.val, tokCol x1 x2 b c r := by
  pointwise [val_main_v4, val_main_v2, val_main_cst]
  simp only [cum_read]
  by_cases h : q.val < 1
  · rw [dif_pos h, show q.val = 0 by omega, Finset.range_zero, Finset.sum_empty]
  · rw [dif_neg h, show q.val - 1 + 1 = q.val by omega]

theorem tokCol_real {x1 x2} (hu : ∀ i, Real' (x1 i)) (hh : ∀ i, Real' (x2 i)) (b : Fin 128) (c : Fin 1024) (q : ℕ) : Real' (tokCol x1 x2 b c q) := by
  unfold tokCol
  split
  · exact hh _
  · exact hu _

/-- The window of a group ends at the new row. -/
theorem winSum_last (f : ℕ → EReal) (m w : ℕ) (hm : m + w = 16) (hf : ∀ q, Real' (f q)) :
    (∑ r ∈ Finset.range 16, f r) - (∑ r ∈ Finset.range m, f r) = winSum f 15 w := by
  rw [← hm, sub_prefix f m w (fun q _ => hf q)]
  unfold winSum
  rw [← Finset.sum_range_reflect]
  refine Finset.sum_congr rfl fun r hr => ?_
  have := Finset.mem_range.1 hr
  rw [if_pos (by omega)]
  exact congrArg f (by omega)

theorem group_fin {x1 x2} (hu : ∀ i, Real' (x1 i)) (hh : ∀ i, Real' (x2 i)) (b : Fin 128) (c : Fin 1024) (w m : ℕ) (hm : m + w = 16) :
    Ideal.div ((∑ r ∈ Finset.range 16, tokCol x1 x2 b c r) - (∑ r ∈ Finset.range m, tokCol x1 x2 b c r))
        ((FloatOps.sitofp .f32 (IntOp.minsi (BitVec.ofNat 32 16385) (BitVec.ofNat 32 w)) : Ideal .f32)) - tokCol x1 x2 b c 15
      = Spec.pooled (tokCol x1 x2 b c) 15 w := by
  rw [winSum_last _ m w hm (fun q => tokCol_real hu hh b c q)]
  unfold Spec.pooled
  have h2 : (FloatOps.sitofp .f32 (IntOp.minsi (BitVec.ofNat 32 16385) (BitVec.ofNat 32 w)) : Ideal .f32)
      = (((min (15 + 1) w : ℕ) : ℝ) : EReal) := by
    have := congrArg (fun r : ℝ => (r : EReal)) (count_word (t := 16384) (w := w) (by omega) (by omega))
    refine Eq.trans ?_ (this.trans ?_)
    · rfl
    · rw [show min (16384 + 1) w = min (15 + 1) w by omega]
  rw [h2]

theorem group0_read (hu : ∀ i, Real' (x1 i)) (hh : ∀ i, Real' (x2 i)) (b : Fin 128) (z : Fin 1) (d : Fin 256) :
    val_main_v21 (F := Ideal) x1 x2 (ix3 b z d) = Spec.pooled (tokCol x1 x2 b ⟨256 * 0 + d.val, by omega⟩) 15 (Spec.win 0) := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_c, val_main_c_0, val_main_c_1]
  simp only [c0_read, up_read]
  exact group_fin hu hh b _ 2 14 (by omega)

theorem group1_read (hu : ∀ i, Real' (x1 i)) (hh : ∀ i, Real' (x2 i)) (b : Fin 128) (z : Fin 1) (d : Fin 256) :
    val_main_v34 (F := Ideal) x1 x2 (ix3 b z d) = Spec.pooled (tokCol x1 x2 b ⟨256 * 1 + d.val, by omega⟩) 15 (Spec.win 1) := by
  pointwise [val_main_v34, val_main_v33, val_main_v32, val_main_v31, val_main_v30, val_main_v29, val_main_v28, val_main_v27, val_main_v26, val_main_v25, val_main_v24, val_main_v23, val_main_v22, val_main_v8, val_main_v7, val_main_v6, val_main_v5, val_main_c, val_main_c_2, val_main_c_3]
  simp only [c0_read, up_read]
  exact group_fin hu hh b _ 4 12 (by omega)

theorem group2_read (hu : ∀ i, Real' (x1 i)) (hh : ∀ i, Real' (x2 i)) (b : Fin 128) (z : Fin 1) (d : Fin 256) :
    val_main_v47 (F := Ideal) x1 x2 (ix3 b z d) = Spec.pooled (tokCol x1 x2 b ⟨256 * 2 + d.val, by omega⟩) 15 (Spec.win 2) := by
  pointwise [val_main_v47, val_main_v46, val_main_v45, val_main_v44, val_main_v43, val_main_v42, val_main_v41, val_main_v40, val_main_v39, val_main_v38, val_main_v37, val_main_v36, val_main_v35, val_main_v8, val_main_v7, val_main_v6, val_main_v5, val_main_c, val_main_c_4, val_main_c_5]
  simp only [c0_read, up_read]
  exact group_fin hu hh b _ 8 8 (by omega)

theorem group3_read (hu : ∀ i, Real' (x1 i)) (hh : ∀ i, Real' (x2 i)) (b : Fin 128) (z : Fin 1) (d : Fin 256) :
    val_main_v60 (F := Ideal) x1 x2 (ix3 b z d) = Spec.pooled (tokCol x1 x2 b ⟨256 * 3 + d.val, by omega⟩) 15 (Spec.win 3) := by
  pointwise [val_main_v60, val_main_v59, val_main_v58, val_main_v57, val_main_v56, val_main_v55, val_main_v54, val_main_v53, val_main_v52, val_main_v51, val_main_v50, val_main_v49, val_main_v48, val_main_v8, val_main_v7, val_main_v6, val_main_v5, val_main_c, val_main_c_6, val_main_c_7]
  simp only [c0_read, up_read]
  exact group_fin hu hh b _ 16 0 (by omega)

theorem pooled_read (hu : ∀ i, Real' (x1 i)) (hh : ∀ i, Real' (x2 i)) (b : Fin 128) (z : Fin 1) (g : Fin 4) (d : Fin 256) :
    val_main_v65 (F := Ideal) x1 x2 (ix4 b z g d) = Spec.pooled (tokCol x1 x2 b ⟨256 * g.val + d.val, by omega⟩) 15 (Spec.win g) := by
  obtain rfl : z = 0 := Subsingleton.elim _ _
  match g with
  | 0 =>
    have key : val_main_v65 (F := Ideal) x1 x2 (ix4 b 0 0 d) = val_main_v21 (F := Ideal) x1 x2 (ix3 b 0 d) := by
      pointwise [val_main_v65, val_main_v64, val_main_v63, val_main_v62, val_main_v61]
    exact key.trans (group0_read x1 x2 hu hh b 0 d)
  | 1 =>
    have key : val_main_v65 (F := Ideal) x1 x2 (ix4 b 0 1 d) = val_main_v34 (F := Ideal) x1 x2 (ix3 b 0 d) := by
      pointwise [val_main_v65, val_main_v64, val_main_v63, val_main_v62, val_main_v61]
    exact key.trans (group1_read x1 x2 hu hh b 0 d)
  | 2 =>
    have key : val_main_v65 (F := Ideal) x1 x2 (ix4 b 0 2 d) = val_main_v47 (F := Ideal) x1 x2 (ix3 b 0 d) := by
      pointwise [val_main_v65, val_main_v64, val_main_v63, val_main_v62, val_main_v61]
    exact key.trans (group2_read x1 x2 hu hh b 0 d)
  | 3 =>
    have key : val_main_v65 (F := Ideal) x1 x2 (ix4 b 0 3 d) = val_main_v60 (F := Ideal) x1 x2 (ix3 b 0 d) := by
      pointwise [val_main_v65, val_main_v64, val_main_v63, val_main_v62, val_main_v61]
    exact key.trans (group3_read x1 x2 hu hh b 0 d)

theorem ob_read (hu : ∀ i, Real' (x1 i)) (hh : ∀ i, Real' (x2 i)) (b : Fin 128) (c : Fin 1024) :
    val_main_v71 (F := Ideal) x1 x2 x4 x5 (ix2 b c)
      = Spec.poolMix (tokCol x1 x2 b) 15 (fun g d e => x4 (ix3 g d e)) (fun c => x5 (ix2 0 c)) ⟨c.val / 256, by omega⟩ ⟨c.val % 256, by omega⟩ := by
  pointwise [val_main_v71, val_main_v70, val_main_v69, val_main_v68, val_main_v67, val_main_v66]
  simp only [pooled_read x1 x2 hu hh]
  have e3 : (⟨256 * (c.val / 256) + c.val % 256, by omega⟩ : Fin 1024) = c := Fin.ext (by simp; omega)
  unfold Spec.poolMix
  rw [e3]
  simp only [mul_comm (Spec.pooled _ _ _)]

theorem mix_read (hu : ∀ i, Real' (x1 i)) (hh : ∀ i, Real' (x2 i)) (b : Fin 128) (n : Fin 2048) :
    val_main_v74 (F := Ideal) x0 x1 x2 x4 x5 x6 (ix2 b n)
      = Spec.mixed (fun k => x0 (ix2 b k)) (tokCol x1 x2 b) 15 (fun g d e => x4 (ix3 g d e)) (fun c => x5 (ix2 0 c)) (fun k n => x6 (ix2 k n)) n := by
  pointwise [val_main_v74, val_main_v73, val_main_v72]
  simp only [ob_read x1 x2 x4 x5 hu hh]
  rfl

theorem out_read (hu : ∀ i, Real' (x1 i)) (hh : ∀ i, Real' (x2 i)) (b : Fin 128) (n : Fin 2048) :
    val_main_v87 (F := Ideal) x0 x1 x2 x3 x4 x5 x6 x7 (ix2 b n)
      = Spec.mixOut (fun k => x0 (ix2 b k)) (tokCol x1 x2 b) 15 (fun n => x3 (ix2 b n)) (fun g d e => x4 (ix3 g d e)) (fun c => x5 (ix2 0 c))
          (fun k n => x6 (ix2 k n)) (fun n => x7 (ix2 0 n)) n := by
  pointwise [val_main_v87, val_main_v86, val_main_v85, val_main_v84, val_main_v83, val_main_v82, val_main_v81, val_main_v80, val_main_v79, val_main_v78, val_main_v77, val_main_v76, val_main_v75, val_main_cst_8, val_main_cst_9, val_main_cst_10]
  simp only [mix_read x0 x1 x2 x4 x5 x6 hu hh]
  rfl

/-- The rows kept for the next token. -/
theorem kept_read (r : Fin 15) (b : Fin 128) (c : Fin 1024) :
    val_main_v89 (F := Ideal) x1 x2 (ix3 r b c) = tokCol x1 x2 b c (r.val + 1) := by
  pointwise [val_main_v89, val_main_v88]
  rw [up_read]
  exact congrArg (tokCol x1 x2 b c) (Nat.add_comm 1 r.val)

end Cert.MixDecRef

end
-- ==== Proof.DecMix.lean ====
module

public import proofs.«01_k».proof.Proof.DecFound
public import proofs.«01_k».proof.Proof.MixDecRef
public import proofs.«01_k».proof.Proof.MixStage
public import Idealize.ShloMosaic.Lib.Pointwise
public import Idealize.ShloMosaic.Lib.Pipeline.CanonAppend
public import Idealize.ShloMosaic.Lib.Pipeline.ValueKit.Point

/-! The pooling and the mix of the new rows, element by element: the layer's formulas of the program's arguments. -/

@[expose] public section

noncomputable section

namespace Cert.DecMix
open Cert.MixSIdeal Cert.MixSIdeal.Gen Idealize.ShloMosaic Idealize.ShloMosaic.TcCoe Idealize.SL.Sem Idealize.ShloMosaic.Tactic
open Idealize.ShloMosaic.Pipeline (Dat)
open Cert.DecFound Cert.Scalars Cert.MixDecRef
open scoped BigOperators

section Stages

theorem runSum_read (u : Vec Ideal S128x128 .f32) (E : ℕ → Vec Ideal S1x128x128 .f32) (f : ℕ → EReal) (q k : Fin 128)
    (n : ℕ) (h0 : u (ix2 q k) = f 0) (h : ∀ r < n, E r (ix3 0 q k) = f (r + 1)) :
    runSum u E n (ix2 q k) = ∑ r ∈ Finset.range (n + 1), f r := by
  induction n with
  | zero => simpa [runSum] using h0
  | succ n ih =>
    rw [Finset.sum_range_succ, ← ih (fun r hr => h r (by omega)), ← h n (by omega)]
    show addf (runSum u E n) _ _ = _
    pointwise

theorem rowCount_read (n : ℕ) (hn : n ≤ 16) (q k : Fin 128) :
    rowCount (F := Ideal) n (ix2 q k) = (((min (15 + 1) n : ℕ) : ℝ) : EReal) := by
  unfold rowCount
  pointwise
  refine (congrArg (fun r : ℝ => (r : EReal)) (count_word (t := 16384) (w := n) (by omega) (by omega))).trans ?_
  rw [show min (16384 + 1) n = min (15 + 1) n by omega]

theorem pair_read (p q : FVec Ideal S128x128 .f32) (wp : Vec Ideal S1x256x256 .bf16) (ps : Vec Ideal S1x256 .f32) (r : Fin 128) (e : Fin 256) :
    pairMix p q wp ps (ix2 r e) =
      (∑ d : Fin 256, (if h : d.val < 128 then p (ix2 r ⟨d.val, h⟩) else q (ix2 r ⟨d.val - 128, by omega⟩)) * wp (ix3 0 d e)) * ps (ix2 0 e) := by
  unfold pairMix
  pointwise

theorem side_read (g : Fin 4 → FVec Ideal S128x256 .bf16) (r : Fin 128) (k : Fin 1024) :
    sideBySide g (ix2 r k) = g ⟨k.val / 256, by omega⟩ (ix2 r ⟨k.val % 256, by omega⟩) := by
  unfold sideBySide
  pointwise
  have hk := k.isLt
  split
  · have e : k.val / 256 = 0 := by omega
    have e' : k.val % 256 = k.val := by omega
    simp only [e, e']; rfl
  split
  · have e : k.val / 256 = 1 := by omega
    have e' : k.val % 256 = k.val - 256 := by omega
    simp only [e, e']; rfl
  split
  · have e : k.val / 256 = 2 := by omega
    have e' : k.val % 256 = k.val - 256 - 256 := by omega
    simp only [e, e']; rfl
  · have e : k.val / 256 = 3 := by omega
    have e' : k.val % 256 = k.val - 256 - 256 - 256 := by omega
    simp only [e, e']; rfl

theorem half_read (oa : FVec Ideal S128x1024 .bf16) (wo : Vec Ideal S1024x512 .bf16) (r : Fin 128) (e : Fin 512) :
    halfMix oa wo (ix2 r e) = ∑ k : Fin 1024, oa (ix2 r k) * wo (ix2 k e) := by
  unfold halfMix
  pointwise

theorem both_read (ob : FVec Ideal S128x1024 .bf16) (before : Vec Ideal S128x512 .f32) (wo : Vec Ideal S1024x512 .bf16) (r : Fin 128) (e : Fin 512) :
    bothHalves ob before wo (ix2 r e) = before (ix2 r e) + ∑ k : Fin 1024, ob (ix2 r k) * wo (ix2 k e) := by
  unfold bothHalves
  rw [← half_read]
  pointwise

theorem rowScale_read (p : Fin 4 → FVec Ideal S128x512 .f32) (r : Fin 128) (z : Fin 1) (F : Fin 2048 → EReal)
    (h : ∀ (n : Fin 4) (e : Fin 512), p n (ix2 r e) = F ⟨512 * n.val + e.val, by omega⟩) :
    rowScale p (ix2 r z) = Ideal.rsqrt (Ideal.div (∑ m : Fin 2048, F m * F m) (Ideal.ofBits .f32 0x45000000#32) + Spec.eps) := by
  rw [Fin.sum_univ_tiles 4 512 (by norm_num), Fin.sum_univ_four, ← Ideal.mul_one_div MixStage.len_ne, ← MixStage.inv_len]
  unfold rowScale rowSquares
  pointwise
  simp only [h]
  rfl

theorem outChunk_read (x : Vec Ideal S128x512 .f32) (p : FVec Ideal S128x512 .f32) (inv : FVec Ideal S128x1 .f32) (nw : Vec Ideal S1x512 .f32)
    (r : Fin 128) (e : Fin 512) : outChunk x p inv nw (ix2 r e) = x (ix2 r e) + p (ix2 r e) * inv (ix2 r 0) * nw (ix2 0 e) := by
  unfold outChunk
  pointwise

/-- The four chunks side by side. -/
def wide (f : Fin 4 → FVec Ideal S128x512 .f32) (y : S128x2048.Idx) : Elt Ideal .f32 :=
  f ⟨(y 1).val / 512, by have : (y 1).val < 2048 := (y 1).isLt; omega⟩ (ix2 (y 0) ⟨(y 1).val % 512, Nat.mod_lt _ (by norm_num)⟩)

theorem wide_at (f : Fin 4 → FVec Ideal S128x512 .f32) (n : Fin 4) (q : Fin 128) (e : Fin 512) :
    wide f (ix2 q ⟨512 * n.val + e.val, by omega⟩) = f n (ix2 q e) := by
  have h1 : (512 * n.val + e.val) / 512 = n.val := by omega
  have h2 : (512 * n.val + e.val) % 512 = e.val := by omega
  show f ⟨(512 * n.val + e.val) / 512, _⟩ (ix2 q ⟨(512 * n.val + e.val) % 512, _⟩) = _
  simp only [h1, h2]

theorem chunk_emb (n : Fin 4) (q : Fin 128) (e : Fin 512) :
    ((Rect.unit (s := S128x2048) ![0, 512 * n.val] S128x512.size (inbOut n)).emb (ix2 q e))
      = ix2 q ⟨512 * n.val + e.val, by omega⟩ := by
  refine funext fun (a : Fin 2) => Fin.ext ?_
  match a with
  | 0 => show 0 + 1 * q.val = q.val; omega
  | 1 => show 512 * n.val + 1 * e.val = 512 * n.val + e.val; omega

/-- Four chunks stored side by side. -/
abbrev chunkPieces (f : Fin 4 → FVec Ideal S128x512 .f32) : List (View.Piece (Elt Ideal) S128x2048 .f32) :=
  [3, 2, 1, 0].map fun n : Fin 4 => ⟨Rect.unit ![0, 512 * n.val] S128x512.size (inbOut n), f n⟩

theorem mem_chunks (n : Fin 4) : n ∈ [(3 : Fin 4), 2, 1, 0] := by revert n; decide

theorem wide_read (f : Fin 4 → FVec Ideal S128x512 .f32) (L : List (View.Piece (Elt Ideal) S128x2048 .f32)) (n : Fin 4) (q : Fin 128) (e : Fin 512) :
    View.canon (Val := Elt Ideal) (chunkPieces f ++ L) (ix2 q ⟨512 * n.val + e.val, by omega⟩) = f n (ix2 q e) := by
  rw [← wide_at f]
  refine View.canon_append_of_pieces (Val := Elt Ideal) (wide f) L _ (fun p hp x => ?_) _ ?_
  · obtain ⟨n, -, rfl⟩ := List.mem_map.1 hp
    have e : ∀ x : S128x512.Idx, f n x = wide f ((Rect.unit (s := S128x2048) ![0, 512 * n.val] S128x512.size (inbOut n)).emb x) := fun x => by
      rw [eq_ix2 x]
      exact ((congrArg (wide f) (chunk_emb n (x 0) (x 1))).trans (wide_at f n (x 0) (x 1))).symm
    exact e x
  · refine ⟨_, List.mem_map.2 ⟨n, mem_chunks n, rfl⟩, (Rect.mem_set_unit (inb := inbOut n)).2 fun (a : Fin 2) => ?_⟩
    match a with
    | 0 => show 0 ≤ q.val ∧ q.val < 0 + 128; omega
    | 1 => show 512 * n.val ≤ 512 * n.val + e.val ∧ 512 * n.val + e.val < 512 * n.val + 512; omega

end Stages

variable (m : (ℓ : Loc nD τ sig) → Buf (Elt Ideal) ℓ) (c : Dev nD) (t : Fin cfg0.N)

/-- Every window of the only grid point is its whole array. -/
theorem idx : ∀ t : Fin cfg0.N, win0_0.index t = ![0, 0] ∧ win0_1.index t = ![0, 0] ∧
    win0_2.index t = ![0, 0, 0] ∧ win0_3.index t = ![0, 0] ∧ win0_4.index t = ![0, 0, 0] ∧
    win0_5.index t = ![0, 0] ∧ win0_6.index t = ![0, 0] ∧ win0_7.index t = ![0, 0] ∧ win0_8.index t = ![0, 0] ∧
    win0_9.index t = ![0, 0, 0] := by
  decide +kernel

theorem oa_read (r : Fin 128) (k : Fin 1024) :
    rawOa m c t (ix2 r k) = m ((c : Thread nD τ).loc main_arg0) (ix2 r k) := by
  unfold rawOa
  rw [View.readAt_eq_ld, (hs0_0 t).read_unread, View.ld_apply]
  blk_ext [iblk, V_main_arg0, idx t, Rect.idx_unit_val]

theorem new_read (r : Fin 128) (k : Fin 1024) :
    rawNew m c t (ix2 r k) = m ((c : Thread nD τ).loc main_arg1) (ix2 r k) := by
  unfold rawNew
  rw [View.readAt_eq_ld, (hs0_1 t).read_unread, View.ld_apply]
  blk_ext [iblk, V_main_arg1, idx t, Rect.idx_unit_val]

theorem u_read (s : Fin 8) (r k : Fin 128) :
    rawU m c t s (ix2 r k) = m ((c : Thread nD τ).loc main_arg1) (ix2 r ⟨128 * s.val + k.val, by omega⟩) := by
  unfold rawU
  rw [View.readAt_eq_ld, (hs0_1 t).read_unread, View.ld_apply]
  blk_ext [iblk, V_main_arg1, idx t, Rect.idx_unit_val]

theorem r_read (n : Fin 4) (r : Fin 128) (k : Fin 512) :
    rawR m c t n (ix2 r k) = m ((c : Thread nD τ).loc main_arg3) (ix2 r ⟨512 * n.val + k.val, by omega⟩) := by
  unfold rawR
  rw [View.readAt_eq_ld, (hs0_3 t).read_unread, View.ld_apply]
  blk_ext [iblk, V_main_arg3, idx t, Rect.idx_unit_val]

theorem wp_read (g : Fin 4) (z : Fin 1) (r k : Fin 256) :
    rawWp m c t g (ix3 z r k) = m ((c : Thread nD τ).loc main_arg4) (ix3 g r k) := by
  unfold rawWp
  rw [View.readAt_eq_ld, (hs0_4 t).read_unread, View.ld_apply]
  blk_ext [iblk, V_main_arg4, idx t, Rect.idx_unit_val]

theorem ps_read (g : Fin 4) (z : Fin 1) (k : Fin 256) :
    rawPs m c t g (ix2 z k) = m ((c : Thread nD τ).loc main_arg5) (ix2 0 ⟨256 * g.val + k.val, by omega⟩) := by
  unfold rawPs
  rw [View.readAt_eq_ld, (hs0_5 t).read_unread, View.ld_apply]
  blk_ext [iblk, V_main_arg5, idx t, Rect.idx_unit_val]

theorem wo_read (o : Fin 2) (n : Fin 4) (r : Fin 1024) (k : Fin 512) :
    rawWo m c t o n (ix2 r k) = m ((c : Thread nD τ).loc main_arg6) (ix2 ⟨1024 * o.val + r.val, by omega⟩ ⟨512 * n.val + k.val, by omega⟩) := by
  unfold rawWo
  rw [View.readAt_eq_ld, (hs0_6 t).read_unread, View.ld_apply]
  blk_ext [iblk, V_main_arg6, idx t, Rect.idx_unit_val]

theorem nw_read (n : Fin 4) (z : Fin 1) (k : Fin 512) :
    rawNw m c t n (ix2 z k) = m ((c : Thread nD τ).loc main_arg7) (ix2 0 ⟨512 * n.val + k.val, by omega⟩) := by
  unfold rawNw
  rw [View.readAt_eq_ld, (hs0_7 t).read_unread, View.ld_apply]
  blk_ext [iblk, V_main_arg7, idx t, Rect.idx_unit_val]

theorem kept_row (r : Fin 15) (z : Fin 1) (b : Fin 128) (k : Fin 1024) :
    rawKept m c t r (ix3 z b k) = m ((c : Thread nD τ).loc main_arg2) (ix3 b r k) := by
  unfold rawKept
  rw [View.readAt_eq_ld, (hs0_2 t).read_unread, View.ld_apply]
  unfold iblk
  entry_read
  have i2 := congrFun (idx t).2.2.1
  have e : (win0_2.blk t).view.emb ((Rect.unit (s := S15x128x1024) ![r.val, 0, 0] S1x128x1024.size (inbRow r)).idx (ix3 z b k))
      = (ix3 r b k : S15x128x1024.Idx) := by
    refine funext fun (a' : Fin 3) => Fin.ext ?_
    match a' with
    | 0 => show win0_2.index t 0 * 15 + 1 * (r.val + 1 * z.val) = r.val; rw [i2 0]; show 0 * 15 + _ = _; omega
    | 1 => show win0_2.index t 1 * 128 + 1 * (0 + 1 * b.val) = b.val; rw [i2 1]; show 0 * 128 + _ = _; omega
    | 2 => show win0_2.index t 2 * 1024 + 1 * (0 + 1 * k.val) = k.val; rw [i2 2]; show 0 * 1024 + _ = _; omega
  refine (congrArg (transpose S15x128x1024 [1, 0, 2] (m (c, Proc.tc.devRef main_arg2)) transposes_S128x15x1024_S15x128x1024_1_0_2) e).trans ?_
  pointwise

theorem back_row (s : Fin 8) (r : ℕ) (hr : r < 15) (z : Fin 1) (b k : Fin 128) :
    rawBack m c t s r (ix3 z b k) = m ((c : Thread nD τ).loc main_arg2) (ix3 b ⟨15 - (r + 1), by omega⟩ ⟨128 * s.val + k.val, by omega⟩) := by
  rw [← kept_row m c t ⟨15 - (r + 1), by omega⟩ 0 b ⟨128 * s.val + k.val, by omega⟩]
  unfold rawBack rawKept
  rw [View.readAt_eq_ld, (hs0_2 t).read_unread, View.ld_apply, View.readAt_eq_ld, (hs0_2 t).read_unread, View.ld_apply]
  refine congrArg (iblk m c 2 t) (funext fun (a' : Fin 3) => Fin.ext ?_)
  match a' with
  | 0 => show 15 - (r + 1) + 1 * z.val = 15 - (r + 1) + 1 * 0; omega
  | 1 => rfl
  | 2 => show 128 * s.val + 1 * k.val = 0 + 1 * (128 * s.val + k.val); omega

/-- One column of a token: its kept rows, then the new one. -/
abbrev col (b : Fin 128) (k : Fin 1024) : ℕ → EReal :=
  tokCol (m ((c : Thread nD τ).loc main_arg1)) (m ((c : Thread nD τ).loc main_arg2)) b k

theorem pooled_at (s : Fin 8) (n : ℕ) (hn : 0 < n) (hn' : n ≤ 16) (b k : Fin 128) :
    lessMean n (rawU m c t s) (rawBack m c t s) (ix2 b k)
      = Spec.pooled (col m c b ⟨128 * s.val + k.val, by omega⟩) 15 n := by
  have hu : rawU m c t s (ix2 b k) = col m c b ⟨128 * s.val + k.val, by omega⟩ 15 := by
    rw [u_read]; unfold col tokCol; rw [dif_neg (by omega)]
  have hw : runSum (rawU m c t s) (rawBack m c t s) (n - 1) (ix2 b k)
      = winSum (col m c b ⟨128 * s.val + k.val, by omega⟩) 15 n := by
    refine (runSum_read _ _ (fun r => if r ≤ 15 then col m c b ⟨128 * s.val + k.val, by omega⟩ (15 - r) else 0)
      b k (n - 1) ?_ (fun r hr => ?_)).trans ?_
    · rw [if_pos (Nat.zero_le _)]; exact hu
    · rw [if_pos (by omega), back_row m c t s r (by omega)]; unfold col tokCol; rw [dif_pos (by omega)]
    · rw [Nat.sub_add_cancel hn]; rfl
  have hc := rowCount_read n hn' b k
  unfold lessMean Spec.pooled
  pointwise
  rw [hw, hc, hu]

/-- The arguments of the mix, as the layer's formula takes them. -/
abbrev oaRow (b : Fin 128) : Fin 1024 → EReal := fun k => m ((c : Thread nD τ).loc main_arg0) (ix2 b k)
abbrev xRow (b : Fin 128) : Fin 2048 → EReal := fun n => m ((c : Thread nD τ).loc main_arg3) (ix2 b n)
abbrev wPool : Fin 4 → Fin 256 → Fin 256 → EReal := fun g d e => m ((c : Thread nD τ).loc main_arg4) (ix3 g d e)
abbrev sPool : Fin 1024 → EReal := fun k => m ((c : Thread nD τ).loc main_arg5) (ix2 0 k)
abbrev wOut : Fin 2048 → Fin 2048 → EReal := fun k n => m ((c : Thread nD τ).loc main_arg6) (ix2 k n)
abbrev wNorm : Fin 2048 → EReal := fun n => m ((c : Thread nD τ).loc main_arg7) (ix2 0 n)

theorem group_at (g : Fin 4) (b : Fin 128) (e : Fin 256) :
    rawGroup m c t g (ix2 b e) = Spec.poolMix (col m c b) 15 (wPool m c) (sPool m c) g e := by
  have hw : 0 < Spec.win g ∧ Spec.win g ≤ 16 := by revert g; decide
  unfold rawGroup Spec.poolMix
  rw [pair_read, ps_read]
  refine congrArg (· * _) (Finset.sum_congr rfl fun d _ => ?_)
  rw [wp_read]
  refine congrArg (· * _) ?_
  by_cases h : d.val < 128
  · rw [dif_pos h, pooled_at m c t _ _ hw.1 hw.2]
    refine congrArg (fun k => Spec.pooled (col m c b k) 15 (Spec.win g)) (Fin.ext ?_)
    show 128 * (2 * g.val) + d.val = 256 * g.val + d.val; omega
  · rw [dif_neg h, pooled_at m c t _ _ hw.1 hw.2]
    refine congrArg (fun k => Spec.pooled (col m c b k) 15 (Spec.win g)) (Fin.ext ?_)
    show 128 * (2 * g.val + 1) + (d.val - 128) = 256 * g.val + d.val; omega

theorem narrowed_read (b : Fin 128) (k : Fin 1024) : narrowed (rawOa m c t) (ix2 b k) = oaRow m c b k := by
  unfold narrowed
  pointwise
  exact oa_read m c t b k

theorem first_at (n : Fin 4) (b : Fin 128) (e : Fin 512) :
    halfMix (narrowed (rawOa m c t)) (rawWo m c t 0 n) (ix2 b e)
      = ∑ k : Fin 1024, oaRow m c b k * wOut m c ⟨k.val, by omega⟩ ⟨512 * n.val + e.val, by omega⟩ := by
  rw [half_read]
  refine Finset.sum_congr rfl fun k _ => ?_
  rw [narrowed_read, wo_read]
  have e : ∀ hh, (⟨1024 * (0 : Fin 2).val + k.val, hh⟩ : Fin 2048) = ⟨k.val, by omega⟩ := fun _ => Fin.ext (by simp)
  simp only [e]

theorem mix_at (n : Fin 4) (b : Fin 128) (e : Fin 512) :
    rawMix m c t n (ix2 b e)
      = Spec.mixed (oaRow m c b) (col m c b) 15 (wPool m c) (sPool m c) (wOut m c) ⟨512 * n.val + e.val, by omega⟩ := by
  unfold rawMix Spec.mixed
  rw [both_read, View.readCov_eq_canon']
  refine congrArg₂ (· + ·) ?_ (Finset.sum_congr rfl fun k _ => ?_)
  · refine Eq.trans ?_ (first_at m c t n b e)
    refine Eq.trans ?_ (wide_read (fun n => halfMix (narrowed (rawOa m c t)) (rawWo m c t 0 n)) [] n b e)
    rw [List.append_nil]
    exact congrArg _ (chunk_emb n b e)
  · rw [side_read, group_at, wo_read]
    rfl

/-- What the call leaves in the mixed rows. -/
theorem last_at (n : Fin 4) (b : Fin 128) (e : Fin 512) :
    View.canon (Val := Elt Ideal) (storedLast (rawMix m c t) (rawOa m c t) (rawWo m c t 0) (rawR m c t) (rawNw m c t))
        (ix2 b ⟨512 * n.val + e.val, by omega⟩)
      = Spec.mixOut (oaRow m c b) (col m c b) 15 (xRow m c b) (wPool m c) (sPool m c) (wOut m c) (wNorm m c)
          ⟨512 * n.val + e.val, by omega⟩ := by
  refine (wide_read (fun n => outChunk (rawR m c t n) (rawMix m c t n) (rowScale (rawMix m c t)) (rawNw m c t n)) _ n b e).trans ?_
  rw [outChunk_read, r_read, nw_read, mix_at, rowScale_read _ _ _
    (Spec.mixed (oaRow m c b) (col m c b) 15 (wPool m c) (sPool m c) (wOut m c)) (fun n e => mix_at m c t n b e)]
  unfold Spec.mixOut xRow
  rfl

/-- The kept rows after the call, as one function of the index. -/
def keptAt (y : S15x128x1024.Idx) : Elt Ideal .f32 := col m c (y 1) (y 2) ((y 0).val + 1)

theorem again_read (v : Vec Ideal S1x128x1024 .f32) (z : Fin 1) (b : Fin 128) (k : Fin 1024) : again v (ix3 z b k) = v (ix3 z b k) := by
  unfold again
  pointwise

theorem appended_read (v : Vec Ideal S128x1024 .f32) (z : Fin 1) (b : Fin 128) (k : Fin 1024) : appended v (ix3 z b k) = v (ix2 b k) := by
  unfold appended
  pointwise

theorem row_emb (r : Fin 15) (z : Fin 1) (b : Fin 128) (k : Fin 1024) :
    (Rect.unit (s := S15x128x1024) ![r.val, 0, 0] S1x128x1024.size (inbRow r)).emb (ix3 z b k) = ix3 r b k := by
  refine funext fun (a : Fin 3) => Fin.ext ?_
  match a with
  | 0 => show r.val + 1 * z.val = r.val; omega
  | 1 => show 0 + 1 * b.val = b.val; omega
  | 2 => show 0 + 1 * k.val = k.val; omega

theorem again_piece (r : Fin 14) (x : S1x128x1024.Idx) :
    again (rawKept m c t ⟨r.val + 1, by omega⟩) x
      = keptAt m c ((Rect.unit (s := S15x128x1024) ![(⟨r.val, by omega⟩ : Fin 15).val, 0, 0] S1x128x1024.size (inbRow ⟨r.val, by omega⟩)).emb x) := by
  rw [eq_ix3 x]
  generalize (x 0 : Fin 1) = z; generalize (x 1 : Fin 128) = b; generalize (x 2 : Fin 1024) = k
  refine (again_read _ z b k).trans ((kept_row m c t _ z b k).trans (Eq.trans ?_ (congrArg (keptAt m c) (row_emb ⟨r.val, by omega⟩ z b k)).symm))
  show _ = tokCol _ _ b k (r.val + 1)
  unfold tokCol
  rw [dif_pos (by omega)]

theorem appended_piece (x : S1x128x1024.Idx) :
    appended (rawNew m c t) x
      = keptAt m c ((Rect.unit (s := S15x128x1024) ![(14 : Fin 15).val, 0, 0] S1x128x1024.size (inbRow 14)).emb x) := by
  rw [eq_ix3 x]
  generalize (x 0 : Fin 1) = z; generalize (x 1 : Fin 128) = b; generalize (x 2 : Fin 1024) = k
  refine (appended_read _ z b k).trans ((new_read m c t b k).trans (Eq.trans ?_ (congrArg (keptAt m c) (row_emb 14 z b k)).symm))
  show _ = tokCol _ _ b k (14 + 1)
  unfold tokCol
  rw [dif_neg (by omega)]

theorem mem_rows (r : Fin 14) : r ∈ [(13 : Fin 14), 12, 11, 10, 9, 8, 7, 6, 5, 4, 3, 2, 1, 0] := by revert r; decide

/-- What the call leaves in the kept rows. -/
theorem kept_at (r : Fin 15) (b : Fin 128) (k : Fin 1024) :
    View.canon (Val := Elt Ideal) (keptPieces (rawNew m c t) (rawKept m c t)) (ix3 r b k) = col m c b k (r.val + 1) := by
  refine View.canon_apply_of_pieces (Val := Elt Ideal) (keptAt m c) _ (fun p hp x => ?_) (ix3 r b k) ?_
  · rcases List.mem_cons.1 hp with rfl | hp
    · exact appended_piece m c t x
    · obtain ⟨r, -, rfl⟩ := List.mem_map.1 hp
      exact again_piece m c t r x
  · by_cases h : r.val < 14
    · refine ⟨_, List.mem_cons_of_mem _ (List.mem_map.2 ⟨⟨r.val, h⟩, mem_rows _, rfl⟩), (Rect.mem_set_unit (inb := inbRow r)).2 fun (a : Fin 3) => ?_⟩
      match a with
      | 0 => show r.val ≤ r.val ∧ r.val < r.val + 1; omega
      | 1 => show 0 ≤ b.val ∧ b.val < 0 + 128; omega
      | 2 => show 0 ≤ k.val ∧ k.val < 0 + 1024; omega
    · refine ⟨_, List.mem_cons_self .., (Rect.mem_set_unit (inb := inbRow 14)).2 fun (a : Fin 3) => ?_⟩
      match a with
      | 0 => show 14 ≤ r.val ∧ r.val < 14 + 1; omega
      | 1 => show 0 ≤ b.val ∧ b.val < 0 + 128; omega
      | 2 => show 0 ≤ k.val ∧ k.val < 0 + 1024; omega

end Cert.DecMix

end

end
-- ==== Proof.DecArrays.lean ====
/- The arrays that the call on the new rows leaves are its reference's results, at finite pooling inputs. -/
module

public import proofs.«01_k».proof.Proof.DecMix
public import proofs.«01_k».proof.Proof.Finite
public import proofs.«01_k».proof.Proof.Gen.Pre_finite_pool

@[expose] public section

noncomputable section

namespace Cert.DecArrays
open Cert.MixSIdeal Cert.MixSIdeal.Gen Idealize.ShloMosaic Idealize.ShloMosaic.TcCoe Idealize.SL.Sem Idealize.ShloMosaic.Tactic
open Idealize.ShloMosaic.Pipeline (Dat)
open Cert.DecFound Cert.Scalars

/-- The precondition at any arrays: the new pooling row and the kept ones are finite everywhere. -/
theorem reals {a0 a1 a2 a3 a4 a5 a6 a7} (h : Cert.Pre_finite_pool.fn (F := Ideal) a0 a1 a2 a3 a4 a5 a6 a7 = fun _ => 1#1) :
    (∀ i, Real' (a1 i)) ∧ ∀ i, Real' (a2 i) := by
  have e := congrFun h (Shape.Idx.first Cert.Pre_finite_pool.Facts.h_S_)
  obtain ⟨h1, h2⟩ := Finite.both_set _ _ e
  haveI : Subsingleton Cert.Pre_finite_pool.S_.Idx := ⟨fun a b => funext fun (x : Fin 0) => x.elim0⟩
  exact ⟨fun i => Finite.real_of_below (Host.reduce_andi_all _ _ _ _ _ h1 i), fun i => Finite.real_of_below (Host.reduce_andi_all _ _ _ _ _ h2 i)⟩

variable (m : (ℓ : Loc nD τ sig) → Buf (Elt Ideal) ℓ) (c : Dev nD)

/-- The mixed rows. -/
theorem mixed_rows (hu : ∀ i, Real' (m ((c : Thread nD τ).loc main_arg1) i)) (hh : ∀ i, Real' (m ((c : Thread nD τ).loc main_arg2) i)) :
    (dats m 0 c).arrAt 8 cfg0.N = Cert.MixRefIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  have e := congrFun (DecFound.flushed8 m c t) y
  refine Eq.trans (show _ = (dats m 0 c).flushed 8 t y from rfl) (e.trans ?_)
  have key : ∀ (q : Fin 128) (l : Fin 2048), View.canon (Val := Elt Ideal) (DecFound.storedLast (rawMix m c t) (rawOa m c t) (rawWo m c t 0) (rawR m c t) (rawNw m c t)) (ix2 q l)
      = Cert.MixRefIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 q l) := fun q l => by
    have hl : (⟨512 * (⟨l.val / 512, by omega⟩ : Fin 4).val + (⟨l.val % 512, by omega⟩ : Fin 512).val, by simp only []; omega⟩ : Fin 2048) = l :=
      Fin.ext (by simp only []; omega)
    have h := DecMix.last_at m c t ⟨l.val / 512, by omega⟩ q ⟨l.val % 512, by omega⟩
    rw [hl] at h
    exact h.trans (MixDecRef.out_read _ _ _ _ _ _ _ _ hu hh _ _).symm
  have emb : ∀ (q : Fin 128) (l : Fin 2048), ((cfg0.win 8).blk t).view.emb (ix2 q l) = ix2 q l := fun q l => by
    have hi := congrFun (DecMix.idx t).2.2.2.2.2.2.2.2.1
    refine funext fun (ax : Fin 2) => Fin.ext ?_
    match ax with
    | 0 => show win0_8.index t 0 * 128 + 1 * q.val = q.val; rw [hi 0]; show 0 * 128 + _ = _; omega
    | 1 => show win0_8.index t 1 * 2048 + 1 * l.val = l.val; rw [hi 1]; show 0 * 2048 + _ = _; omega
  exact (congrArg (View.canon (Val := Elt Ideal) (DecFound.storedLast (rawMix m c t) (rawOa m c t) (rawWo m c t 0) (rawR m c t) (rawNw m c t))) (eq_ix2 (n0 := 128) (n1 := 2048) y)).trans
    ((key (y 0 : Fin 128) (y 1 : Fin 2048)).trans (congrArg (Cert.MixRefIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) ((congrArg _ (eq_ix2 (n0 := 128) (n1 := 2048) y)).trans (emb (y 0 : Fin 128) (y 1 : Fin 2048)))).symm)

/-- The rows kept for the next token. -/
theorem kept_rows : (dats m 0 c).arrAt 9 cfg0.N = Cert.MixRefIdeal.Read.val_main_v89 (F := Ideal) (m ((c : Thread nD τ).loc main_arg1)) (m ((c : Thread nD τ).loc main_arg2)) := by
  refine (dats m 0 c).arrAt_eq_of_covers 9 _ (by decide +kernel) fun t hf y => ?_
  have e := congrFun (DecFound.flushed9 m c t) y
  refine Eq.trans (show _ = (dats m 0 c).flushed 9 t y from rfl) (e.trans ?_)
  have key : ∀ (r : Fin 15) (b : Fin 128) (k : Fin 1024), View.canon (Val := Elt Ideal) (DecFound.keptPieces (rawNew m c t) (rawKept m c t)) (ix3 r b k)
      = Cert.MixRefIdeal.Read.val_main_v89 (F := Ideal) (m ((c : Thread nD τ).loc main_arg1)) (m ((c : Thread nD τ).loc main_arg2)) (ix3 r b k) := fun r b k =>
    (DecMix.kept_at m c t r b k).trans (MixDecRef.kept_read _ _ _ _ _).symm
  have emb : ∀ (r : Fin 15) (b : Fin 128) (k : Fin 1024), ((cfg0.win 9).blk t).view.emb (ix3 r b k) = ix3 r b k := fun r b k => by
    have hi := congrFun (DecMix.idx t).2.2.2.2.2.2.2.2.2
    refine funext fun (ax : Fin 3) => Fin.ext ?_
    match ax with
    | 0 => show win0_9.index t 0 * 15 + 1 * r.val = r.val; rw [hi 0]; show 0 * 15 + _ = _; omega
    | 1 => show win0_9.index t 1 * 128 + 1 * b.val = b.val; rw [hi 1]; show 0 * 128 + _ = _; omega
    | 2 => show win0_9.index t 2 * 1024 + 1 * k.val = k.val; rw [hi 2]; show 0 * 1024 + _ = _; omega
  exact (congrArg (View.canon (Val := Elt Ideal) (DecFound.keptPieces (rawNew m c t) (rawKept m c t))) (eq_ix3 (n0 := 15) (n1 := 128) (n2 := 1024) y)).trans
    ((key (y 0 : Fin 15) (y 1 : Fin 128) (y 2 : Fin 1024)).trans (congrArg (Cert.MixRefIdeal.Read.val_main_v89 (F := Ideal) (m ((c : Thread nD τ).loc main_arg1)) (m ((c : Thread nD τ).loc main_arg2))) ((congrArg _ (eq_ix3 (n0 := 15) (n1 := 128) (n2 := 1024) y)).trans (emb (y 0 : Fin 15) (y 1 : Fin 128) (y 2 : Fin 1024)))).symm)

end Cert.DecArrays

end
-- ==== Proof.lean ====
/- The proof of the stated claims: the frames of the programs, the idealizations, and the equality of each idealized call
   with its reference (of the two mixing calls at finite inputs). The value arguments lie in Proof/Arrays.lean,
   Proof/MlpArrays.lean, Proof/InArrays.lean and Proof/DecArrays.lean and the modules below them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.KernelIdeal.Value
public import proofs.«01_k».proof.Proof.Gen.ReferenceIdeal.Run
public import proofs.«01_k».proof.Proof.Gen.ReferenceIdeal.Read
public import proofs.«01_k».proof.Proof.Arrays
public import proofs.«01_k».proof.Proof.Finite
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.MlpArrays
public import proofs.«01_k».proof.Proof.MlpFrames
public import proofs.«01_k».proof.Proof.Gen.MlpRefIdeal.Run
public import proofs.«01_k».proof.Proof.Gen.MlpRefIdeal.Read
public import proofs.«01_k».proof.Proof.Gen.InP
public import proofs.«01_k».proof.Proof.Gen.InP.Skeleton
public import proofs.«01_k».proof.Proof.Gen.InP.Launch
public import proofs.«01_k».proof.Proof.Gen.InP.Points
public import proofs.«01_k».proof.Proof.Gen.InP.Frame
public import proofs.«01_k».proof.Proof.Gen.InPIdeal
public import proofs.«01_k».proof.Proof.Gen.InPIdeal.Skeleton
public import proofs.«01_k».proof.Proof.Gen.InPIdeal.Launch
public import proofs.«01_k».proof.Proof.Gen.InPIdeal.Points
public import proofs.«01_k».proof.Proof.Gen.InPIdeal.Frame
public import proofs.«01_k».proof.Proof.Gen.InRefIdeal
public import proofs.«01_k».proof.Proof.InArrays
public import proofs.«01_k».proof.Proof.InFrames
public import proofs.«01_k».proof.Proof.Gen.InRefIdeal.Run
public import proofs.«01_k».proof.Proof.Gen.InRefIdeal.Read
public import Idealize.ShloMosaic.Lib.Quiescent
public import proofs.«01_k».proof.Proof.Gen.MixS
public import proofs.«01_k».proof.Proof.Gen.MixS.Skeleton
public import proofs.«01_k».proof.Proof.Gen.MixS.Launch
public import proofs.«01_k».proof.Proof.Gen.MixS.Points
public import proofs.«01_k».proof.Proof.Gen.MixS.Frame
public import proofs.«01_k».proof.Proof.Gen.MixSIdeal
public import proofs.«01_k».proof.Proof.Gen.MixSIdeal.Skeleton
public import proofs.«01_k».proof.Proof.Gen.MixSIdeal.Launch
public import proofs.«01_k».proof.Proof.Gen.MixSIdeal.Points
public import proofs.«01_k».proof.Proof.Gen.MixSIdeal.Frame
public import proofs.«01_k».proof.Proof.Gen.MixRefIdeal
public import proofs.«01_k».proof.Proof.Gen.Pre_finite_pool
public import proofs.«01_k».proof.Proof.Gen.MixSIdeal.Value
public import proofs.«01_k».proof.Proof.DecArrays
public import proofs.«01_k».proof.Proof.Gen.MixRefIdeal.Run
public import proofs.«01_k».proof.Proof.Gen.MixRefIdeal.Read
public import Idealize.ShloMosaic.Adequacy
public import Idealize.ShloMosaic.Init

@[expose] public section

noncomputable section

namespace Cert.Proof

open Idealize.ShloMosaic Idealize.SL.Sem

/-- The reference runs, keeps its arguments, and has no semaphore that could be left standing. -/
theorem reference_runs : Cert.quiescent_ReferenceIdeal (hReferenceIdeal := Cert.ReferenceIdeal.Gen.facts) := fun m g _ =>
  (θ_run Cert.ReferenceIdeal.defs _ _).mono (fun r h => ⟨fun c => (h c).2.2.2.2, sem_eq_zero_of_no_sems (by decide) r.2⟩)
    (Cert.ReferenceIdeal.Value.run (F := Ideal) m g)

/-- The two programs end with equal results: the four arrays the kernel's pipeline leaves are the reference's four terms. -/
theorem equal_results : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hp hargs
  refine ⟨_, _, _, _, Cert.KernelIdeal.Value.run_blocks (F := Ideal) m g, ?_⟩
  refine (θ_run Cert.ReferenceIdeal.defs _ _).mono (fun r h c => ?_) (Cert.ReferenceIdeal.Value.run (F := Ideal) m' g')
  obtain ⟨hu, hx, hs, hw⟩ := Cert.Finite.reals (hp c)
  have hf : Cert.GridTok.Finite m c := ⟨hx, hs, hw⟩
  obtain ⟨e0, e1, e2, e3, e4, e5, e6, e7, e8, e9, e10, e11, e12⟩ := hargs c
  obtain ⟨r0, r1, r2, r3, rest⟩ := h c
  refine ⟨(r0.trans (Cert.ReferenceIdeal.Read.val_main_v87_eq _)).trans (Eq.trans ?_ (Cert.Arrays.mixed_rows hu).symm),
    (r1.trans (Cert.ReferenceIdeal.Read.val_main_v186_eq _)).trans (Eq.trans ?_ (Cert.Arrays.token_outputs hf).symm),
    (r2.trans (Cert.ReferenceIdeal.Read.val_main_v168_eq _)).trans (Eq.trans ?_ (Cert.Arrays.token_states hf).symm),
    (r3.trans (Cert.ReferenceIdeal.Read.val_main_v187_eq _)).trans (Eq.trans ?_ Cert.Arrays.token_history.symm), rest⟩
  · exact e0 ▸ e1 ▸ e2 ▸ e3 ▸ e4 ▸ e5 ▸ e6 ▸ rfl
  · exact e7 ▸ e8 ▸ e9 ▸ e10 ▸ e11 ▸ e12 ▸ rfl
  · exact e7 ▸ e8 ▸ e9 ▸ e10 ▸ e12 ▸ rfl
  · exact e7 ▸ e8 ▸ rfl

/-- The channel mixer's reference runs, keeps its arguments, and has no semaphore that could be left standing. -/
theorem mlp_reference_runs : Cert.quiescent_MlpRefIdeal (hMlpRefIdeal := Cert.MlpRefIdeal.Gen.facts) := fun m g _ =>
  (θ_run Cert.MlpRefIdeal.defs _ _).mono (fun r h => ⟨fun c => (h c).2.2, sem_eq_zero_of_no_sems (by decide) r.2⟩)
    (Cert.MlpRefIdeal.Value.run (F := Ideal) m g)

/-- The channel mixer's call and its reference end with equal results: the mixed rows and the mixed extra rows. -/
theorem mlp_equal_results : Cert.algebraic_MlpIdeal_MlpRefIdeal (hMlpIdeal := Cert.MlpIdeal.Gen.facts)
    (hMlpRefIdeal := Cert.MlpRefIdeal.Gen.facts) := by
  intro m g m' g' _ hargs
  refine ⟨_, _, (θ_run Cert.MlpIdeal.defs _ _).mono (fun r h => h.1) (Cert.MlpIdeal.Gen.runs (F := Ideal) m g), ?_⟩
  refine (θ_run Cert.MlpRefIdeal.defs _ _).mono (fun r h c => ?_) (Cert.MlpRefIdeal.Value.run (F := Ideal) m' g')
  obtain ⟨e0, e1, e2, e3, e4, e5⟩ := hargs c
  obtain ⟨r0, r1, rest⟩ := h c
  refine ⟨(r0.trans (Cert.MlpRefIdeal.Read.val_main_v30_eq _ _)).trans (Eq.trans ?_ (Cert.MlpArrays.rows_array m c).symm),
    (r1.trans (Cert.MlpRefIdeal.Read.val_main_v59_eq _ _)).trans (Eq.trans ?_ (Cert.MlpArrays.extra_array m c).symm), rest⟩
  · exact e0 ▸ e1 ▸ e2 ▸ e3 ▸ e4 ▸ rfl
  · exact e1 ▸ e2 ▸ e3 ▸ e4 ▸ e5 ▸ rfl

/-- The projection's reference runs, keeps its arguments, and has no semaphore that could be left standing. -/
theorem in_reference_runs : Cert.quiescent_InRefIdeal (hInRefIdeal := Cert.InRefIdeal.Gen.facts) := fun m g _ =>
  (θ_run Cert.InRefIdeal.defs _ _).mono (fun r h => ⟨fun c => (h c).2.2.2.2.2, sem_eq_zero_of_no_sems (by decide) r.2⟩)
    (Cert.InRefIdeal.Value.run (F := Ideal) m g)

/-- The projection's call and its reference end with equal results: the two projections, the gates, and the rows kept for the states. -/
theorem in_equal_results : Cert.algebraic_InPIdeal_InRefIdeal (hInPIdeal := Cert.InPIdeal.Gen.facts)
    (hInRefIdeal := Cert.InRefIdeal.Gen.facts) := by
  intro m g m' g' _ hargs
  refine ⟨_, _, _, _, _, (θ_run Cert.InPIdeal.defs _ _).mono (fun r h => h.1) (Cert.InPIdeal.Gen.runs (F := Ideal) m g), ?_⟩
  refine (θ_run Cert.InRefIdeal.defs _ _).mono (fun r h c => ?_) (Cert.InRefIdeal.Value.run (F := Ideal) m' g')
  obtain ⟨e0, e1, e2, e3, e4, e5, e6⟩ := hargs c
  obtain ⟨r0, r1, r2, r3, r4, rest⟩ := h c
  refine ⟨(r0.trans (Cert.InRefIdeal.Read.val_main_v13_eq _ _ _)).trans (Eq.trans ?_ (Cert.InArrays.proj_array m c).symm),
    (r1.trans (Cert.InRefIdeal.Read.val_main_v15_eq _ _ _)).trans (Eq.trans ?_ (Cert.InArrays.tail_array m c).symm),
    (r2.trans (Cert.InRefIdeal.Read.val_main_v39_eq _ _)).trans (Eq.trans ?_ (Cert.InArrays.gates_result m c).symm),
    (r3.trans (Cert.InRefIdeal.Read.val_main_v36_eq _ _ _)).trans (Eq.trans ?_ (Cert.InArrays.conv_result m c).symm),
    (r4.trans (Cert.InRefIdeal.Read.val_main_v38_eq _ _ _)).trans (Eq.trans ?_ (Cert.InArrays.pool_result m c).symm), rest⟩
  · exact e0 ▸ e1 ▸ e2 ▸ rfl
  · exact e0 ▸ e1 ▸ e3 ▸ rfl
  · exact e0 ▸ e1 ▸ e4 ▸ e5 ▸ e6 ▸ rfl
  · exact e0 ▸ e1 ▸ e2 ▸ rfl
  · exact e0 ▸ e1 ▸ e3 ▸ rfl

/-- The reference of the new rows' mixing call runs, keeps its arguments, and has no semaphore that could be left standing. -/
theorem dec_reference_runs : Cert.quiescent_MixRefIdeal (hMixRefIdeal := Cert.MixRefIdeal.Gen.facts) := fun m g _ =>
  (θ_run Cert.MixRefIdeal.defs _ _).mono (fun r h => ⟨fun c => (h c).2.2, sem_eq_zero_of_no_sems (by decide) r.2⟩)
    (Cert.MixRefIdeal.Value.run (F := Ideal) m g)

/-- The new rows' mixing call and its reference end with equal results: the mixed rows and the rows kept for the next token. -/
theorem dec_equal_results : Cert.algebraic_MixSIdeal_MixRefIdeal_pre_finite_pool (hMixSIdeal := Cert.MixSIdeal.Gen.facts)
    (hMixRefIdeal := Cert.MixRefIdeal.Gen.facts) (hPre_finite_pool := Cert.Pre_finite_pool.Gen.facts) := by
  intro m g m' g' hp hargs
  refine ⟨_, _, Cert.MixSIdeal.Value.run_blocks (F := Ideal) m g, ?_⟩
  refine (θ_run Cert.MixRefIdeal.defs _ _).mono (fun r h c => ?_) (Cert.MixRefIdeal.Value.run (F := Ideal) m' g')
  obtain ⟨hu, hh⟩ := Cert.DecArrays.reals (hp c)
  obtain ⟨e0, e1, e2, e3, e4, e5, e6, e7⟩ := hargs c
  obtain ⟨r0, r1, rest⟩ := h c
  refine ⟨(r0.trans (Cert.MixRefIdeal.Read.val_main_v87_eq _ _)).trans (Eq.trans ?_ (Cert.DecArrays.mixed_rows m c hu hh).symm),
    (r1.trans (Cert.MixRefIdeal.Read.val_main_v89_eq _ _)).trans (Eq.trans ?_ (Cert.DecArrays.kept_rows m c).symm), rest⟩
  · exact e0 ▸ e1 ▸ e2 ▸ e3 ▸ e4 ▸ e5 ▸ e6 ▸ e7 ▸ rfl
  · exact e1 ▸ e2 ▸ rfl

theorem claim : Cert.Claim := ⟨Cert.Kernel.Gen.facts, Cert.KernelIdeal.Gen.facts, Cert.ReferenceIdeal.Gen.facts,
  Cert.Mlp.Gen.facts, Cert.MlpIdeal.Gen.facts, Cert.MlpRefIdeal.Gen.facts,
  Cert.InP.Gen.facts, Cert.InPIdeal.Gen.facts, Cert.InRefIdeal.Gen.facts,
  Cert.MixS.Gen.facts, Cert.MixSIdeal.Gen.facts, Cert.MixRefIdeal.Gen.facts, Cert.Pre_finite_inputs.Gen.facts, Cert.Pre_finite_pool.Gen.facts,
  fun m g _ => Cert.Kernel.Gen.frame m g, fun m g _ => Cert.KernelIdeal.Gen.frame m g, fun m g _ => Cert.KernelIdeal.Gen.frame m g,
  reference_runs, fun m g _ => reference_runs m g trivial,
  fun m g _ => Cert.MlpBits.keeps m g, fun m g _ => Cert.MlpIdeal.Gen.keeps m g, mlp_reference_runs,
  fun m g _ => Cert.InBits.keeps m g, fun m g _ => Cert.InPIdeal.Gen.keeps m g, in_reference_runs,
  fun m g _ => Cert.MixS.Gen.frame m g, fun m g _ => Cert.MixSIdeal.Gen.frame m g, fun m g _ => Cert.MixSIdeal.Gen.frame m g,
  dec_reference_runs, fun m g _ => dec_reference_runs m g trivial,
  trivial, equal_results, trivial, mlp_equal_results, trivial, in_equal_results, trivial, dec_equal_results⟩

end Cert.Proof

end
